-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lb_finite [hPre_lb_finite : Cert.Pre_lb_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lb_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lb_finite [hPre_lb_finite : Cert.Pre_lb_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lb_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lb_finite [hKernelIdeal : Cert.KernelIdeal.Facts] [hPre_lb_finite : Cert.Pre_lb_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lb_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lb_finite [hReferenceIdeal : Cert.ReferenceIdeal.Facts] [hPre_lb_finite : Cert.Pre_lb_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lb_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_lb_finite [hKernelIdeal : Cert.KernelIdeal.Facts] [hReferenceIdeal : Cert.ReferenceIdeal.Facts] [hPre_lb_finite : Cert.Pre_lb_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lb_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_lb_finite : Cert.Pre_lb_finite.Facts),
    quiescent_Kernel (hKernel := hKernel)
    ∧ quiescent_KernelIdeal (hKernelIdeal := hKernelIdeal)
    ∧ quiescent_KernelIdeal_pre_lb_finite (hKernelIdeal := hKernelIdeal) (hPre_lb_finite := hPre_lb_finite)
    ∧ quiescent_ReferenceIdeal (hReferenceIdeal := hReferenceIdeal)
    ∧ quiescent_ReferenceIdeal_pre_lb_finite (hReferenceIdeal := hReferenceIdeal) (hPre_lb_finite := hPre_lb_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_lb_finite (hKernelIdeal := hKernelIdeal) (hReferenceIdeal := hReferenceIdeal) (hPre_lb_finite := hPre_lb_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_lb_finite.lean ====
abbrev S8x4096x5120 : Shape := ⟨3, ![8, 4096, 5120]⟩
abbrev S8x256x1536 : Shape := ⟨3, ![8, 256, 1536]⟩
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S8x4096x5120 .f32) (main_arg1 : FVec F S8x256x1536 .f32) (main_arg2 : FVec F S2x512 .f32) (main_arg3 : FVec F S2x512 .f32) : IVec S_ 1 :=
  let main_v0 : FVec F S2x512 .f32 := Host.absf main_arg2
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S2x512 .f32 := Host.absf main_arg3
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Kernel.lean ====
abbrev S8x4096x5120 : Shape := ⟨3, ![8, 4096, 5120]⟩
abbrev S8x256x1536 : Shape := ⟨3, ![8, 256, 1536]⟩
abbrev S2x512 : Shape := ⟨2, ![2, 512]⟩
abbrev S_ : Shape := ⟨0, ![]⟩
abbrev S512 : Shape := ⟨1, ![512]⟩
abbrev S1x512 : Shape := ⟨2, ![1, 512]⟩
abbrev S8x4096x512 : Shape := ⟨3, ![8, 4096, 512]⟩
abbrev S1x512x128 : Shape := ⟨3, ![1, 512, 128]⟩
abbrev S1x256x128 : Shape := ⟨3, ![1, 256, 128]⟩
abbrev S1x128 : Shape := ⟨2, ![1, 128]⟩
abbrev S128x128 : Shape := ⟨2, ![128, 128]⟩
abbrev S64x64 : Shape := ⟨2, ![64, 64]⟩
abbrev S1x64x128 : Shape := ⟨3, ![1, 64, 128]⟩
abbrev S64x128 : Shape := ⟨2, ![64, 128]⟩
abbrev S128x64 : Shape := ⟨2, ![128, 64]⟩

abbrev nBuf : Space → Nat
  | .hbm => 46
  | .vmem => 28
  | .smem => 0
  | _ => 0

abbrev bufTy : (tb : Table) → Fin (tcTables nBuf tb) → BufTy
  | .hbm, ⟨0, _⟩ => ⟨S8x4096x5120, .f32⟩
  | .hbm, ⟨1, _⟩ => ⟨S8x256x1536, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S512, .f32⟩
  | .hbm, ⟨6, _⟩ => ⟨S_, .f32⟩
  | .hbm, ⟨7, _⟩ => ⟨S512, .f32⟩
  | .hbm, ⟨8, _⟩ => ⟨S512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S2x512, .f32⟩
  | .hbm, ⟨13, _⟩ => ⟨S_, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S_, .f32⟩
  | .hbm, ⟨19, _⟩ => ⟨S_, .f32⟩
  | .hbm, ⟨20, _⟩ => ⟨S2x512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S_, .f32⟩
  | .hbm, ⟨25, _⟩ => ⟨S512, .f32⟩
  | .hbm, ⟨26, _⟩ => ⟨S_, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S2x512, .f32⟩
  | .hbm, ⟨31, _⟩ => ⟨S2x512, .f32⟩
  | .hbm, ⟨32, _⟩ => ⟨S2x512, .f32⟩
  | .hbm, ⟨33, _⟩ => ⟨S_, .f32⟩
  | .hbm, ⟨34, _⟩ => ⟨S512, .f32⟩
  | .hbm, ⟨35, _⟩ => ⟨S1x512, .f32⟩
  | .hbm, ⟨36, _⟩ => ⟨S2x512, .f32⟩
  | .hbm, ⟨37, _⟩ => ⟨S2x512, .f32⟩
  | .hbm, ⟨38, _⟩ => ⟨S_, .f32⟩
  | .hbm, ⟨39, _⟩ => ⟨S_, .f32⟩
  | .hbm, ⟨40, _⟩ => ⟨S2x512, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S8x4096x512, .f32⟩
  | .hbm, ⟨45, _⟩ => ⟨S8x4096x512, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S128x128, .f32⟩
  | .local _ .vmem, ⟨27, _⟩ => ⟨S128x128, .f32⟩
  | _, _ => ⟨S8x4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_call0_cst : Ref sig .tc := ⟨.hbm, 38, rfl⟩
abbrev main_call1_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 4, 8], ![false, false, false]⟩

@[reducible] def k0_t1_loop : Scf.Loop 32 :=
  let c0_i32_4 : BitVec 32 := 0#32
  let c8_i32 : BitVec 32 := 8#32
  let v17 : BitVec 32 := Scalar.addi c0_i32_4 c8_i32
  let c1_i32 : BitVec 32 := 1#32
  ⟨c0_i32_4, v17, c1_i32⟩
def k0_mult1 (k0_t1 : Fin k0_t1_loop.trips) : BitVec 32 :=
  let c0_i32_4 : BitVec 32 := 0#32
  let c1_i32 : BitVec 32 := 1#32
  let arg18 : BitVec 32 := Scf.iv c0_i32_4 c1_i32 k0_t1
  let c64_i32 : BitVec 32 := 64#32
  let v18 : BitVec 32 := Scalar.muli arg18 c64_i32
  v18
def k0_off1 (k0_t1 : Fin k0_t1_loop.trips) : Fin 3 → Nat :=
  let c0_6 : Index := 0#32
  let c0_i32_4 : BitVec 32 := 0#32
  let c1_i32 : BitVec 32 := 1#32
  let arg18 : BitVec 32 := Scf.iv c0_i32_4 c1_i32 k0_t1
  let c64_i32 : BitVec 32 := 64#32
  let v18 : BitVec 32 := Scalar.muli arg18 c64_i32
  let v19 : BitVec 32 := v18
  let v20 : Index := Scalar.indexCast v19
  let c0_7 : Index := 0#32
  ![0, v20.toNat, 0]
def k0_mult2 (k0_t1 : Fin k0_t1_loop.trips) : BitVec 32 :=
  let c7_i32 : BitVec 32 := 7#32
  let c0_i32_4 : BitVec 32 := 0#32
  let c1_i32 : BitVec 32 := 1#32
  let arg18 : BitVec 32 := Scf.iv c0_i32_4 c1_i32 k0_t1
  let v100 : BitVec 32 := Scalar.subi c7_i32 arg18
  let c64_i32_31 : BitVec 32 := 64#32
  let v101 : BitVec 32 := Scalar.muli v100 c64_i32_31
  v101
def k0_off2 (k0_t1 : Fin k0_t1_loop.trips) : Fin 3 → Nat :=
  let c0_32 : Index := 0#32
  let c7_i32 : BitVec 32 := 7#32
  let c0_i32_4 : BitVec 32 := 0#32
  let c1_i32 : BitVec 32 := 1#32
  let arg18 : BitVec 32 := Scf.iv c0_i32_4 c1_i32 k0_t1
  let v100 : BitVec 32 := Scalar.subi c7_i32 arg18
  let c64_i32_31 : BitVec 32 := 64#32
  let v101 : BitVec 32 := Scalar.muli v100 c64_i32_31
  let v102 : BitVec 32 := v101
  let v103 : Index := Scalar.indexCast v102
  let c0_33 : Index := 0#32
  ![0, v103.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  let v1 : BitVec 32 := Scalar.addi c0_i32 arg1
  let c0_i32_0 : BitVec 32 := 0#32
  ![arg0.toNat, v0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c8_i32 : BitVec 32 := 8#32
  let v1 : BitVec 32 := Scalar.addi c8_i32 arg1
  let c0_i32 : BitVec 32 := 0#32
  ![arg0.toNat, v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c12_i32 : BitVec 32 := 12#32
  let v1 : BitVec 32 := Scalar.addi c12_i32 arg1
  let c0_i32 : BitVec 32 := 0#32
  ![arg0.toNat, v0.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  ![arg0.toNat, v0.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S8x4096x5120 : Shape := ⟨3, ![8, 4096, 5120]⟩
abbrev S8x256x1536 : Shape := ⟨3, ![8, 256, 1536]⟩
abbrev S2x512 : Shape := ⟨2, ![2, 512]⟩
abbrev S_ : Shape := ⟨0, ![]⟩
abbrev S512 : Shape := ⟨1, ![512]⟩
abbrev S1x512 : Shape := ⟨2, ![1, 512]⟩
abbrev S4x1x128 : Shape := ⟨3, ![4, 1, 128]⟩
abbrev S8x256x512 : Shape := ⟨3, ![8, 256, 512]⟩
abbrev S8x256x4x128 : Shape := ⟨4, ![8, 256, 4, 128]⟩
abbrev S8x4x256x128 : Shape := ⟨4, ![8, 4, 256, 128]⟩
abbrev S1x4x1x128 : Shape := ⟨4, ![1, 4, 1, 128]⟩
abbrev S8x4x1x128 : Shape := ⟨4, ![8, 4, 1, 128]⟩
abbrev S8x4x128x128 : Shape := ⟨4, ![8, 4, 128, 128]⟩
abbrev S8x4096x2048 : Shape := ⟨3, ![8, 4096, 2048]⟩
abbrev S8x4096x512 : Shape := ⟨3, ![8, 4096, 512]⟩
abbrev S8x4096x4x128 : Shape := ⟨4, ![8, 4096, 4, 128]⟩
abbrev S8x4x4096x128 : Shape := ⟨4, ![8, 4, 4096, 128]⟩
abbrev S16x4x4096x128 : Shape := ⟨4, ![16, 4, 4096, 128]⟩
abbrev S16x4x128x128 : Shape := ⟨4, ![16, 4, 128, 128]⟩
abbrev S16x4x64x64x128 : Shape := ⟨5, ![16, 4, 64, 64, 128]⟩
abbrev S16x4x64x1x128 : Shape := ⟨5, ![16, 4, 64, 1, 128]⟩
abbrev S16x4x64x64x64 : Shape := ⟨5, ![16, 4, 64, 64, 64]⟩
abbrev S64x64 : Shape := ⟨2, ![64, 64]⟩
abbrev S16x4x64x128 : Shape := ⟨4, ![16, 4, 64, 128]⟩
abbrev S64x16x4x64x128 : Shape := ⟨5, ![64, 16, 4, 64, 128]⟩
abbrev S64x16x4x128 : Shape := ⟨4, ![64, 16, 4, 128]⟩
abbrev S1x16x4x64x128 : Shape := ⟨5, ![1, 16, 4, 64, 128]⟩
abbrev S1x16x4x128 : Shape := ⟨4, ![1, 16, 4, 128]⟩
abbrev S16x4x128 : Shape := ⟨3, ![16, 4, 128]⟩
abbrev S16x4x128x1 : Shape := ⟨4, ![16, 4, 128, 1]⟩

abbrev nBuf : Space → Nat
  | .hbm => 290
  | .vmem => 0
  | .smem => 0
  | _ => 0

abbrev hbmTy0_0 (i : Nat) : BufTy := match i % 128 with
  | 0 => ⟨S8x4096x5120, .f32⟩
  | 1 => ⟨S8x256x1536, .f32⟩
  | 2 => ⟨S2x512, .f32⟩
  | 3 => ⟨S2x512, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S_, .f32⟩
  | 22 => ⟨S512, .f32⟩
  | 23 => ⟨S_, .f32⟩
  | 24 => ⟨S512, .f32⟩
  | 25 => ⟨S512, .f32⟩
  | 26 => ⟨S1x512, .f32⟩
  | 27 => ⟨S2x512, .f32⟩
  | 28 => ⟨S2x512, .f32⟩
  | 29 => ⟨S2x512, .f32⟩
  | 30 => ⟨S_, .f32⟩
  | 31 => ⟨S512, .f32⟩
  | 32 => ⟨S1x512, .f32⟩
  | 33 => ⟨S2x512, .f32⟩
  | 34 => ⟨S2x512, .f32⟩
  | 35 => ⟨S_, .f32⟩
  | 36 => ⟨S_, .f32⟩
  | 37 => ⟨S2x512, .f32⟩
  | 38 => ⟨S1x512, .f32⟩
  | 39 => ⟨S512, .f32⟩
  | 40 => ⟨S4x1x128, .f32⟩
  | 41 => ⟨S1x512, .f32⟩
  | 42 => ⟨S512, .f32⟩
  | 43 => ⟨S4x1x128, .f32⟩
  | 44 => ⟨S8x256x512, .f32⟩
  | 45 => ⟨S8x256x512, .f32⟩
  | 46 => ⟨S8x256x512, .f32⟩
  | 47 => ⟨S8x256x4x128, .f32⟩
  | 48 => ⟨S8x4x256x128, .f32⟩
  | 49 => ⟨S_, .f32⟩
  | 50 => ⟨S4x1x128, .f32⟩
  | 51 => ⟨S4x1x128, .f32⟩
  | 52 => ⟨S8x256x4x128, .f32⟩
  | 53 => ⟨S8x4x256x128, .f32⟩
  | 54 => ⟨S8x4x256x128, .f32⟩
  | 55 => ⟨S8x4x256x128, .f32⟩
  | 56 => ⟨S_, .f32⟩
  | 57 => ⟨S8x4x256x128, .f32⟩
  | 58 => ⟨S8x4x256x128, .f32⟩
  | 59 => ⟨S_, .f32⟩
  | 60 => ⟨S8x4x256x128, .f32⟩
  | 61 => ⟨S8x4x256x128, .f32⟩
  | 62 => ⟨S1x4x1x128, .f32⟩
  | 63 => ⟨S8x4x256x128, .f32⟩
  | 64 => ⟨S8x4x256x128, .f32⟩
  | 65 => ⟨S1x4x1x128, .f32⟩
  | 66 => ⟨S8x4x256x128, .f32⟩
  | 67 => ⟨S8x4x256x128, .f32⟩
  | 68 => ⟨S8x4x256x128, .f32⟩
  | 69 => ⟨S_, .f32⟩
  | 70 => ⟨S_, .f32⟩
  | 71 => ⟨S8x4x256x128, .f32⟩
  | 72 => ⟨S_, .f32⟩
  | 73 => ⟨S8x4x256x128, .f32⟩
  | 74 => ⟨S8x4x256x128, .f32⟩
  | 75 => ⟨S8x4x1x128, .f32⟩
  | 76 => ⟨S8x4x256x128, .f32⟩
  | 77 => ⟨S8x4x256x128, .f32⟩
  | 78 => ⟨S8x4x256x128, .f32⟩
  | 79 => ⟨S8x4x256x128, .f32⟩
  | 80 => ⟨S8x4x128x128, .f32⟩
  | 81 => ⟨S_, .f32⟩
  | 82 => ⟨S4x1x128, .f32⟩
  | 83 => ⟨S4x1x128, .f32⟩
  | 84 => ⟨S8x256x4x128, .f32⟩
  | 85 => ⟨S8x4x256x128, .f32⟩
  | 86 => ⟨S8x4x256x128, .f32⟩
  | 87 => ⟨S8x4x256x128, .f32⟩
  | 88 => ⟨S_, .f32⟩
  | 89 => ⟨S8x4x256x128, .f32⟩
  | 90 => ⟨S8x4x256x128, .f32⟩
  | 91 => ⟨S_, .f32⟩
  | 92 => ⟨S8x4x256x128, .f32⟩
  | 93 => ⟨S8x4x256x128, .f32⟩
  | 94 => ⟨S1x4x1x128, .f32⟩
  | 95 => ⟨S8x4x256x128, .f32⟩
  | 96 => ⟨S8x4x256x128, .f32⟩
  | 97 => ⟨S1x4x1x128, .f32⟩
  | 98 => ⟨S8x4x256x128, .f32⟩
  | 99 => ⟨S8x4x256x128, .f32⟩
  | 100 => ⟨S8x4x256x128, .f32⟩
  | 101 => ⟨S8x4x256x128, .f32⟩
  | 102 => ⟨S8x4x256x128, .f32⟩
  | 103 => ⟨S_, .f32⟩
  | 104 => ⟨S_, .f32⟩
  | 105 => ⟨S8x4x256x128, .f32⟩
  | 106 => ⟨S_, .f32⟩
  | 107 => ⟨S8x4x256x128, .f32⟩
  | 108 => ⟨S8x4x256x128, .f32⟩
  | 109 => ⟨S8x4x1x128, .f32⟩
  | 110 => ⟨S8x4x256x128, .f32⟩
  | 111 => ⟨S8x4x256x128, .f32⟩
  | 112 => ⟨S8x4x256x128, .f32⟩
  | 113 => ⟨S8x4x256x128, .f32⟩
  | 114 => ⟨S8x4x128x128, .f32⟩
  | 115 => ⟨S8x4096x2048, .f32⟩
  | 116 => ⟨S8x4096x512, .f32⟩
  | 117 => ⟨S8x4096x512, .f32⟩
  | 118 => ⟨S8x4096x512, .f32⟩
  | 119 => ⟨S8x4096x512, .f32⟩
  | 120 => ⟨S8x4096x4x128, .f32⟩
  | 121 => ⟨S8x4x4096x128, .f32⟩
  | 122 => ⟨S8x4096x4x128, .f32⟩
  | 123 => ⟨S8x4x4096x128, .f32⟩
  | 124 => ⟨S8x4x4096x128, .f32⟩
  | 125 => ⟨S16x4x4096x128, .f32⟩
  | 126 => ⟨S_, .f32⟩
  | 127 => ⟨S4x1x128, .f32⟩
  | _ => ⟨S8x4096x5120, .f32⟩

abbrev hbmTy0_1 (i : Nat) : BufTy := match i % 128 with
  | 0 => ⟨S4x1x128, .f32⟩
  | 1 => ⟨S8x4096x4x128, .f32⟩
  | 2 => ⟨S8x4x4096x128, .f32⟩
  | 3 => ⟨S8x4x4096x128, .f32⟩
  | 4 => ⟨S8x4x4096x128, .f32⟩
  | 5 => ⟨S_, .f32⟩
  | 6 => ⟨S8x4x4096x128, .f32⟩
  | 7 => ⟨S8x4x4096x128, .f32⟩
  | 8 => ⟨S_, .f32⟩
  | 9 => ⟨S8x4x4096x128, .f32⟩
  | 10 => ⟨S8x4x4096x128, .f32⟩
  | 11 => ⟨S1x4x1x128, .f32⟩
  | 12 => ⟨S8x4x4096x128, .f32⟩
  | 13 => ⟨S8x4x4096x128, .f32⟩
  | 14 => ⟨S1x4x1x128, .f32⟩
  | 15 => ⟨S8x4x4096x128, .f32⟩
  | 16 => ⟨S8x4x4096x128, .f32⟩
  | 17 => ⟨S_, .f32⟩
  | 18 => ⟨S4x1x128, .f32⟩
  | 19 => ⟨S4x1x128, .f32⟩
  | 20 => ⟨S8x4096x4x128, .f32⟩
  | 21 => ⟨S8x4x4096x128, .f32⟩
  | 22 => ⟨S8x4x4096x128, .f32⟩
  | 23 => ⟨S8x4x4096x128, .f32⟩
  | 24 => ⟨S_, .f32⟩
  | 25 => ⟨S8x4x4096x128, .f32⟩
  | 26 => ⟨S8x4x4096x128, .f32⟩
  | 27 => ⟨S_, .f32⟩
  | 28 => ⟨S8x4x4096x128, .f32⟩
  | 29 => ⟨S8x4x4096x128, .f32⟩
  | 30 => ⟨S1x4x1x128, .f32⟩
  | 31 => ⟨S8x4x4096x128, .f32⟩
  | 32 => ⟨S8x4x4096x128, .f32⟩
  | 33 => ⟨S1x4x1x128, .f32⟩
  | 34 => ⟨S8x4x4096x128, .f32⟩
  | 35 => ⟨S8x4x4096x128, .f32⟩
  | 36 => ⟨S8x4x4096x128, .f32⟩
  | 37 => ⟨S16x4x4096x128, .f32⟩
  | 38 => ⟨S8x4x4096x128, .f32⟩
  | 39 => ⟨S16x4x4096x128, .f32⟩
  | 40 => ⟨S16x4x128x128, .f32⟩
  | 41 => ⟨S_, .f32⟩
  | 42 => ⟨S16x4x4096x128, .f32⟩
  | 43 => ⟨S16x4x4096x128, .f32⟩
  | 44 => ⟨S16x4x64x64x128, .f32⟩
  | 45 => ⟨S16x4x4096x128, .f32⟩
  | 46 => ⟨S16x4x64x64x128, .f32⟩
  | 47 => ⟨S_, .f32⟩
  | 48 => ⟨S16x4x4096x128, .f32⟩
  | 49 => ⟨S16x4x4096x128, .f32⟩
  | 50 => ⟨S16x4x64x64x128, .f32⟩
  | 51 => ⟨S16x4x64x64x128, .f32⟩
  | 52 => ⟨S_, .f32⟩
  | 53 => ⟨S_, .f32⟩
  | 54 => ⟨S16x4x64x64x128, .f32⟩
  | 55 => ⟨S16x4x64x1x128, .f32⟩
  | 56 => ⟨S16x4x64x1x128, .f32⟩
  | 57 => ⟨S16x4x64x64x128, .f32⟩
  | 58 => ⟨S16x4x64x64x128, .f32⟩
  | 59 => ⟨S16x4x64x64x128, .f32⟩
  | 60 => ⟨S16x4x64x64x128, .f32⟩
  | 61 => ⟨S16x4x64x64x128, .f32⟩
  | 62 => ⟨S16x4x64x64x128, .f32⟩
  | 63 => ⟨S16x4x64x64x128, .f32⟩
  | 64 => ⟨S16x4x64x64x128, .f32⟩
  | 65 => ⟨S16x4x64x64x64, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S_, .f32⟩
  | 78 => ⟨S_, .f32⟩
  | 79 => ⟨S16x4x64x64x64, .i1⟩
  | 80 => ⟨S16x4x64x64x64, .f32⟩
  | 81 => ⟨S16x4x64x64x64, .f32⟩
  | 82 => ⟨S16x4x64x64x128, .f32⟩
  | 83 => ⟨S16x4x64x64x128, .f32⟩
  | 84 => ⟨S16x4x64x64x128, .f32⟩
  | 85 => ⟨S16x4x64x64x128, .f32⟩
  | 86 => ⟨S16x4x64x64x128, .f32⟩
  | 87 => ⟨S16x4x64x64x128, .f32⟩
  | 88 => ⟨S16x4x64x64x128, .f32⟩
  | 89 => ⟨S16x4x64x128, .f32⟩
  | 90 => ⟨S16x4x64x128, .f32⟩
  | 91 => ⟨S64x16x4x64x128, .f32⟩
  | 92 => ⟨S64x16x4x64x128, .f32⟩
  | 93 => ⟨S64x16x4x64x128, .f32⟩
  | 94 => ⟨S64x16x4x128, .f32⟩
  | 95 => ⟨S64x16x4x64x128, .f32⟩
  | 96 => ⟨S_, .f32⟩
  | 97 => ⟨S64x16x4x64x128, .f32⟩
  | 98 => ⟨S_, .i32⟩
  | 99 => ⟨S64x16x4x64x128, .f32⟩
  | 100 => ⟨S64x16x4x64x128, .f32⟩
  | 101 => ⟨S64x16x4x64x128, .f32⟩
  | 102 => ⟨S64x16x4x128, .f32⟩
  | 103 => ⟨S64x16x4x64x128, .f32⟩
  | 104 => ⟨S_, .i32⟩
  | 105 => ⟨S16x4x128x128, .f32⟩
  | 106 => ⟨S64x16x4x64x128, .f32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S1x16x4x64x128, .f32⟩
  | 114 => ⟨S16x4x64x128, .f32⟩
  | 115 => ⟨S_, .i32⟩
  | 116 => ⟨S_, .i32⟩
  | 117 => ⟨S_, .i32⟩
  | 118 => ⟨S_, .i32⟩
  | 119 => ⟨S1x16x4x64x128, .f32⟩
  | 120 => ⟨S16x4x64x128, .f32⟩
  | 121 => ⟨S_, .i32⟩
  | 122 => ⟨S_, .i32⟩
  | 123 => ⟨S_, .i32⟩
  | 124 => ⟨S_, .i32⟩
  | 125 => ⟨S1x16x4x64x128, .f32⟩
  | 126 => ⟨S16x4x64x128, .f32⟩
  | 127 => ⟨S_, .i32⟩
  | _ => ⟨S8x4096x5120, .f32⟩

abbrev hbmTy0_2 (i : Nat) : BufTy := match i % 128 with
  | 0 => ⟨S_, .i32⟩
  | 1 => ⟨S_, .i32⟩
  | 2 => ⟨S1x16x4x128, .f32⟩
  | 3 => ⟨S16x4x128, .f32⟩
  | 4 => ⟨S_, .i32⟩
  | 5 => ⟨S_, .i32⟩
  | 6 => ⟨S_, .i32⟩
  | 7 => ⟨S_, .i32⟩
  | 8 => ⟨S1x16x4x64x128, .f32⟩
  | 9 => ⟨S16x4x64x128, .f32⟩
  | 10 => ⟨S16x4x64x128, .f32⟩
  | 11 => ⟨S16x4x64x128, .f32⟩
  | 12 => ⟨S16x4x128x1, .f32⟩
  | 13 => ⟨S16x4x128x128, .f32⟩
  | 14 => ⟨S16x4x128x128, .f32⟩
  | 15 => ⟨S16x4x128x128, .f32⟩
  | 16 => ⟨S16x4x128x128, .f32⟩
  | 17 => ⟨S1x16x4x64x128, .f32⟩
  | 18 => ⟨S_, .i32⟩
  | 19 => ⟨S_, .i32⟩
  | 20 => ⟨S_, .i32⟩
  | 21 => ⟨S_, .i32⟩
  | 22 => ⟨S64x16x4x64x128, .f32⟩
  | 23 => ⟨S_, .i32⟩
  | 24 => ⟨S_, .i32⟩
  | 25 => ⟨S16x4x64x64x128, .f32⟩
  | 26 => ⟨S16x4x4096x128, .f32⟩
  | 27 => ⟨S8x4x4096x128, .f32⟩
  | 28 => ⟨S8x4x4096x128, .f32⟩
  | 29 => ⟨S8x4x4096x128, .f32⟩
  | 30 => ⟨S8x4096x4x128, .f32⟩
  | 31 => ⟨S8x4096x512, .f32⟩
  | 32 => ⟨S8x4096x4x128, .f32⟩
  | 33 => ⟨S8x4096x512, .f32⟩
  | _ => ⟨S8x4096x5120, .f32⟩

abbrev hbmTy (i : Nat) : BufTy := match i / 128 with
  | 0 => hbmTy0_0 i
  | 1 => hbmTy0_1 i
  | 2 => hbmTy0_2 i
  | _ => ⟨S8x4096x5120, .f32⟩

abbrev bufTy : (tb : Table) → Fin (tcTables nBuf tb) → BufTy
  | .hbm, ⟨i, _⟩ => hbmTy i
  | _, _ => ⟨S8x4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_call0_cst : Ref sig .tc := ⟨.hbm, 35, rfl⟩
abbrev main_call1_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call2_call0_cst : Ref sig .tc := ⟨.hbm, 69, rfl⟩
abbrev main_call2_call0_v0 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_call5_call0_cst : Ref sig .tc := ⟨.hbm, 103, rfl⟩
abbrev main_call5_call0_v0 : Ref sig .tc := ⟨.hbm, 104, rfl⟩
abbrev main_v80 : Ref sig .tc := ⟨.hbm, 105, rfl⟩
abbrev main_cst_12 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_13 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_14 : Ref sig .tc := ⟨.hbm, 133, rfl⟩
abbrev main_v106 : Ref sig .tc := ⟨.hbm, 134, rfl⟩
abbrev main_v107 : Ref sig .tc := ⟨.hbm, 135, rfl⟩
abbrev main_cst_15 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_cst_16 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_17 : Ref sig .tc := ⟨.hbm, 152, rfl⟩
abbrev main_v122 : Ref sig .tc := ⟨.hbm, 153, rfl⟩
abbrev main_v123 : Ref sig .tc := ⟨.hbm, 154, rfl⟩
abbrev main_cst_18 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_cst_19 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_20 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_call9_call0_cst : Ref sig .tc := ⟨.hbm, 180, rfl⟩
abbrev main_call9_call0_v0 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_c : Ref sig .tc := ⟨.hbm, 194, rfl⟩
abbrev main_v158 : Ref sig .tc := ⟨.hbm, 195, rfl⟩
abbrev main_call10_v0 : Ref sig .tc := ⟨.hbm, 196, rfl⟩
abbrev main_call10_c : Ref sig .tc := ⟨.hbm, 197, rfl⟩
abbrev main_call10_v1 : Ref sig .tc := ⟨.hbm, 198, rfl⟩
abbrev main_call10_v2 : Ref sig .tc := ⟨.hbm, 199, rfl⟩
abbrev main_call10_v3 : Ref sig .tc := ⟨.hbm, 200, rfl⟩
abbrev main_call10_v4 : Ref sig .tc := ⟨.hbm, 201, rfl⟩
abbrev main_call10_c_0 : Ref sig .tc := ⟨.hbm, 202, rfl⟩
abbrev main_call10_v5 : Ref sig .tc := ⟨.hbm, 203, rfl⟩
abbrev main_v159 : Ref sig .tc := ⟨.hbm, 204, rfl⟩
abbrev main_cst_21 : Ref sig .tc := ⟨.hbm, 205, rfl⟩
abbrev main_call11_v0 : Ref sig .tc := ⟨.hbm, 206, rfl⟩
abbrev main_call11_v1 : Ref sig .tc := ⟨.hbm, 207, rfl⟩
abbrev main_call11_v2 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_cst_22 : Ref sig .tc := ⟨.hbm, 224, rfl⟩
abbrev main_v175 : Ref sig .tc := ⟨.hbm, 225, rfl⟩
abbrev main_c_23 : Ref sig .tc := ⟨.hbm, 226, rfl⟩
abbrev main_v176_0 : Ref sig .tc := ⟨.hbm, 227, rfl⟩
abbrev main_v176_1 : Ref sig .tc := ⟨.hbm, 228, rfl⟩
abbrev main_v176_2 : Ref sig .tc := ⟨.hbm, 229, rfl⟩
abbrev main_v176_3 : Ref sig .tc := ⟨.hbm, 230, rfl⟩
abbrev main_v176_4 : Ref sig .tc := ⟨.hbm, 231, rfl⟩
abbrev main_v176_5 : Ref sig .tc := ⟨.hbm, 232, rfl⟩
abbrev main_v176_6 : Ref sig .tc := ⟨.hbm, 233, rfl⟩
abbrev main_v176_7 : Ref sig .tc := ⟨.hbm, 234, rfl⟩
abbrev main_while0c_c_31 : Ref sig .tc := ⟨.hbm, 235, rfl⟩
abbrev main_while0c_v186 : Ref sig .tc := ⟨.hbm, 236, rfl⟩
abbrev main_while0b_call12_c : Ref sig .tc := ⟨.hbm, 237, rfl⟩
abbrev main_while0b_call12_c_0 : Ref sig .tc := ⟨.hbm, 238, rfl⟩
abbrev main_while0b_call12_c_1 : Ref sig .tc := ⟨.hbm, 239, rfl⟩
abbrev main_while0b_call12_c_2 : Ref sig .tc := ⟨.hbm, 240, rfl⟩
abbrev main_while0b_call12_v0 : Ref sig .tc := ⟨.hbm, 241, rfl⟩
abbrev main_while0b_v186 : Ref sig .tc := ⟨.hbm, 242, rfl⟩
abbrev main_while0b_call13_c : Ref sig .tc := ⟨.hbm, 243, rfl⟩
abbrev main_while0b_call13_c_0 : Ref sig .tc := ⟨.hbm, 244, rfl⟩
abbrev main_while0b_call13_c_1 : Ref sig .tc := ⟨.hbm, 245, rfl⟩
abbrev main_while0b_call13_c_2 : Ref sig .tc := ⟨.hbm, 246, rfl⟩
abbrev main_while0b_call13_v0 : Ref sig .tc := ⟨.hbm, 247, rfl⟩
abbrev main_while0b_v187 : Ref sig .tc := ⟨.hbm, 248, rfl⟩
abbrev main_while0b_call14_c : Ref sig .tc := ⟨.hbm, 249, rfl⟩
abbrev main_while0b_call14_c_0 : Ref sig .tc := ⟨.hbm, 250, rfl⟩
abbrev main_while0b_call14_c_1 : Ref sig .tc := ⟨.hbm, 251, rfl⟩
abbrev main_while0b_call14_c_2 : Ref sig .tc := ⟨.hbm, 252, rfl⟩
abbrev main_while0b_call14_v0 : Ref sig .tc := ⟨.hbm, 253, rfl⟩
abbrev main_while0b_v188 : Ref sig .tc := ⟨.hbm, 254, rfl⟩
abbrev main_while0b_call15_c : Ref sig .tc := ⟨.hbm, 255, rfl⟩
abbrev main_while0b_call15_c_0 : Ref sig .tc := ⟨.hbm, 256, rfl⟩
abbrev main_while0b_call15_c_1 : Ref sig .tc := ⟨.hbm, 257, rfl⟩
abbrev main_while0b_call15_v0 : Ref sig .tc := ⟨.hbm, 258, rfl⟩
abbrev main_while0b_v189 : Ref sig .tc := ⟨.hbm, 259, rfl⟩
abbrev main_while0b_call16_c : Ref sig .tc := ⟨.hbm, 260, rfl⟩
abbrev main_while0b_call16_c_0 : Ref sig .tc := ⟨.hbm, 261, rfl⟩
abbrev main_while0b_call16_c_1 : Ref sig .tc := ⟨.hbm, 262, rfl⟩
abbrev main_while0b_call16_c_2 : Ref sig .tc := ⟨.hbm, 263, rfl⟩
abbrev main_while0b_call16_v0 : Ref sig .tc := ⟨.hbm, 264, rfl⟩
abbrev main_while0b_v190 : Ref sig .tc := ⟨.hbm, 265, rfl⟩
abbrev main_while0b_v191 : Ref sig .tc := ⟨.hbm, 266, rfl⟩
abbrev main_while0b_v192 : Ref sig .tc := ⟨.hbm, 267, rfl⟩
abbrev main_while0b_v193 : Ref sig .tc := ⟨.hbm, 268, rfl⟩
abbrev main_while0b_v194 : Ref sig .tc := ⟨.hbm, 269, rfl⟩
abbrev main_while0b_v195 : Ref sig .tc := ⟨.hbm, 270, rfl⟩
abbrev main_while0b_v196 : Ref sig .tc := ⟨.hbm, 271, rfl⟩
abbrev main_while0b_v197 : Ref sig .tc := ⟨.hbm, 272, rfl⟩
abbrev main_while0b_call17_v0 : Ref sig .tc := ⟨.hbm, 273, rfl⟩
abbrev main_while0b_call17_c : Ref sig .tc := ⟨.hbm, 274, rfl⟩
abbrev main_while0b_call17_c_0 : Ref sig .tc := ⟨.hbm, 275, rfl⟩
abbrev main_while0b_call17_c_1 : Ref sig .tc := ⟨.hbm, 276, rfl⟩
abbrev main_while0b_call17_c_2 : Ref sig .tc := ⟨.hbm, 277, rfl⟩
abbrev main_while0b_v198 : Ref sig .tc := ⟨.hbm, 278, rfl⟩
abbrev main_while0b_c_31 : Ref sig .tc := ⟨.hbm, 279, rfl⟩
abbrev main_while0b_v199 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x5120 : Shape := ⟨3, ![1, 1024, 5120]⟩
abbrev S1024 : Shape := ⟨1, ![1024]⟩
abbrev S1024x5120 : Shape := ⟨2, ![1024, 5120]⟩
abbrev S8x4096x5120 : Shape := ⟨3, ![8, 4096, 5120]⟩
abbrev S1x256x1024 : Shape := ⟨3, ![1, 256, 1024]⟩
abbrev S1x1x1024 : Shape := ⟨3, ![1, 1, 1024]⟩
abbrev S1x256x5120 : Shape := ⟨3, ![1, 256, 5120]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 10
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x5120, .f32⟩
  | .hbm, ⟨5, _⟩ => ⟨S1024, .f32⟩
  | .hbm, ⟨6, _⟩ => ⟨S1x1024, .f32⟩
  | .hbm, ⟨7, _⟩ => ⟨S1024x5120, .f32⟩
  | .hbm, ⟨8, _⟩ => ⟨S1024x5120, .bf16⟩
  | .hbm, ⟨9, _⟩ => ⟨S8x4096x5120, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5120, .bf16⟩
  | .local _ .vmem, ⟨8, _⟩ => ⟨S1x256x5120, .f32⟩
  | .local _ .vmem, ⟨9, _⟩ => ⟨S1x256x5120, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x4096x1024 : Shape := ⟨3, ![8, 4096, 1024]⟩
abbrev S8x1x1024 : Shape := ⟨3, ![8, 1, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5120 : Shape := ⟨2, ![1024, 5120]⟩
abbrev S8x4096x5120 : Shape := ⟨3, ![8, 4096, 5120]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x5120, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S1024x5120, .f32⟩
  | .hbm, ⟨30, _⟩ => ⟨S8x4096x5120, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel3.lean ====
abbrev S8x4096x512 : Shape := ⟨3, ![8, 4096, 512]⟩
abbrev S8x4096x5120 : Shape := ⟨3, ![8, 4096, 5120]⟩
abbrev S4096x4096 : Shape := ⟨2, ![4096, 4096]⟩
abbrev S8x4096x1024 : Shape := ⟨3, ![8, 4096, 1024]⟩
abbrev S8x1x1024 : Shape := ⟨3, ![8, 1, 1024]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4x128 : Shape := ⟨2, ![4, 128]⟩
abbrev S1x512 : Shape := ⟨2, ![1, 512]⟩
abbrev S512x1024 : Shape := ⟨2, ![512, 1024]⟩
abbrev S1024x1024 : Shape := ⟨2, ![1024, 1024]⟩
abbrev S1x512x512 : Shape := ⟨3, ![1, 512, 512]⟩
abbrev S512x512 : Shape := ⟨2, ![512, 512]⟩
abbrev S1x1x1024 : Shape := ⟨3, ![1, 1, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x1024 : Shape := ⟨2, ![1, 1024]⟩

abbrev nBuf : Space → Nat
  | .hbm => 19
  | .vmem => 22
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x5120, .f32⟩
  | .hbm, ⟨3, _⟩ => ⟨S4096x4096, .bf16⟩
  | .hbm, ⟨4, _⟩ => ⟨S8x4096x1024, .f32⟩
  | .hbm, ⟨5, _⟩ => ⟨S8x1x1024, .f32⟩
  | .hbm, ⟨6, _⟩ => ⟨S1x4x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S4x128, .f32⟩
  | .hbm, ⟨11, _⟩ => ⟨S1x512, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S8x4096x1024, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x512, .bf16⟩
  | .local _ .vmem, ⟨11, _⟩ => ⟨S512x512, .bf16⟩
  | .local _ .vmem, ⟨12, _⟩ => ⟨S1x512x1024, .f32⟩
  | .local _ .vmem, ⟨13, _⟩ => ⟨S1x512x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x512x1024, .f32⟩
  | .local _ .vmem, ⟨21, _⟩ => ⟨S1x512x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x512 : Shape := ⟨3, ![8, 4096, 512]⟩
abbrev S8x4096x5120 : Shape := ⟨3, ![8, 4096, 5120]⟩
abbrev S4096x4096 : Shape := ⟨2, ![4096, 4096]⟩
abbrev S8x4096x1024 : Shape := ⟨3, ![8, 4096, 1024]⟩
abbrev S8x1x1024 : Shape := ⟨3, ![8, 1, 1024]⟩
abbrev S1x4x128 : Shape := ⟨3, ![1, 4, 128]⟩
abbrev S1x512x1024 : Shape := ⟨3, ![1, 512, 1024]⟩
abbrev S1x1024x1024 : Shape := ⟨3, ![1, 1024, 1024]⟩
abbrev S4096x8x512 : Shape := ⟨3, ![4096, 8, 512]⟩
abbrev S8x4096x4x128 : Shape := ⟨4, ![8, 4096, 4, 128]⟩
abbrev S8x4x4096x128 : Shape := ⟨4, ![8, 4, 4096, 128]⟩
abbrev S4x128 : Shape := ⟨2, ![4, 128]⟩
abbrev S512x1024 : Shape := ⟨2, ![512, 1024]⟩
abbrev S1024x1024 : Shape := ⟨2, ![1024, 1024]⟩
abbrev S_ : Shape := ⟨0, ![]⟩
abbrev S8x4x4096 : Shape := ⟨3, ![8, 4, 4096]⟩
abbrev S8x4x4096x1 : Shape := ⟨4, ![8, 4, 4096, 1]⟩
abbrev S4x1x128 : Shape := ⟨3, ![4, 1, 128]⟩
abbrev S1x4x1x128 : Shape := ⟨4, ![1, 4, 1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x5120, .f32⟩
  | .hbm, ⟨3, _⟩ => ⟨S4096x4096, .bf16⟩
  | .hbm, ⟨4, _⟩ => ⟨S8x4096x1024, .f32⟩
  | .hbm, ⟨5, _⟩ => ⟨S8x1x1024, .f32⟩
  | .hbm, ⟨6, _⟩ => ⟨S1x4x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S4096x4096, .f32⟩
  | .hbm, ⟨11, _⟩ => ⟨S4096x8x512, .f32⟩
  | .hbm, ⟨12, _⟩ => ⟨S8x4096x512, .f32⟩
  | .hbm, ⟨13, _⟩ => ⟨S8x4096x512, .f32⟩
  | .hbm, ⟨14, _⟩ => ⟨S8x4096x512, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x1024, .f32⟩
  | .hbm, ⟨20, _⟩ => ⟨S8x4096x1024, .f32⟩
  | .hbm, ⟨21, _⟩ => ⟨S8x4096x4x128, .f32⟩
  | .hbm, ⟨22, _⟩ => ⟨S8x4x4096x128, .f32⟩
  | .hbm, ⟨23, _⟩ => ⟨S8x4096x4x128, .f32⟩
  | .hbm, ⟨24, _⟩ => ⟨S8x4x4096x128, .f32⟩
  | .hbm, ⟨25, _⟩ => ⟨S8x4x4096x128, .f32⟩
  | .hbm, ⟨26, _⟩ => ⟨S4x128, .f32⟩
  | .hbm, ⟨27, _⟩ => ⟨S512x1024, .f32⟩
  | .hbm, ⟨28, _⟩ => ⟨S512x1024, .f32⟩
  | .hbm, ⟨29, _⟩ => ⟨S1024x1024, .f32⟩
  | .hbm, ⟨30, _⟩ => ⟨S8x4x4096x128, .f32⟩
  | .hbm, ⟨31, _⟩ => ⟨S_, .f32⟩
  | .hbm, ⟨32, _⟩ => ⟨S8x4x4096, .f32⟩
  | .hbm, ⟨33, _⟩ => ⟨S8x4x4096x1, .f32⟩
  | .hbm, ⟨34, _⟩ => ⟨S_, .f32⟩
  | .hbm, ⟨35, _⟩ => ⟨S8x4x4096x1, .f32⟩
  | .hbm, ⟨36, _⟩ => ⟨S8x4x4096x1, .f32⟩
  | .hbm, ⟨37, _⟩ => ⟨S_, .f32⟩
  | .hbm, ⟨38, _⟩ => ⟨S8x4x4096x1, .f32⟩
  | .hbm, ⟨39, _⟩ => ⟨S8x4x4096x1, .f32⟩
  | .hbm, ⟨40, _⟩ => ⟨S8x4x4096x1, .f32⟩
  | .hbm, ⟨41, _⟩ => ⟨S8x4x4096x128, .f32⟩
  | .hbm, ⟨42, _⟩ => ⟨S8x4x4096x128, .f32⟩
  | .hbm, ⟨43, _⟩ => ⟨S4x1x128, .f32⟩
  | .hbm, ⟨44, _⟩ => ⟨S1x4x1x128, .f32⟩
  | .hbm, ⟨45, _⟩ => ⟨S8x4x4096x128, .f32⟩
  | .hbm, ⟨46, _⟩ => ⟨S8x4x4096x128, .f32⟩
  | .hbm, ⟨47, _⟩ => ⟨S8x4096x4x128, .f32⟩
  | .hbm, ⟨48, _⟩ => ⟨S8x4096x512, .f32⟩
  | .hbm, ⟨49, _⟩ => ⟨S8x4096x512, .f32⟩
  | .hbm, ⟨50, _⟩ => ⟨S8x4096x512, .f32⟩
  | .hbm, ⟨51, _⟩ => ⟨S_, .f32⟩
  | .hbm, ⟨52, _⟩ => ⟨S8x4096x512, .f32⟩
  | .hbm, ⟨53, _⟩ => ⟨S8x4096x512, .f32⟩
  | .hbm, ⟨54, _⟩ => ⟨S_, .f32⟩
  | .hbm, ⟨55, _⟩ => ⟨S8x4096x512, .f32⟩
  | .hbm, ⟨56, _⟩ => ⟨S8x4096x512, .f32⟩
  | .hbm, ⟨57, _⟩ => ⟨S8x4096x512, .f32⟩
  | .hbm, ⟨58, _⟩ => ⟨S8x4096x512, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096x1024, .f32⟩
  | .hbm, ⟨74, _⟩ => ⟨S8x4096x1024, .f32⟩
  | .hbm, ⟨75, _⟩ => ⟨S_, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_2 : Ref sig .tc := ⟨.hbm, 63, rfl⟩
abbrev main_v42 : Ref sig .tc := ⟨.hbm, 64, rfl⟩
abbrev main_v43 : Ref sig .tc := ⟨.hbm, 65, rfl⟩
abbrev main_cst_3 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_4 : Ref sig .tc := ⟨.hbm, 72, rfl⟩
abbrev main_v49 : Ref sig .tc := ⟨.hbm, 73, rfl⟩
abbrev main_v50 : Ref sig .tc := ⟨.hbm, 74, rfl⟩
abbrev main_cst_5 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Kernel4.lean ====
abbrev S8x256x1024 : Shape := ⟨3, ![8, 256, 1024]⟩
abbrev S8x1x1024 : Shape := ⟨3, ![8, 1, 1024]⟩
abbrev S1x1024 : Shape := ⟨2, ![1, 1024]⟩
abbrev S1x1024x5120 : Shape := ⟨3, ![1, 1024, 5120]⟩
abbrev S1024 : Shape := ⟨1, ![1024]⟩
abbrev S1024x5120 : Shape := ⟨2, ![1024, 5120]⟩
abbrev S1024x1536 : Shape := ⟨2, ![1024, 1536]⟩
abbrev S8x256x1536 : Shape := ⟨3, ![8, 256, 1536]⟩
abbrev S1x256x1024 : Shape := ⟨3, ![1, 256, 1024]⟩
abbrev S1x1x1024 : Shape := ⟨3, ![1, 1, 1024]⟩
abbrev S1x256x1536 : Shape := ⟨3, ![1, 256, 1536]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 11
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x5120, .f32⟩
  | .hbm, ⟨5, _⟩ => ⟨S1024, .f32⟩
  | .hbm, ⟨6, _⟩ => ⟨S1x1024, .f32⟩
  | .hbm, ⟨7, _⟩ => ⟨S1024x5120, .f32⟩
  | .hbm, ⟨8, _⟩ => ⟨S1024x5120, .bf16⟩
  | .hbm, ⟨9, _⟩ => ⟨S1024x1536, .bf16⟩
  | .hbm, ⟨10, _⟩ => ⟨S8x256x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x256x1536, .f32⟩
  | .local _ .vmem, ⟨9, _⟩ => ⟨S1x256x1536, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x256x1024 : Shape := ⟨3, ![8, 256, 1024]⟩
abbrev S8x1x1024 : Shape := ⟨3, ![8, 1, 1024]⟩
abbrev S1x1024 : Shape := ⟨2, ![1, 1024]⟩
abbrev S1x1024x5120 : Shape := ⟨3, ![1, 1024, 5120]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1024x5120 : Shape := ⟨2, ![1024, 5120]⟩
abbrev S1024x1536 : Shape := ⟨2, ![1024, 1536]⟩
abbrev S8x256x1536 : Shape := ⟨3, ![8, 256, 1536]⟩

abbrev nBuf : Space → Nat
  | .hbm => 32
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x1x1024, .f32⟩
  | .hbm, ⟨2, _⟩ => ⟨S8x1x1024, .f32⟩
  | .hbm, ⟨3, _⟩ => ⟨S1x1024, .f32⟩
  | .hbm, ⟨4, _⟩ => ⟨S1x1024x5120, .f32⟩
  | .hbm, ⟨5, _⟩ => ⟨S1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S1024x5120, .f32⟩
  | .hbm, ⟨30, _⟩ => ⟨S1024x1536, .f32⟩
  | .hbm, ⟨31, _⟩ => ⟨S8x256x1536, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Body.lean ====
module

public import proofs.«01_k».proof.Proof.Gen.KernelIdeal.Frame.Runs
public import Idealize.ShloMosaic.Lib.Pipeline.Value

/-! What one grid point of the scan computes, as plain functions of its input blocks and of the two carried
    states, and the proof that the kernel's body leaves exactly those values in its buffers. -/

@[expose] public section

set_option maxRecDepth 16384
set_option maxHeartbeats 4000000

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## One chunk of 64 rows -/

/-- The forward tile of outputs, from the chunk's queries, gate inputs, values and the state before it. -/
def fOut (lb : Vec F S1x128 .f32) (q z v : Vec F S1x64x128 .f32) (S : Vec F S128x128 .f32) : Vec F S1x64x128 .f32 :=
  k0_pay43 k0_pay1 (k0_pay35 v) S (k0_pay36 (k0_pay5 lb) z) (k0_pay37 k0_pay3 (k0_pay5 lb) z) (k0_pay38 k0_pay3 (k0_pay5 lb) z)
    (k0_pay40 q) (k0_pay41 k0_pay3 (k0_pay5 lb) q z) (k0_pay42 (F := F))

/-- The forward state after the chunk. -/
def fSt (lb : Vec F S1x128 .f32) (z v : Vec F S1x64x128 .f32) (S : Vec F S128x128 .f32) : Vec F S128x128 .f32 :=
  k0_pay44 (k0_pay35 v) S (k0_pay36 (k0_pay5 lb) z) (k0_pay37 k0_pay3 (k0_pay5 lb) z) (k0_pay39 k0_pay3 (k0_pay5 lb) z)

/-- The backward tile of outputs. -/
def bOut (lb : Vec F S1x128 .f32) (q z v : Vec F S1x64x128 .f32) (S : Vec F S128x128 .f32) : Vec F S1x64x128 .f32 :=
  k0_pay9 (k0_pay45 v) S (k0_pay47 k0_pay4 (k0_pay6 lb) z) (k0_pay50 q) (k0_pay51 k0_pay4 (k0_pay6 lb) q z) (k0_pay52 k0_pay4 (k0_pay6 lb) z)

/-- The backward state after the chunk. -/
def bSt (lb : Vec F S1x128 .f32) (z v : Vec F S1x64x128 .f32) (S : Vec F S128x128 .f32) : Vec F S128x128 .f32 :=
  k0_pay10 (k0_pay45 v) S (k0_pay46 (k0_pay6 lb) z) (k0_pay47 k0_pay4 (k0_pay6 lb) z) (k0_pay49 k0_pay4 (k0_pay6 lb) z)

/-! ## The states the context leaves -/

/-- Rows `0 … 63`, `64 … 127`, `128 … 191`, `192 … 255` of a context block. -/
def cr0 (x : Vec F S1x256x128 .f32) : Vec F S1x64x128 .f32 := View.ld x (Rect.unit (s := S1x256x128) ![0, 0, 0] S1x64x128.size inb_S1x256x128_S1x64x128_0_0_0)
def cr1 (x : Vec F S1x256x128 .f32) : Vec F S1x64x128 .f32 := View.ld x (Rect.unit (s := S1x256x128) ![0, 64, 0] S1x64x128.size inb_S1x256x128_S1x64x128_0_64_0)
def cr2 (x : Vec F S1x256x128 .f32) : Vec F S1x64x128 .f32 := View.ld x (Rect.unit (s := S1x256x128) ![0, 128, 0] S1x64x128.size inb_S1x256x128_S1x64x128_0_128_0)
def cr3 (x : Vec F S1x256x128 .f32) : Vec F S1x64x128 .f32 := View.ld x (Rect.unit (s := S1x256x128) ![0, 192, 0] S1x64x128.size inb_S1x256x128_S1x64x128_0_192_0)

/-- The forward state the context leaves. -/
def cF (lb : Vec F S1x128 .f32) (g v : Vec F S1x256x128 .f32) : Vec F S128x128 .f32 :=
  k0_pay7 (k0_pay30 (k0_pay22 k0_pay3 (k0_pay5 lb)
      (k0_pay16 k0_pay3 (k0_pay5 lb) (k0_pay12 k0_pay3 (k0_pay5 lb) (cr0 g) (cr0 v)) (k0_pay14 (cr1 g)) (k0_pay15 (k0_pay5 lb)) (cr1 v))
      (k0_pay21 (k0_pay5 lb) (cr2 g)) (cr2 v)) (k0_pay28 (k0_pay5 lb) (cr3 g)) (k0_pay29 k0_pay3 (k0_pay5 lb) (cr3 g)) (cr3 v))

/-- The backward state the context leaves. -/
def cB (lb : Vec F S1x128 .f32) (g v : Vec F S1x256x128 .f32) : Vec F S128x128 .f32 :=
  k0_pay8 (k0_pay27 k0_pay4 (k0_pay20 k0_pay4 (k0_pay6 lb) (k0_pay13 k0_pay4 (k0_pay6 lb) (k0_pay11 (F := F)) (cr3 g) (cr3 v))
      (k0_pay17 (k0_pay6 lb)) (k0_pay18 (cr2 g)) (k0_pay19 (F := F)) (cr2 v)) (k0_pay23 (k0_pay6 lb) (cr1 g)) (k0_pay25 (k0_pay6 lb) (cr1 g))
      (k0_pay26 (k0_pay6 lb) (cr1 g)) (cr1 v))
    (k0_pay31 (k0_pay6 lb) (cr0 g)) (k0_pay32 k0_pay4 (k0_pay6 lb) (cr0 g)) (k0_pay33 k0_pay4 (k0_pay6 lb) (cr0 g)) (k0_pay34 (cr0 v))

/-! ## One grid point: eight chunks -/

/-- Chunk `k` of a block in reading order, and in the backward order. -/
abbrev rF (k : Fin k0_t1_loop.trips) : Rect S1x512x128 := Rect.unit (s := S1x512x128) (k0_off1 k) S1x64x128.size (k0_off1_inb k)
abbrev rB (k : Fin k0_t1_loop.trips) : Rect S1x512x128 := Rect.unit (s := S1x512x128) (k0_off2 k) S1x64x128.size (k0_off2_inb k)

/-- The forward state before chunk `k` of a point, from the state at the point's start. -/
def fS (lb : Vec F S1x128 .f32) (z v : Vec F S1x512x128 .f32) (S : Vec F S128x128 .f32) : ℕ → Vec F S128x128 .f32
  | 0 => S
  | k + 1 => if h : k < k0_t1_loop.trips then fSt lb (View.ld z (rF ⟨k, h⟩)) (View.ld v (rF ⟨k, h⟩)) (fS lb z v S k) else fS lb z v S k

/-- The backward state before chunk `k` of a point. -/
def bS (lb : Vec F S1x128 .f32) (z v : Vec F S1x512x128 .f32) (S : Vec F S128x128 .f32) : ℕ → Vec F S128x128 .f32
  | 0 => S
  | k + 1 => if h : k < k0_t1_loop.trips then bSt lb (View.ld z (rB ⟨k, h⟩)) (View.ld v (rB ⟨k, h⟩)) (bS lb z v S k) else bS lb z v S k

/-- The forward output tiles of the chunks before `k`, last first. -/
def fP (lb : Vec F S1x128 .f32) (q z v : Vec F S1x512x128 .f32) (S : Vec F S128x128 .f32) : ℕ → List (View.Piece (Elt F) S1x512x128 .f32)
  | 0 => []
  | k + 1 => if h : k < k0_t1_loop.trips then
      (⟨rF ⟨k, h⟩, fOut lb (View.ld q (rF ⟨k, h⟩)) (View.ld z (rF ⟨k, h⟩)) (View.ld v (rF ⟨k, h⟩)) (fS lb z v S k)⟩ : View.Piece (Elt F) S1x512x128 .f32) :: fP lb q z v S k
      else fP lb q z v S k

/-- The backward output tiles of the chunks before `k`, last first. -/
def bP (lb : Vec F S1x128 .f32) (q z v : Vec F S1x512x128 .f32) (S : Vec F S128x128 .f32) : ℕ → List (View.Piece (Elt F) S1x512x128 .f32)
  | 0 => []
  | k + 1 => if h : k < k0_t1_loop.trips then
      (⟨rB ⟨k, h⟩, bOut lb (View.ld q (rB ⟨k, h⟩)) (View.ld z (rB ⟨k, h⟩)) (View.ld v (rB ⟨k, h⟩)) (bS lb z v S k)⟩ : View.Piece (Elt F) S1x512x128 .f32) :: bP lb q z v S k
      else bP lb q z v S k

/-- The eight tiles of a point fill its output block. -/
theorem fP_cover (lb : Vec F S1x128 .f32) (q z v : Vec F S1x512x128 .f32) (S : Vec F S128x128 .f32) (y : S1x512x128.Idx) :
    ∃ pc ∈ fP lb q z v S k0_t1_loop.trips, y ∈ pc.1.set :=
  View.cover_of_tiledL (fP lb q z v S k0_t1_loop.trips) S1x64x128.size (by sl_kernel_rfl) y

theorem bP_cover (lb : Vec F S1x128 .f32) (q z v : Vec F S1x512x128 .f32) (S : Vec F S128x128 .f32) (y : S1x512x128.Idx) :
    ∃ pc ∈ bP lb q z v S k0_t1_loop.trips, y ∈ pc.1.set :=
  View.cover_of_tiledL (bP lb q z v S k0_t1_loop.trips) S1x64x128.size (by sl_kernel_rfl) y

/-- What a point leaves in its two output blocks. -/
def fBlk (lb : Vec F S1x128 .f32) (q z v : Vec F S1x512x128 .f32) (S : Vec F S128x128 .f32) : Vec F S1x512x128 .f32 :=
  View.canon (fP lb q z v S k0_t1_loop.trips)
def bBlk (lb : Vec F S1x128 .f32) (q z v : Vec F S1x512x128 .f32) (S : Vec F S128x128 .f32) : Vec F S1x512x128 .f32 :=
  View.canon (bP lb q z v S k0_t1_loop.trips)

/-! ## The loop leaves these -/

section Loop

variable (𝒱 : Variants) (c : Dev nD) (bd : Option 𝒱.V) (i : grid0.Coords)
  (arg3 : Memref sig .tc .vmem S1x512x128 .f32) (harg3 : arg3.IsWhole)
  (arg4 : Memref sig .tc .vmem S1x512x128 .f32) (harg4 : arg4.IsWhole)
  (arg5 : Memref sig .tc .vmem S1x512x128 .f32) (harg5 : arg5.IsWhole)
  (arg6 : Memref sig .tc .vmem S1x512x128 .f32) (harg6 : arg6.IsWhole)
  (arg7 : Memref sig .tc .vmem S1x512x128 .f32) (harg7 : arg7.IsWhole)
  (arg8 : Memref sig .tc .vmem S1x512x128 .f32) (harg8 : arg8.IsWhole)
  (arg9 : Memref sig .tc .vmem S1x256x128 .f32) (harg9 : arg9.IsWhole)
  (arg10 : Memref sig .tc .vmem S1x256x128 .f32) (harg10 : arg10.IsWhole)
  (arg11 : Memref sig .tc .vmem S1x256x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S1x512x128 .f32) (harg14 : arg14.IsWhole)
  (arg15 : Memref sig .tc .vmem S1x512x128 .f32) (harg15 : arg15.IsWhole)
  (arg16 : Memref sig .tc .vmem S128x128 .f32) (harg16 : arg16.IsWhole)
  (arg17 : Memref sig .tc .vmem S128x128 .f32) (harg17 : arg17.IsWhole)
  (v10 : Vec F S1x128 .f32) (v12 : Vec F S1x128 .f32)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (G14 : BufTy.Contents (Elt F) arg14.view.ty)
  (G15 : BufTy.Contents (Elt F) arg15.view.ty)
  (G16 : BufTy.Contents (Elt F) arg16.view.ty)
  (G17 : BufTy.Contents (Elt F) arg17.view.ty)

theorem trip0 (k : Fin k0_t1_loop.trips) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 k).1 G14 G15 G16 G17
      = [⟨rF k, fOut v10 (arg3.view.readAt (Elt F) (rF k).toLoadRect X3) (arg4.view.readAt (Elt F) (rF k).toLoadRect X4) (arg5.view.readAt (Elt F) (rF k).toLoadRect X5) (arg16.view.readAt (Elt F) (Rect.unit (s := S128x128) ![0, 0] S128x128.size inb_S128x128_S128x128_0_0).toLoadRect G16)⟩] := by
  unfold trip_k0_t1
  rfl

theorem trip1 (k : Fin k0_t1_loop.trips) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 k).2.1 G14 G15 G16 G17
      = [⟨rB k, bOut v12 (arg6.view.readAt (Elt F) (rB k).toLoadRect X6) (arg7.view.readAt (Elt F) (rB k).toLoadRect X7) (arg8.view.readAt (Elt F) (rB k).toLoadRect X8) (arg17.view.readAt (Elt F) (Rect.unit (s := S128x128) ![0, 0] S128x128.size inb_S128x128_S128x128_0_0).toLoadRect G17)⟩] := by
  unfold trip_k0_t1
  rfl

theorem trip2 (k : Fin k0_t1_loop.trips) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 k).2.2.1 G14 G15 G16 G17
      = [⟨(Rect.unit (s := S128x128) ![0, 0] S128x128.size inb_S128x128_S128x128_0_0), fSt v10 (arg4.view.readAt (Elt F) (rF k).toLoadRect X4) (arg5.view.readAt (Elt F) (rF k).toLoadRect X5) (arg16.view.readAt (Elt F) (Rect.unit (s := S128x128) ![0, 0] S128x128.size inb_S128x128_S128x128_0_0).toLoadRect G16)⟩] := by
  unfold trip_k0_t1
  rfl

theorem trip3 (k : Fin k0_t1_loop.trips) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 k).2.2.2.1 G14 G15 G16 G17
      = [⟨(Rect.unit (s := S128x128) ![0, 0] S128x128.size inb_S128x128_S128x128_0_0), bSt v12 (arg7.view.readAt (Elt F) (rB k).toLoadRect X7) (arg8.view.readAt (Elt F) (rB k).toLoadRect X8) (arg17.view.readAt (Elt F) (Rect.unit (s := S128x128) ![0, 0] S128x128.size inb_S128x128_S128x128_0_0).toLoadRect G17)⟩] := by
  unfold trip_k0_t1
  rfl

theorem ld_whole (x : Vec F S128x128 .f32) : View.ld x (Rect.unit (s := S128x128) ![0, 0] ![128, 128] inb_S128x128_S128x128_0_0) = x :=
  View.ld_unit_zero (by funext a; fin_cases a <;> rfl) _ x

/-- A store of the whole state buffer is what the buffer then reads. -/
theorem read_whole (a : Memref sig .tc .vmem S128x128 .f32) (G : BufTy.Contents (Elt F) a.view.ty) (x : Vec F S128x128 .f32)
    (L : List (View.Piece (Elt F) S128x128 .f32)) :
    a.view.read (Elt F) (a.view.writes (Elt F) G ((⟨Rect.unit (s := S128x128) ![0, 0] ![128, 128] inb_S128x128_S128x128_0_0, x⟩ : View.Piece (Elt F) S128x128 .f32) :: L)) = x := by
  rw [View.read_writes_eq_canon, View.canon_cons_unit_zero (by funext a; fin_cases a <;> rfl)]
  intro y
  refine ⟨_, List.mem_cons_self, ?_⟩
  exact (Rect.mem_set_unit (s := S128x128) (off := ![0, 0]) (size := ![128, 128]) (inb := inb_S128x128_S128x128_0_0)).mpr fun b => by
    have := (y b).isLt
    fin_cases b
    · exact ⟨Nat.zero_le _, by simpa using this⟩
    · exact ⟨Nat.zero_le _, by simpa using this⟩

/-- The tiles and the states after `k` trips. -/
theorem loop_val (k : ℕ) (hk : k ≤ k0_t1_loop.trips) :
    (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k).1 = fP v10 (arg3.view.read (Elt F) X3) (arg4.view.read (Elt F) X4) (arg5.view.read (Elt F) X5) (arg16.view.read (Elt F) G16) k
    ∧ (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k).2.1 = bP v12 (arg6.view.read (Elt F) X6) (arg7.view.read (Elt F) X7) (arg8.view.read (Elt F) X8) (arg17.view.read (Elt F) G17) k
    ∧ arg16.view.read (Elt F) (arg16.view.writes (Elt F) G16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k).2.2.1) = fS v10 (arg4.view.read (Elt F) X4) (arg5.view.read (Elt F) X5) (arg16.view.read (Elt F) G16) k
    ∧ arg17.view.read (Elt F) (arg17.view.writes (Elt F) G17 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k).2.2.2) = bS v12 (arg7.view.read (Elt F) X7) (arg8.view.read (Elt F) X8) (arg17.view.read (Elt F) G17) k := by
  induction k with
  | zero => exact ⟨rfl, rfl, rfl, rfl⟩
  | succ k ih =>
    obtain ⟨h1, h2, h3, h4⟩ := ih (Nat.le_of_succ_le hk)
    have hlt : k < k0_t1_loop.trips := hk
    have e := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 ⟨k, hlt⟩
    simp only at e
    rw [e, fP, bP, fS, bS, dif_pos hlt, dif_pos hlt, dif_pos hlt, dif_pos hlt]
    simp only [trip0, trip1, trip2, trip3, View.readAt_eq_ld, h1, h2, h3, h4, List.singleton_append]
    simp only [ld_whole]
    exact ⟨trivial, trivial, read_whole _ _ _ _, read_whole _ _ _ _⟩

variable {x0 x1 x2 x3 x4 x5 : Vec F S1x512x128 .f32} {x9 x10 : Vec F S1x128 .f32} {S0 S1 : Vec F S128x128 .f32}
  (hX3 : (arg3.view.read (Elt F) X3) = x0) (hX4 : (arg4.view.read (Elt F) X4) = x1) (hX5 : (arg5.view.read (Elt F) X5) = x2) (hX6 : (arg6.view.read (Elt F) X6) = x3) (hX7 : (arg7.view.read (Elt F) X7) = x4) (hX8 : (arg8.view.read (Elt F) X8) = x5)
  (h10 : v10 = x9) (h12 : v12 = x10) (h16 : arg16.view.read (Elt F) G16 = S0) (h17 : arg17.view.read (Elt F) G17 = S1)

include hX3 hX4 hX5 h10 h16 in
theorem out14 : arg14.view.read (Elt F) (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k0_t1_loop.trips).1) = fBlk x9 x0 x1 x2 S0 := by
  subst hX3 hX4 hX5 h10 h16
  rw [(loop_val 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 _ le_rfl).1]
  exact View.read_writes_eq_canon _ _ _ (fP_cover _ _ _ _ _)

include hX6 hX7 hX8 h12 h17 in
theorem out15 : arg15.view.read (Elt F) (arg15.view.writes (Elt F) G15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k0_t1_loop.trips).2.1) = bBlk x10 x3 x4 x5 S1 := by
  subst hX6 hX7 hX8 h12 h17
  rw [(loop_val 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 _ le_rfl).2.1]
  exact View.read_writes_eq_canon _ _ _ (bP_cover _ _ _ _ _)

include hX4 hX5 h10 h16 in
theorem out16 : arg16.view.read (Elt F) (arg16.view.writes (Elt F) G16 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k0_t1_loop.trips).2.2.1) = fS x9 x1 x2 S0 k0_t1_loop.trips := by
  subst hX4 hX5 h10 h16
  exact (loop_val 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 _ le_rfl).2.2.1

include hX7 hX8 h12 h17 in
theorem out17 : arg17.view.read (Elt F) (arg17.view.writes (Elt F) G17 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 k0_t1_loop.trips).2.2.2) = bS x10 x4 x5 S1 k0_t1_loop.trips := by
  subst hX7 hX8 h12 h17
  exact (loop_val 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 v10 v12 X3 X4 X5 X6 X7 X8 G14 G15 G16 G17 _ le_rfl).2.2.2

end Loop

theorem ld_row (x : Vec F S1x128 .f32) : View.ld x (Rect.unit (s := S1x128) ![0, 0] ![1, 128] inb_S1x128_S1x128_0_0) = x :=
  View.ld_unit_zero (by funext a; fin_cases a <;> rfl) _ x

/-- The body at a point that starts a sequence: its outputs and its carried states. -/
theorem runA (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S128x128 .f32) (harg16 : arg16.IsWhole) (arg17 : Memref sig .tc .vmem S128x128 .f32) (harg17 : arg17.IsWhole) (hc0 : cond0_0 i)
    (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x256x128 .f32) (x7 : Vec F S1x256x128 .f32) (x8 : Vec F S1x256x128 .f32) (x9 : Vec F S1x128 .f32) (x10 : Vec F S1x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (fBlk x9 x0 x1 x2 (cF x9 x6 x8)) ∗ owns (c : Thread nD τ) arg15 fullShare (bBlk x10 x3 x4 x5 (cB x10 x7 x8)) ∗ owns (c : Thread nD τ) arg16 fullShare (fS x9 x1 x2 (cF x9 x6 x8) k0_t1_loop.trips) ∗ owns (c : Thread nD τ) arg17 fullShare (bS x10 x4 x5 (cB x10 x7 x8) k0_t1_loop.trips)) -∗ K ⟨⟩))
      ⊢ wp frame (wpE (defs₀ (F := F)) Variants.none c none) E (cc0_scan i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_scan_eq_skeleton]; unfold cc0_scan_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%ds0, %fs0, -, HS0⟩, ⟨%ds1, %fs1, -, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
  sl_exec (disch := first | sl_exact hc0)
  sl_step
  have h10 : arg12.view.readAt (Elt F) (Rect.unit (s := S1x128) ![0, 0] S1x128.size inb_S1x128_S1x128_0_0).toLoadRect (harg12.unread x9) = x9 := by
    rw [View.readAt_eq_ld, hf9]; exact ld_row x9
  have h12 : arg13.view.readAt (Elt F) (Rect.unit (s := S1x128) ![0, 0] S1x128.size inb_S1x128_S1x128_0_0).toLoadRect (harg13.unread x10) = x10 := by
    rw [View.readAt_eq_ld, hf10]; exact ld_row x10
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr
    swap; · iexact H11
    ipureintro
    refine out14 (hX3 := hf0) (hX4 := hf1) (hX5 := hf2) (h10 := h10) (h16 := ?_) ..
    sl_unfold_words
    refine (read_whole _ _ _ _).trans ?_
    simp only [View.readAt_eq_ld, hf6, hf8, hf9, ld_row]
    rfl
  isplitl [H12]
  · iexists _; isplitr
    swap; · iexact H12
    ipureintro
    refine out15 (hX6 := hf3) (hX7 := hf4) (hX8 := hf5) (h12 := h12) (h17 := ?_) ..
    sl_unfold_words
    refine (read_whole _ _ _ _).trans ?_
    simp only [View.readAt_eq_ld, hf7, hf8, hf10, ld_row]
    rfl
  isplitl [HS0]
  · iexists _; isplitr
    swap; · iexact HS0
    ipureintro
    rw [View.writes_append]; refine out16 (hX4 := hf1) (hX5 := hf2) (h10 := h10) (h16 := ?_) ..
    sl_unfold_words
    refine (read_whole _ _ _ _).trans ?_
    simp only [View.readAt_eq_ld, hf6, hf8, hf9, ld_row]
    rfl
  iexists _; isplitr
  swap; · iexact HS1
  ipureintro
  rw [View.writes_append]; refine out17 (hX7 := hf4) (hX8 := hf5) (h12 := h12) (h17 := ?_) ..
  sl_unfold_words
  refine (read_whole _ _ _ _).trans ?_
  simp only [View.readAt_eq_ld, hf7, hf8, hf10, ld_row]
  rfl

/-- The body at a point within a sequence: its outputs and its carried states. -/
theorem runB (c : Dev nD) (i : grid0.Coords) (arg3 : Memref sig .tc .vmem S1x512x128 .f32) (harg3 : arg3.IsWhole) (arg4 : Memref sig .tc .vmem S1x512x128 .f32) (harg4 : arg4.IsWhole) (arg5 : Memref sig .tc .vmem S1x512x128 .f32) (harg5 : arg5.IsWhole) (arg6 : Memref sig .tc .vmem S1x512x128 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x256x128 .f32) (harg9 : arg9.IsWhole) (arg10 : Memref sig .tc .vmem S1x256x128 .f32) (harg10 : arg10.IsWhole) (arg11 : Memref sig .tc .vmem S1x256x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S128x128 .f32) (harg16 : arg16.IsWhole) (arg17 : Memref sig .tc .vmem S128x128 .f32) (harg17 : arg17.IsWhole) (hc0 : ¬cond0_0 i)
    (x0 : Vec F S1x512x128 .f32) (x1 : Vec F S1x512x128 .f32) (x2 : Vec F S1x512x128 .f32) (x3 : Vec F S1x512x128 .f32) (x4 : Vec F S1x512x128 .f32) (x5 : Vec F S1x512x128 .f32) (x6 : Vec F S1x256x128 .f32) (x7 : Vec F S1x256x128 .f32) (x8 : Vec F S1x256x128 .f32) (x9 : Vec F S1x128 .f32) (x10 : Vec F S1x128 .f32) (xs0 xs1 : Vec F S128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ owns (c : Thread nD τ) arg16 fullShare xs0 ∗ owns (c : Thread nD τ) arg17 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare (fBlk x9 x0 x1 x2 xs0) ∗ owns (c : Thread nD τ) arg15 fullShare (bBlk x10 x3 x4 x5 xs1) ∗ owns (c : Thread nD τ) arg16 fullShare (fS x9 x1 x2 xs0 k0_t1_loop.trips) ∗ owns (c : Thread nD τ) arg17 fullShare (bS x10 x4 x5 xs1 k0_t1_loop.trips)) -∗ K ⟨⟩))
      ⊢ wp frame (wpE (defs₀ (F := F)) Variants.none c none) E (cc0_scan i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_scan_eq_skeleton]; unfold cc0_scan_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg16.eq_unread hfs0; obtain rfl := harg17.eq_unread hfs1
  sl_exec (disch := first | sl_exact hc0)
  sl_step
  have h10 : arg12.view.readAt (Elt F) (Rect.unit (s := S1x128) ![0, 0] S1x128.size inb_S1x128_S1x128_0_0).toLoadRect (harg12.unread x9) = x9 := by
    rw [View.readAt_eq_ld, hf9]; exact ld_row x9
  have h12 : arg13.view.readAt (Elt F) (Rect.unit (s := S1x128) ![0, 0] S1x128.size inb_S1x128_S1x128_0_0).toLoadRect (harg13.unread x10) = x10 := by
    rw [View.readAt_eq_ld, hf10]; exact ld_row x10
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr
    swap; · iexact H11
    ipureintro
    exact out14 (hX3 := hf0) (hX4 := hf1) (hX5 := hf2) (h10 := h10) (h16 := hfs0) ..
  isplitl [H12]
  · iexists _; isplitr
    swap; · iexact H12
    ipureintro
    exact out15 (hX6 := hf3) (hX7 := hf4) (hX8 := hf5) (h12 := h12) (h17 := hfs1) ..
  isplitl [HS0]
  · iexists _; isplitr
    swap; · iexact HS0
    ipureintro
    exact out16 (hX4 := hf1) (hX5 := hf2) (h10 := h10) (h16 := hfs0) ..
  iexists _; isplitr
  swap; · iexact HS1
  ipureintro
  exact out17 (hX7 := hf4) (hX8 := hf5) (h12 := h12) (h17 := hfs1) ..

end Cert.KernelIdeal.Scan

end
-- ==== Proof.Frame.lean ====
module

public import proofs.«01_k».proof.Proof.Body
public import Idealize.ShloMosaic.Lib.Claim

/-! The run of the scan kernel: each grid point leaves the values of Body.lean over the states the point before left. -/

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two states a sequence starts with. -/
def seed (c : Dev nD) (t : Fin cfg0.N) : Vec F S128x128 .f32 × Vec F S128x128 .f32 :=
  (cF (iblk m c 9 t) (iblk m c 6 t) (iblk m c 8 t), cB (iblk m c 10 t) (iblk m c 7 t) (iblk m c 8 t))

/-- The two states a point leaves, over the states it finds. -/
def nx (c : Dev nD) (t : Fin cfg0.N) (S : Vec F S128x128 .f32 × Vec F S128x128 .f32) : Vec F S128x128 .f32 × Vec F S128x128 .f32 :=
  (fS (iblk m c 9 t) (iblk m c 1 t) (iblk m c 2 t) S.1 k0_t1_loop.trips, bS (iblk m c 10 t) (iblk m c 4 t) (iblk m c 5 t) S.2 k0_t1_loop.trips)

/-- The two states point `n` works on: the seed at a sequence's start, else what the point before left. -/
def ent (c : Dev nD) : (n : ℕ) → n < cfg0.N → Vec F S128x128 .f32 × Vec F S128x128 .f32
  | 0, h => seed m c ⟨0, h⟩
  | n + 1, h => if (n + 1) % 8 = 0 then seed m c ⟨n + 1, h⟩ else nx m c ⟨n, Nat.lt_of_succ_lt h⟩ (ent c n (Nat.lt_of_succ_lt h))

theorem ent_A (c : Dev nD) (t : Fin cfg0.N) (h0 : t.val % 8 = 0) : ent m c t.val t.isLt = seed m c t := by
  obtain ⟨n, hn⟩ := t
  cases n with
  | zero => rfl
  | succ n => exact if_pos h0

theorem ent_B (c : Dev nD) (t : Fin cfg0.N) (h0 : ¬t.val % 8 = 0) (h : t.val - 1 < cfg0.N) :
    ent m c t.val t.isLt = nx m c ⟨t.val - 1, h⟩ (ent m c (t.val - 1) h) := by
  obtain ⟨n, hn⟩ := t
  cases n with
  | zero => exact absurd (Nat.zero_mod _) h0
  | succ n => exact if_neg h0

/-- The two states after point `n`. -/
def sta (c : Dev nD) (n : ℕ) (h : n < cfg0.N) : Vec F S128x128 .f32 × Vec F S128x128 .f32 := nx m c ⟨n, h⟩ (ent m c n h)

/-- What is known before point `n`: nothing of the states before the first, afterwards their values. -/
def PhiS (c : Dev nD) : (n : ℕ) → n ≤ cfg0.N → sProp 𝕄
  | 0, _ => Pipeline.ΦA spec0 c
  | n + 1, hn => iprop(iprop(owns (c : Thread nD τ) scM0_0 fullShare (sta m c n hn).1 ∗ owns (c : Thread nD τ) scM0_1 fullShare (sta m c n hn).2) ∗ (∃ r, prngReg c r))

theorem PhiS_pos (c : Dev nD) (n : ℕ) (h : n ≤ cfg0.N) (hz : n ≠ 0) :
    PhiS m c n h = iprop(iprop(owns (c : Thread nD τ) scM0_0 fullShare (sta m c (n - 1) (by omega)).1 ∗ owns (c : Thread nD τ) scM0_1 fullShare (sta m c (n - 1) (by omega)).2) ∗ (∃ r, prngReg c r)) := by
  cases n with
  | zero => exact absurd rfl hz
  | succ n => rfl

/-- Whatever is known of the states can be forgotten. -/
theorem PhiS_weak (c : Dev nD) (n : ℕ) (h : n ≤ cfg0.N) : PhiS m c n h ⊢ Pipeline.ΦA spec0 c := by
  cases n with
  | zero => exact Idealize.SL.BI.Entails.refl _
  | succ n =>
    rw [PhiS_pos m c _ h (Nat.succ_ne_zero n), PhiA0_eq]
    iintro ⟨⟨HS0, HS1⟩, Hg⟩
    isplitl [HS0 HS1]
    · isplitl [HS0]
      · iexists _; iexact HS0
      iexists _; iexact HS1
    iexact Hg

/-- The proof data: inputs stay, the outputs hold the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fBlk (iblk m c 9 t) (iblk m c 0 t) (iblk m c 1 t) (iblk m c 2 t) (ent m c t.val t.isLt).1
    | ⟨12, _⟩ => bBlk (iblk m c 10 t) (iblk m c 3 t) (iblk m c 4 t) (iblk m c 5 t) (ent m c t.val t.isLt).2
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = fBlk (iblk m c 9 t) (iblk m c 0 t) (iblk m c 1 t) (iblk m c 2 t) (ent m c t.val t.isLt).1 := by dsimp only [dats]
theorem after0_12 (c : Dev nD) (t : Fin cfg0.N) : (dats m 0 c).after 12 t = bBlk (iblk m c 10 t) (iblk m c 3 t) (iblk m c 4 t) (iblk m c 5 t) (ent m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- What a point's body is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = iprop(iprop(owns (c : Thread nD τ) scM0_0 fullShare (sta m c t.val t.isLt).1 ∗ owns (c : Thread nD τ) scM0_1 fullShare (sta m c t.val t.isLt).2) ∗ (∃ r, prngReg c r)) from rfl]
  rw [PhiS_castSucc m c t]
  unfold sta nx
  by_cases h0 : t.val % 8 = 0
  · rw [ent_A m c t h0]
    dsimp only [seed]
    refine BIBase.Entails.trans (sep_mono_left (PhiS_weak m c t.val (Nat.le_of_lt t.isLt))) ?_
    rw [PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runA c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, H11, H12, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have hz : t.val ≠ 0 := fun h => h0 (by rw [h])
    have hp : t.val - 1 < cfg0.N := lt_of_le_of_lt (Nat.sub_le _ _) t.isLt
    rw [PhiS_pos m c _ _ hz, ent_B m c t h0 hp]
    rw [show nx m c ⟨t.val - 1, hp⟩ (ent m c (t.val - 1) hp) = sta m c (t.val - 1) hp from rfl]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (runB c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (sta m c (t.val - 1) hp).1 (sta m c (t.val - 1) hp).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [HS0]; · iexact HS0
    isplitl [HS1]; · iexact HS1
    iintro ⟨H0, H1, H2, H3, H4, H5, H6, H7, H8, H9, H10, H11, H12, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c :=
  PhiS_weak m c (Fin.last cfg0.N).val (Nat.le_of_lt_succ (Fin.last cfg0.N).isLt)

set_option backward.isDefEq.respectTransparency.types false in
/-- The launch terminates, with every array as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The two output arrays after the run, the arguments as launched. -/
theorem run_blocks : θ_run defs (onTc (τ := τ) (main (F := F))) ⟨m, fun _ => 0, ρ⟩ fun r => ∀ c : Dev nD,
      r.2.mem ((c : Thread nD τ).loc main_v30_0) = (dats m 0 c).arrAt 11 cfg0.N
      ∧ r.2.mem ((c : Thread nD τ).loc main_v30_1) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 11, (h c).1 12,
      ((h c).1 5).trans (((dats m 0 c).arrAt_in 5 rfl _).trans ((A_eq m c 5).trans (V_main_arg0 m c))),
      ((h c).1 8).trans (((dats m 0 c).arrAt_in 8 rfl _).trans ((A_eq m c 8).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Scan

end
-- ==== Proof.Frames.lean ====
/- The three frames and the facts of the precondition's program. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frame
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

instance preFacts : Cert.Pre_lb_finite.Facts where
  bcast_S_S2x512 := by decide
  reducesTo_S2x512_S_d0_1 := by decide
  h_S_ := by decide

/-- The idealized kernel's frame. -/
theorem frame_pi : Cert.quiescent_KernelIdeal := fun m g _ => Cert.KernelIdeal.Scan.frame (F := Ideal) m g
theorem frame_pi_pre : Cert.quiescent_KernelIdeal_pre_lb_finite := fun m g _ => Cert.KernelIdeal.Scan.frame (F := Ideal) m g

/-- The reference's frame: no counter is declared. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_ri_pre : Cert.quiescent_ReferenceIdeal_pre_lb_finite := fun m ρ _ =>
  (θ_run Cert.ReferenceIdeal.defs _ _).mono (fun r h => ⟨fun c => (h c).2.2, sem_eq_zero_of_no_sems (by decide) r.2⟩)
    (Cert.ReferenceIdeal.Value.run (F := Ideal) m ρ)

set_option maxHeartbeats 0 in
/-- The two programs have the same body functions. -/
theorem defs₀_same {F : FTy → Type} [FloatOps F] [DecidableEq (F .f32)] : @Cert.Kernel.defs₀ F _ _ = @Cert.KernelIdeal.defs₀ F _ _ := by
  unfold Cert.Kernel.defs₀ Cert.KernelIdeal.defs₀
  refine congrArg Defs.onTc ?_
  funext l x
  match l, x with
  | 0, (t, s) => rfl

set_option maxHeartbeats 0 in
/-- The printed kernel is the idealized one operation for operation, so the frame (proved for any float values) is its own. -/
theorem frame_p : Cert.quiescent_Kernel := fun m g _ => by
  have h := Cert.KernelIdeal.Scan.frame (F := Bits) m g
  unfold Cert.KernelIdeal.defs at h
  rw [← defs₀_same] at h
  exact h

end Cert.Frames

end
-- ==== Proof.Chunk.lean ====
/- The gated scan on the extended reals: the gate, a chunk of 64 rows in the order of time, its output and the state after
   it, the state over a run of chunks, and the state that a stretch of gated rows leaves behind from nothing. The last is one
   sum over all rows; taken chunk by chunk it is the same (`ctx_fold`), because the decays multiply where every gate is a
   positive real. Time is a natural number throughout, a row's 128 channels are `Fin 128`. -/
module

public import Idealize.ShloMosaic.Lib.Pointwise
public import Idealize.ShloMosaic.Lib.IdealHost

@[expose] public section

noncomputable section

namespace Cert.Scan

open Idealize.ShloMosaic
open scoped BigOperators

abbrev Row := Fin 128 → EReal
/-- A state: a matrix of keys and values. -/
abbrev Mat := Fin 128 → Fin 128 → EReal

/-- The forget gate of the preactivation `z` over the lower bound `l`. -/
def gate (l z : EReal) : EReal := l + (1 - l) * Ideal.div 1 (1 + Ideal.exp (-z))

/-- The sum of the entries up to and with `r`. -/
def cum {N : ℕ} (g : Fin N → EReal) (r : Fin N) : EReal := ∑ i, if i ≤ r then g i else 0

/-- The log-decay from the chunk's start through row `r`. -/
def dec {N : ℕ} (f : Fin N → Row) (r : Fin N) (k : Fin 128) : EReal := cum (fun i => Ideal.log (f i k)) r

/-- The weight with which row `r` reads row `j`, both decays taken from the chunk's middle. -/
def att (c : EReal) (q f : Fin 64 → Row) (r j : Fin 64) : EReal :=
  ∑ k, (q r k * c * Ideal.exp (dec f r k - dec f 31 k)) * ((1 - f j k) * Ideal.exp (dec f 31 k - dec f j k))

/-- Row `r` of a chunk's output: what it reads in its own chunk, and in the state the chunk starts from. -/
def out (c : EReal) (q f v : Fin 64 → Row) (S : Mat) (r : Fin 64) (a : Fin 128) : EReal :=
  (∑ j, (if j ≤ r then att c q f r j else 0) * v j a) + ∑ k, (q r k * c * Ideal.exp (dec f r k)) * S k a

/-- The state after a chunk. -/
def upd (f v : Fin 64 → Row) (S : Mat) (k a : Fin 128) : EReal :=
  Ideal.exp (dec f 63 k) * S k a + ∑ j, ((1 - f j k) * Ideal.exp (dec f 63 k - dec f j k)) * v j a

/-- Rows `64 n …` of a run of rows. -/
def rows (x : ℕ → Row) (n : ℕ) : Fin 64 → Row := fun r => x (64 * n + r.val)

/-- The state before chunk `n` of a run of rows. -/
def st (f v : ℕ → Row) (S0 : Mat) : ℕ → Mat
  | 0 => S0
  | n + 1 => upd (rows f n) (rows v n) (st f v S0 n)

/-- The state 256 rows leave behind, from nothing. -/
def ctx (f v : ℕ → Row) (k a : Fin 128) : EReal :=
  ∑ i : Fin 256, ((1 - f i.val k) * Ideal.exp (dec (N := 256) (fun i => f i.val) 255 k - dec (N := 256) (fun i => f i.val) i k)) * v i.val a

theorem cum_range {N : ℕ} (g : ℕ → EReal) (r : Fin N) : cum (fun i : Fin N => g i.val) r = ∑ i ∈ Finset.range (r.val + 1), g i := by
  unfold cum
  rw [← Finset.sum_filter]
  refine Finset.sum_bij (fun i _ => i.val) (fun i hi => ?_) (fun i _ j _ e => Fin.ext e) (fun i hi => ?_) (fun _ _ => rfl)
  · have := (Finset.mem_filter.1 hi).2; exact Finset.mem_range.2 (by omega)
  · have h := Finset.mem_range.1 hi
    exact ⟨⟨i, by omega⟩, Finset.mem_filter.2 ⟨Finset.mem_univ _, by show i ≤ r.val; omega⟩, rfl⟩

/-- Summed backwards: the reversed rows up to the reversed `r` are the rows from `r` on. -/
theorem cum_rev {N : ℕ} (g : Fin N → EReal) (r : Fin N) : cum (fun i => g i.rev) r.rev = ∑ i, if r ≤ i then g i else 0 := by
  unfold cum
  rw [← Equiv.sum_comp Fin.revPerm]
  refine Finset.sum_congr rfl fun i _ => ?_
  simp only [Fin.revPerm_apply, Fin.rev_rev, Fin.rev_le_rev]

theorem coe_sum (l : ℕ → ℝ) (n : ℕ) : ∑ i ∈ Finset.range n, ((l i : ℝ) : EReal) = ((∑ i ∈ Finset.range n, l i : ℝ) : EReal) := by
  induction n with
  | zero => simp
  | succ n ih => rw [Finset.sum_range_succ, Finset.sum_range_succ, ih, EReal.coe_add]

theorem coe_mul_sum {ι : Type} (s : Finset ι) (c : ℝ) (hc : 0 ≤ c) (g : ι → EReal) : (c : EReal) * ∑ i ∈ s, g i = ∑ i ∈ s, (c : EReal) * g i := by
  classical
  induction s using Finset.induction_on with
  | empty => simp
  | insert i s hi ih => rw [Finset.sum_insert hi, Finset.sum_insert hi, EReal.left_distrib_of_nonneg_of_ne_top (EReal.coe_nonneg.2 hc) (EReal.coe_ne_top c), ih]

/-- The decay through row `r` of chunk `n`, as a real number. -/
theorem dec_rows (f : ℕ → Row) (k : Fin 128) (l : ℕ → ℝ) (hl : ∀ i, Ideal.log (f i k) = (l i : EReal)) (n : ℕ) (r : Fin 64) :
    dec (rows f n) r k = ((∑ i ∈ Finset.range (64 * n + r.val + 1), l i - ∑ i ∈ Finset.range (64 * n), l i : ℝ) : EReal) := by
  unfold dec rows
  rw [cum_range (fun i => Ideal.log (f (64 * n + i) k)) r]
  simp only [hl]
  rw [coe_sum (fun i => l (64 * n + i)), Nat.add_assoc, Finset.sum_range_add _ (64 * n), add_sub_cancel_left]

theorem dec_all (f : ℕ → Row) (k : Fin 128) (l : ℕ → ℝ) (hl : ∀ i, Ideal.log (f i k) = (l i : EReal)) {N : ℕ} (r : Fin N) :
    dec (N := N) (fun i => f i.val) r k = ((∑ i ∈ Finset.range (r.val + 1), l i : ℝ) : EReal) := by
  unfold dec
  rw [cum_range (fun i => Ideal.log (f i k)) r]
  simp only [hl]
  exact coe_sum l _

/-- From nothing, the state after `n` chunks is one sum over their rows. -/
theorem st_zero (f v : ℕ → Row) (k a : Fin 128) (l : ℕ → ℝ) (hl : ∀ i, Ideal.log (f i k) = (l i : EReal)) (n : ℕ) :
    st f v (fun _ _ => 0) n k a = ∑ i ∈ Finset.range (64 * n), ((1 - f i k)
      * ((Real.exp (∑ x ∈ Finset.range (64 * n), l x - ∑ x ∈ Finset.range (i + 1), l x) : ℝ) : EReal)) * v i a := by
  induction n with
  | zero => simp [st]
  | succ n ih =>
    have h63 : dec (rows f n) 63 k = ((∑ i ∈ Finset.range (64 * (n + 1)), l i - ∑ i ∈ Finset.range (64 * n), l i : ℝ) : EReal) := by
      rw [dec_rows f k l hl]; rfl
    show Ideal.exp (dec (rows f n) 63 k) * st f v (fun _ _ => 0) n k a
      + ∑ j, ((1 - rows f n j k) * Ideal.exp (dec (rows f n) 63 k - dec (rows f n) j k)) * rows v n j a = _
    rw [ih, Nat.mul_succ, Finset.sum_range_add]
    refine congrArg₂ (· + ·) ?_ ?_
    · rw [h63, Ideal.exp_coe, coe_mul_sum _ _ (Real.exp_pos _).le]
      refine Finset.sum_congr rfl fun i _ => ?_
      rw [← mul_assoc, mul_left_comm, ← EReal.coe_mul, ← Real.exp_add]
      refine congrArg (fun x : ℝ => (1 - f i k) * ((Real.exp x : ℝ) : EReal) * v i a) ?_
      rw [Nat.mul_succ]; ring
    · rw [← Fin.sum_univ_eq_sum_range (fun i => (1 - f (64 * n + i) k)
        * ((Real.exp (∑ x ∈ Finset.range (64 * n + 64), l x - ∑ x ∈ Finset.range (64 * n + i + 1), l x) : ℝ) : EReal) * v (64 * n + i) a) 64]
      refine Finset.sum_congr rfl fun j _ => ?_
      rw [h63, dec_rows f k l hl, ← EReal.coe_sub, Ideal.exp_coe]
      refine congrArg (fun x : ℝ => (1 - rows f n j k) * ((Real.exp x : ℝ) : EReal) * rows v n j a) ?_
      rw [Nat.mul_succ]; ring

/-- The 256 rows' state is the state after their four chunks. -/
theorem ctx_fold (f v : ℕ → Row) (hf : ∀ i k, ∃ x : ℝ, 0 < x ∧ f i k = (x : EReal)) : st f v (fun _ _ => 0) 4 = ctx f v := by
  funext k a
  choose x hx using fun i => hf i k
  have hl : ∀ i, Ideal.log (f i k) = ((Real.log (x i) : ℝ) : EReal) := fun i => by
    rw [(hx i).2, Ideal.log_coe, if_neg (not_le.2 (hx i).1)]
  rw [st_zero f v k a _ hl]
  unfold ctx
  rw [← Fin.sum_univ_eq_sum_range (fun i => (1 - f i k)
        * ((Real.exp (∑ y ∈ Finset.range (64 * 4), Real.log (x y) - ∑ y ∈ Finset.range (i + 1), Real.log (x y)) : ℝ) : EReal) * v i a) (64 * 4)]
  refine Finset.sum_congr rfl fun j _ => ?_
  rw [dec_all f k _ hl (N := 256), dec_all f k _ hl (N := 256), ← EReal.coe_sub, Ideal.exp_coe]
  rfl

/-- Over a positive lower bound at most one the gate is a positive real, whatever the preactivation. -/
theorem gate_pos (l : ℝ) (h0 : 0 < l) (h1 : l ≤ 1) (z : EReal) : ∃ x : ℝ, 0 < x ∧ gate (l : EReal) z = (x : EReal) := by
  have key : ∃ s : ℝ, 0 ≤ s ∧ Ideal.div 1 (1 + Ideal.exp (-z)) = (s : EReal) := by
    induction z with
    | bot =>
      have : (1 : EReal) + ⊤ = ⊤ := EReal.coe_add_top 1
      exact ⟨0, le_refl _, by simp [Ideal.div, this]⟩
    | top =>
      refine ⟨1, zero_le_one, ?_⟩
      have : (1 : EReal) + Ideal.exp (-⊤) = ((1 : ℝ) : EReal) := by simp
      rw [this, Ideal.div_coe one_ne_zero]; simp
    | coe r =>
      have hp : 0 < 1 + Real.exp (-r) := by positivity
      refine ⟨1 / (1 + Real.exp (-r)), by positivity, ?_⟩
      have : (1 : EReal) + Ideal.exp (-(r : EReal)) = ((1 + Real.exp (-r) : ℝ) : EReal) := by
        rw [← EReal.coe_neg, Ideal.exp_coe, EReal.coe_add]; rfl
      rw [this, Ideal.div_coe hp.ne', one_mul]
  obtain ⟨s, hs, e⟩ := key
  refine ⟨l + (1 - l) * s, by nlinarith [mul_nonneg (sub_nonneg.2 h1) hs], ?_⟩
  unfold gate
  rw [e, EReal.coe_add, EReal.coe_mul, EReal.coe_sub]; rfl

end Cert.Scan

end
-- ==== Proof.KerChunk.lean ====
/- One chunk of the kernel on the extended reals. The kernel takes a chunk's running sums by a product with a 0/1 triangle,
   of the log-decays in two parts; the second part is zero because the log-decays are finite, and the product with the first
   is the running sum. Backwards the triangle is the other one: the rows are read in the reverse order. The kernel's state is
   the transpose of the mathematics'. -/
module

public import proofs.«01_k».proof.Proof.Body
public import proofs.«01_k».proof.Proof.Chunk

@[expose] public section

noncomputable section

namespace Cert.KernelIdeal.Scan

open Idealize.ShloMosaic
open Cert.KernelIdeal.Gen Cert.Scan
open scoped BigOperators

set_option maxRecDepth 16384

/-- The kernel's scale of the queries. -/
def qs : EReal := Ideal.ofBits .f32 0x3DB504F3#32

/-- A chunk's rows as the kernel reads them, and in the reverse order. -/
def fr (x : Vec Ideal S1x64x128 .f32) : Fin 64 → Row := fun r k => x (ix3 0 r k)
def br (x : Vec Ideal S1x64x128 .f32) : Fin 64 → Row := fun r k => x (ix3 0 r.rev k)
/-- The gates of a block of preactivations. -/
def gt (lb : Vec Ideal S1x128 .f32) (z : Fin 64 → Row) : Fin 64 → Row := fun r k => gate (lb (ix2 0 k)) (z r k)
/-- The kernel's state, keys first. -/
def tr (S : Vec Ideal S128x128 .f32) : Mat := fun k a => S (ix2 a k)

/-- Every gate's logarithm is a real number. -/
def LogReal (f : Fin 64 → Row) : Prop := ∀ r k, ∃ x : ℝ, Ideal.log (f r k) = (x : EReal)

theorem toInt_ofNat {a : ℕ} (ha : a < 2 ^ 31) : (BitVec.ofNat 32 a).toInt = (a : ℤ) := by
  have h : (BitVec.ofNat 32 a).toNat = a := by rw [BitVec.toNat_ofNat]; omega
  rw [BitVec.toInt_eq_toNat_of_lt (by rw [h]; omega), h]

theorem slt_ofNat {a b : ℕ} (ha : a < 2 ^ 31) (hb : b < 2 ^ 31) : (BitVec.ofNat 32 a).sle (BitVec.ofNat 32 b) = decide (a ≤ b) := by
  rw [BitVec.sle_eq_decide, toInt_ofNat ha, toInt_ofNat hb]
  exact decide_eq_decide.2 Int.ofNat_le

theorem cmp_le (x r : Fin 64) : IntOp.cmpi CmpIPredicate.sle (BitVec.ofNat 32 x.val) (BitVec.ofNat 32 r.val) = BitVec.ofBool (decide (x ≤ r)) := by
  show BitVec.ofBool ((BitVec.ofNat 32 x.val).sle (BitVec.ofNat 32 r.val)) = _
  rw [slt_ofNat (by omega) (by omega)]; rfl

theorem cmp_ge (x r : Fin 64) : IntOp.cmpi CmpIPredicate.sge (BitVec.ofNat 32 x.val) (BitVec.ofNat 32 r.val) = BitVec.ofBool (decide (r ≤ x)) := by
  show BitVec.ofBool ((BitVec.ofNat 32 r.val).sle (BitVec.ofNat 32 x.val)) = _
  rw [slt_ofNat (by omega) (by omega)]; rfl

theorem sel_bool {α : Type} (p : Prop) [Decidable p] (a b : α) : Scalar.select (BitVec.ofBool (decide p)) a b = if p then a else b := by
  by_cases h : p <;> simp [h, Scalar.select]

theorem sel_le {α : Type} (x r : Fin 64) (a b : α) :
    Scalar.select (IntOp.cmpi CmpIPredicate.sle (BitVec.ofNat 32 x.val) (BitVec.ofNat 32 r.val)) a b = if x ≤ r then a else b := by
  rw [cmp_le]; exact sel_bool _ _ _

theorem sel_ge {α : Type} (x r : Fin 64) (a b : α) :
    Scalar.select (IntOp.cmpi CmpIPredicate.sge (BitVec.ofNat 32 x.val) (BitVec.ofNat 32 r.val)) a b = if r ≤ x then a else b := by
  rw [cmp_ge]; exact sel_bool _ _ _

theorem mask_num (p : Prop) [Decidable p] : (FloatOps.sitofp FTy.f32 (BitVec.setWidth 32 (BitVec.ofBool (decide p))) : Ideal .f32) = if p then 1 else 0 := by
  show (((BitVec.setWidth 32 (BitVec.ofBool (decide p))).toInt : ℝ) : EReal) = _
  by_cases h : p <;> simp [h]

theorem tri_f (r c : Fin 64) : k0_pay3 (F := Ideal) (ix2 r c) = if c ≤ r then 1 else 0 := by
  pointwise [k0_pay3, k0_pay1]
  rw [cmp_le]; exact mask_num _

theorem tri_b (r c : Fin 64) : k0_pay4 (F := Ideal) (ix2 r c) = if r ≤ c then 1 else 0 := by
  pointwise [k0_pay4, k0_pay2]
  rw [cmp_ge]; exact mask_num _

theorem gate_f (lb : Vec Ideal S1x128 .f32) (z : Vec Ideal S1x64x128 .f32) (r : Fin 64) (k : Fin 128) :
    k0_pay36 (k0_pay5 lb) z (ix2 r k) = gt lb (fr z) r k := by
  pointwise [k0_pay36, k0_pay5]
  simp only [gt, fr, gate, zero_sub]

theorem gate_b (lb : Vec Ideal S1x128 .f32) (z : Vec Ideal S1x64x128 .f32) (r : Fin 64) (k : Fin 128) :
    k0_pay46 (k0_pay6 lb) z (ix2 r k) = gt lb (br z) r.rev k := by
  pointwise [k0_pay46, k0_pay6]
  simp only [gt, br, gate, zero_sub, Fin.rev_rev]

theorem dec_f (lb : Vec Ideal S1x128 .f32) (z : Vec Ideal S1x64x128 .f32) (h : LogReal (gt lb (fr z))) (r : Fin 64) (k : Fin 128) :
    k0_pay37 k0_pay3 (k0_pay5 lb) z (ix2 r k) = dec (gt lb (fr z)) r k := by
  pointwise [k0_pay37, tri_f, gate_f]
  rw [Finset.sum_eq_zero (s := Finset.univ) (f := fun x => (if x ≤ r then (1 : EReal) else 0) * (Ideal.log (gt lb (fr z) x k) - Ideal.log (gt lb (fr z) x k)))
    fun x _ => by obtain ⟨y, hy⟩ := h x k; rw [hy, ← EReal.coe_sub, sub_self]; exact mul_zero _, add_zero]
  show _ = ∑ i, if i ≤ r then Ideal.log (gt lb (fr z) i k) else 0
  exact Finset.sum_congr rfl fun x _ => by rw [ite_mul, one_mul, zero_mul]

theorem dec_b (lb : Vec Ideal S1x128 .f32) (z : Vec Ideal S1x64x128 .f32) (h : LogReal (gt lb (br z))) (r : Fin 64) (k : Fin 128) :
    k0_pay47 k0_pay4 (k0_pay6 lb) z (ix2 r k) = dec (gt lb (br z)) r.rev k := by
  pointwise [k0_pay47, tri_b, gate_b]
  rw [Finset.sum_eq_zero (s := Finset.univ) (f := fun x : Fin 64 => (if r ≤ x then (1 : EReal) else 0) * (Ideal.log (gt lb (br z) x.rev k) - Ideal.log (gt lb (br z) x.rev k)))
    fun x _ => by obtain ⟨y, hy⟩ := h x.rev k; rw [hy, ← EReal.coe_sub, sub_self]; exact mul_zero _, add_zero]
  refine Eq.trans ?_ (cum_rev (fun x : Fin 64 => Ideal.log (gt lb (br z) x.rev k)) r).symm |>.trans ?_
  · exact Finset.sum_congr rfl fun x _ => by rw [ite_mul, one_mul, zero_mul]
  · simp only [Fin.rev_rev]; rfl

theorem out_f (lb : Vec Ideal S1x128 .f32) (q z v : Vec Ideal S1x64x128 .f32) (S : Vec Ideal S128x128 .f32)
    (h : LogReal (gt lb (fr z))) (r : Fin 64) (a : Fin 128) :
    fOut lb q z v S (ix3 0 r a) = out qs (fr q) (gt lb (fr z)) (fr v) (tr S) r a := by
  pointwise [fOut, k0_pay43, k0_pay1, k0_pay35, k0_pay38, k0_pay40, k0_pay41, k0_pay42, gate_f, dec_f lb z h]
  refine congrArg₂ (· + ·) (Finset.sum_congr rfl fun x _ => ?_) rfl
  rw [sel_le x r, ite_mul, zero_mul]; rfl

theorem st_f (lb : Vec Ideal S1x128 .f32) (z v : Vec Ideal S1x64x128 .f32) (S : Vec Ideal S128x128 .f32)
    (h : LogReal (gt lb (fr z))) : tr (fSt lb z v S) = upd (gt lb (fr z)) (fr v) (tr S) := by
  funext k a
  show fSt lb z v S (ix2 a k) = _
  pointwise [fSt, k0_pay44, k0_pay35, k0_pay39, gate_f, dec_f lb z h]
  exact congrArg₂ (· + ·) rfl (Finset.sum_congr rfl fun x _ => mul_comm _ _)

theorem out_b (lb : Vec Ideal S1x128 .f32) (q z v : Vec Ideal S1x64x128 .f32) (S : Vec Ideal S128x128 .f32)
    (h : LogReal (gt lb (br z))) (r : Fin 64) (a : Fin 128) :
    bOut lb q z v S (ix3 0 r a) = out qs (br q) (gt lb (br z)) (br v) (tr S) r.rev a := by
  pointwise [bOut, k0_pay9, k0_pay2, k0_pay45, k0_pay48, k0_pay50, k0_pay51, k0_pay52, gate_b, dec_b lb z h]
  refine congrArg₂ (· + ·) ?_ (Finset.sum_congr rfl fun x _ => by simp only [br, Fin.rev_rev, qs]; rfl)
  rw [← Equiv.sum_comp Fin.revPerm (fun j => (if j ≤ r.rev then att qs (br q) (gt lb (br z)) r.rev j else 0) * br v j a)]
  refine Finset.sum_congr rfl fun x _ => ?_
  simp only [Fin.revPerm_apply, Fin.rev_le_rev]
  rw [sel_ge x r, ite_mul, zero_mul]
  simp only [att, br, qs, Fin.rev_rev]
  rfl

theorem st_b (lb : Vec Ideal S1x128 .f32) (z v : Vec Ideal S1x64x128 .f32) (S : Vec Ideal S128x128 .f32)
    (h : LogReal (gt lb (br z))) : tr (bSt lb z v S) = upd (gt lb (br z)) (br v) (tr S) := by
  funext k a
  show bSt lb z v S (ix2 a k) = _
  pointwise [bSt, k0_pay10, k0_pay45, k0_pay49, gate_b, dec_b lb z h]
  refine congrArg₂ (· + ·) rfl ?_
  rw [← Equiv.sum_comp Fin.revPerm (fun j => ((1 - gt lb (br z) j k) * Ideal.exp (dec (gt lb (br z)) 63 k - dec (gt lb (br z)) j k)) * br v j a)]
  refine Finset.sum_congr rfl fun x _ => (mul_comm _ _).trans ?_
  simp only [Fin.revPerm_apply, br, Fin.rev_rev]
  rfl

end Cert.KernelIdeal.Scan

end
-- ==== Proof.Seq.lean ====
/- The scan over a run of rows: a run of `N` rows as a function of time, forwards and backwards, and what the scan reads
   at a row, the state of the context behind it. -/
module

public import proofs.«01_k».proof.Proof.Chunk

@[expose] public section

noncomputable section

namespace Cert.Scan

open Idealize.ShloMosaic
open scoped BigOperators

/-- `N` rows as a function of time. -/
def tm {N : ℕ} (x : Fin N → Row) : ℕ → Row := fun t => if h : t < N then x ⟨t, h⟩ else fun _ => 0

theorem tm_of_lt {N : ℕ} (x : Fin N → Row) {t : ℕ} (h : t < N) : tm x t = x ⟨t, h⟩ := dif_pos h

/-- The rows read from the last to the first. -/
def bk {N : ℕ} (x : Fin N → Row) : Fin N → Row := fun t => x t.rev

/-- The 128 channels from `o` on of batch `b`'s rows. -/
def pick {N M : ℕ} (z : FVec Ideal ⟨3, ![8, N, M]⟩ .f32) (b : Fin 8) (o : ℕ) (ho : o + 128 ≤ M) : Fin N → Row :=
  fun t k => z (ix3 b t ⟨o + k.val, by omega⟩)

/-- The gates of a run of preactivations, over the lower bounds of 128 channels. -/
def gates {N : ℕ} (l : Row) (z : Fin N → Row) : Fin N → Row := fun t k => gate (l k) (z t k)

/-- Row `64 n + r` of the scan, from the state `S0`. -/
def scan (c : EReal) {N : ℕ} (q f v : Fin N → Row) (S0 : Mat) (n : ℕ) (r : Fin 64) (a : Fin 128) : EReal :=
  out c (rows (tm q) n) (rows (tm f) n) (rows (tm v) n) (st (tm f) (tm v) S0 n) r a

/-- A chunk's row of a run is the run's row. -/
theorem rows_tm {N : ℕ} (x : Fin N → Row) (n : ℕ) (r : Fin 64) (h : n * 64 + r.val < N) : rows (tm x) n r = x ⟨n * 64 + r.val, h⟩ := by
  show tm x (64 * n + r.val) = _
  rw [Nat.mul_comm 64 n]
  exact tm_of_lt x h

end Cert.Scan

end
-- ==== Proof.KerSeq.lean ====
/- The kernel's eight steps on a block of rows as the scan of those rows: the states after each step, and the values
   written at each row, forwards and backwards. -/
module

public import proofs.«01_k».proof.Proof.KerChunk
public import proofs.«01_k».proof.Proof.Seq
public import Idealize.ShloMosaic.Lib.Pipeline.Value

@[expose] public section

noncomputable section

namespace Cert.KernelIdeal.Scan

open Idealize.ShloMosaic
open Cert.KernelIdeal.Gen Cert.Scan
open scoped BigOperators

set_option maxRecDepth 16384

theorem trips_eq : k0_t1_loop.trips = 8 := by decide +kernel

theorem off1 : ∀ k : Fin k0_t1_loop.trips, k0_off1 k = ![0, k.val * 64, 0] := by decide +kernel

theorem off2 : ∀ k : Fin k0_t1_loop.trips, k0_off2 k = ![0, (7 - k.val) * 64, 0] := by decide +kernel

theorem trip_lt (k : Fin k0_t1_loop.trips) : k.val < 8 := lt_of_lt_of_eq k.isLt trips_eq

theorem emb_rF (k : Fin k0_t1_loop.trips) (r : Fin 64) (a : Fin 128) :
    (rF k).emb (ix3 0 r a) = (ix3 0 ⟨k.val * 64 + r.val, by have := trip_lt k; omega⟩ a : S1x512x128.Idx) := by
  funext b
  apply Fin.ext
  show k0_off1 k b + 1 * _ = _
  rw [off1]
  fin_cases b
  · rfl
  · show k.val * 64 + 1 * r.val = k.val * 64 + r.val
    omega
  · show 0 + 1 * a.val = a.val
    omega

theorem emb_rB (k : Fin k0_t1_loop.trips) (r : Fin 64) (a : Fin 128) :
    (rB k).emb (ix3 0 r a) = (ix3 0 ⟨(7 - k.val) * 64 + r.val, by omega⟩ a : S1x512x128.Idx) := by
  funext b
  apply Fin.ext
  show k0_off2 k b + 1 * _ = _
  rw [off2]
  fin_cases b
  · rfl
  · show (7 - k.val) * 64 + 1 * r.val = (7 - k.val) * 64 + r.val
    omega
  · show 0 + 1 * a.val = a.val
    omega

theorem ld_rF (x : Vec Ideal S1x512x128 .f32) (k : Fin k0_t1_loop.trips) (r : Fin 64) (a : Fin 128) :
    View.ld x (rF k) (ix3 0 r a) = x (ix3 0 ⟨k.val * 64 + r.val, by have := trip_lt k; omega⟩ a) := congrArg x (emb_rF k r a)

theorem ld_rB (x : Vec Ideal S1x512x128 .f32) (k : Fin k0_t1_loop.trips) (r : Fin 64) (a : Fin 128) :
    View.ld x (rB k) (ix3 0 r a) = x (ix3 0 ⟨(7 - k.val) * 64 + r.val, by omega⟩ a) := congrArg x (emb_rB k r a)

/-- What step `k` writes at its rows stays there. -/
theorem fBlk_emb (lb : Vec Ideal S1x128 .f32) (q z v : Vec Ideal S1x512x128 .f32) (S : Vec Ideal S128x128 .f32) (k : Fin k0_t1_loop.trips) (r : Fin 64) (a : Fin 128) :
    fBlk lb q z v S ((rF k).emb (ix3 0 r a))
      = fOut lb (View.ld q (rF k)) (View.ld z (rF k)) (View.ld v (rF k)) (fS lb z v S k.val) (ix3 0 r a) := by
  have key : ∀ n ≤ k0_t1_loop.trips, k.val < n → View.canon (fP lb q z v S n) ((rF k).emb (ix3 0 r a))
      = fOut lb (View.ld q (rF k)) (View.ld z (rF k)) (View.ld v (rF k)) (fS lb z v S k.val) (ix3 0 r a) := by
    intro n
    induction n with
    | zero => intro _ h; exact absurd h (Nat.not_lt_zero _)
    | succ n ih =>
      intro hn hk
      have hlt : n < k0_t1_loop.trips := hn
      rw [fP, dif_pos hlt]
      by_cases e : k.val = n
      · subst e
        exact View.canon_cons_emb (rF k) _ _ (ix3 0 r a)
      · rw [View.canon_cons_of_not_mem]
        · exact ih (Nat.le_of_succ_le hn) (by omega)
        · intro hm
          have h1 := (Rect.mem_set_unit (inb := k0_off1_inb ⟨n, hlt⟩)).mp hm (1 : Fin 3)
          rw [off1, emb_rF] at h1
          have h2 : n * 64 ≤ k.val * 64 + r.val := h1.1
          omega
  exact key _ le_rfl k.isLt

theorem bBlk_emb (lb : Vec Ideal S1x128 .f32) (q z v : Vec Ideal S1x512x128 .f32) (S : Vec Ideal S128x128 .f32) (k : Fin k0_t1_loop.trips) (r : Fin 64) (a : Fin 128) :
    bBlk lb q z v S ((rB k).emb (ix3 0 r a))
      = bOut lb (View.ld q (rB k)) (View.ld z (rB k)) (View.ld v (rB k)) (bS lb z v S k.val) (ix3 0 r a) := by
  have key : ∀ n ≤ k0_t1_loop.trips, k.val < n → View.canon (bP lb q z v S n) ((rB k).emb (ix3 0 r a))
      = bOut lb (View.ld q (rB k)) (View.ld z (rB k)) (View.ld v (rB k)) (bS lb z v S k.val) (ix3 0 r a) := by
    intro n
    induction n with
    | zero => intro _ h; exact absurd h (Nat.not_lt_zero _)
    | succ n ih =>
      intro hn hk
      have hlt : n < k0_t1_loop.trips := hn
      rw [bP, dif_pos hlt]
      by_cases e : k.val = n
      · subst e
        exact View.canon_cons_emb (rB k) _ _ (ix3 0 r a)
      · rw [View.canon_cons_of_not_mem]
        · exact ih (Nat.le_of_succ_le hn) (by omega)
        · intro hm
          have h1 := (Rect.mem_set_unit (inb := k0_off2_inb ⟨n, hlt⟩)).mp hm (1 : Fin 3)
          rw [off2, emb_rB] at h1
          have h2 : (7 - k.val) * 64 + r.val < (7 - n) * 64 + 64 := h1.2
          have h3 := trips_eq
          omega
  exact key _ le_rfl k.isLt

/-! ## A block's rows as rows of the run -/

/-- The block holds rows `512 j …` of the run. -/
def At (x : Vec Ideal S1x512x128 .f32) (f : Fin 4096 → Row) (j : ℕ) (hj : j < 8) : Prop :=
  ∀ (r : Fin 512) (k : Fin 128), x (ix3 0 r k) = f ⟨j * 512 + r.val, by omega⟩ k

theorem fr_at (x : Vec Ideal S1x512x128 .f32) (f : Fin 4096 → Row) (j : ℕ) (hj : j < 8) (hx : At x f j hj) (k : Fin k0_t1_loop.trips) :
    fr (View.ld x (rF k)) = rows (tm f) (8 * j + k.val) := by
  have hk := trip_lt k
  funext r a
  rw [rows_tm f _ r (by omega)]
  refine (ld_rF x k r a).trans ((hx _ a).trans ?_)
  exact congrArg (fun i => f i a) (Fin.ext (by simp only []; omega))

theorem br_at (x : Vec Ideal S1x512x128 .f32) (f : Fin 4096 → Row) (j : ℕ) (hj : j < 8) (hx : At x f (7 - j) (by omega)) (k : Fin k0_t1_loop.trips) :
    br (View.ld x (rB k)) = rows (tm (bk f)) (8 * j + k.val) := by
  have hk := trip_lt k
  funext r a
  rw [rows_tm (bk f) _ r (by omega)]
  refine (ld_rB x k r.rev a).trans ((hx _ a).trans ?_)
  exact congrArg (fun i => f i a) (Fin.ext (by simp only [Fin.val_rev]; omega))

theorem gt_rows {N : ℕ} (lb : Vec Ideal S1x128 .f32) (l : Row) (hl : ∀ k, lb (ix2 0 k) = l k) (z : Fin N → Row) (n : ℕ) (hn : n * 64 + 63 < N) :
    gt lb (rows (tm z) n) = rows (tm (gates l z)) n := by
  funext r k
  rw [rows_tm _ n r (by omega)]
  show gate (lb (ix2 0 k)) (rows (tm z) n r k) = gate (l k) (z ⟨n * 64 + r.val, _⟩ k)
  rw [rows_tm _ n r (by omega), hl]

/-- Every lower bound is a positive real at most one. -/
def Low (l : Row) : Prop := ∀ k, ∃ x : ℝ, 0 < x ∧ x ≤ 1 ∧ l k = (x : EReal)

theorem gates_pos {N : ℕ} (l : Row) (hl : Low l) (z : Fin N → Row) (t : Fin N) (k : Fin 128) : ∃ x : ℝ, 0 < x ∧ gates l z t k = (x : EReal) := by
  obtain ⟨x, h0, h1, e⟩ := hl k
  obtain ⟨y, hy, ey⟩ := gate_pos x h0 h1 (z t k)
  refine ⟨y, hy, ?_⟩
  show gate (l k) (z t k) = _
  rw [e, ey]

theorem log_rows {N : ℕ} (f : Fin N → Row) (hf : ∀ t k, ∃ x : ℝ, 0 < x ∧ f t k = (x : EReal)) (n : ℕ) (hn : n * 64 + 63 < N) : LogReal (rows (tm f) n) := by
  intro r k
  rw [rows_tm _ n r (by omega)]
  obtain ⟨x, hx, e⟩ := hf ⟨n * 64 + r.val, by omega⟩ k
  exact ⟨Real.log x, by rw [e, Ideal.log_coe, if_neg (not_le.2 hx)]⟩

section Loop

variable (lb : Vec Ideal S1x128 .f32) (l : Row) (hl : ∀ k, lb (ix2 0 k) = l k) (hp : Low l)
  (q z v : Vec Ideal S1x512x128 .f32) (q' z' v' : Fin 4096 → Row) (j : ℕ) (hj : j < 8) (S : Vec Ideal S128x128 .f32) (S0 : Mat)

include hl hp

/-- The states of the forward steps. -/
theorem fS_st (hz : At z z' j hj) (hv : At v v' j hj) (hS : tr S = st (tm (gates l z')) (tm v') S0 (8 * j)) (k : ℕ) (hk : k ≤ k0_t1_loop.trips) :
    tr (fS lb z v S k) = st (tm (gates l z')) (tm v') S0 (8 * j + k) := by
  induction k with
  | zero => exact hS
  | succ k ih =>
    have hlt : k < k0_t1_loop.trips := hk
    have h8 : k < 8 := trip_lt ⟨k, hlt⟩
    rw [fS, dif_pos hlt]
    have e : gt lb (fr (View.ld z (rF ⟨k, hlt⟩))) = rows (tm (gates l z')) (8 * j + k) := by
      rw [fr_at z z' j hj hz]; exact gt_rows lb l hl z' _ (by simp only []; omega)
    rw [st_f _ _ _ _ (by rw [e]; exact log_rows _ (gates_pos l hp z') _ (by omega)), e, fr_at v v' j hj hv, ih (Nat.le_of_succ_le hk)]
    rfl

/-- The values of the forward steps. -/
theorem fBlk_scan (hq : At q q' j hj) (hz : At z z' j hj) (hv : At v v' j hj) (hS : tr S = st (tm (gates l z')) (tm v') S0 (8 * j)) (k : Fin k0_t1_loop.trips)
    (r : Fin 64) (a : Fin 128) :
    fBlk lb q z v S (ix3 0 ⟨k.val * 64 + r.val, by have := trip_lt k; omega⟩ a) = scan qs q' (gates l z') v' S0 (8 * j + k.val) r a := by
  have h8 : k.val < 8 := trip_lt k
  have e : gt lb (fr (View.ld z (rF k))) = rows (tm (gates l z')) (8 * j + k.val) := by
    rw [fr_at z z' j hj hz]; exact gt_rows lb l hl z' _ (by omega)
  rw [← emb_rF, fBlk_emb, out_f _ _ _ _ _ (by rw [e]; exact log_rows _ (gates_pos l hp z') _ (by omega)), e, fr_at v v' j hj hv, fr_at q q' j hj hq,
    fS_st lb l hl hp z v z' v' j hj S S0 hz hv hS k.val (Nat.le_of_lt k.isLt)]
  rfl

/-- The states of the backward steps. -/
theorem bS_st (hz : At z z' (7 - j) (by omega)) (hv : At v v' (7 - j) (by omega))
    (hS : tr S = st (tm (bk (gates l z'))) (tm (bk v')) S0 (8 * j)) (k : ℕ) (hk : k ≤ k0_t1_loop.trips) :
    tr (bS lb z v S k) = st (tm (bk (gates l z'))) (tm (bk v')) S0 (8 * j + k) := by
  induction k with
  | zero => exact hS
  | succ k ih =>
    have hlt : k < k0_t1_loop.trips := hk
    have h8 : k < 8 := trip_lt ⟨k, hlt⟩
    rw [bS, dif_pos hlt]
    have e : gt lb (br (View.ld z (rB ⟨k, hlt⟩))) = rows (tm (bk (gates l z'))) (8 * j + k) := by
      rw [br_at z z' j hj hz]; exact gt_rows lb l hl (bk z') _ (by simp only []; omega)
    rw [st_b _ _ _ _ (by rw [e]; exact log_rows _ (gates_pos l hp (bk z')) _ (by omega)), e, br_at v v' j hj hv, ih (Nat.le_of_succ_le hk)]
    rfl

/-- The values of the backward steps. -/
theorem bBlk_scan (hq : At q q' (7 - j) (by omega)) (hz : At z z' (7 - j) (by omega)) (hv : At v v' (7 - j) (by omega))
    (hS : tr S = st (tm (bk (gates l z'))) (tm (bk v')) S0 (8 * j)) (k : Fin k0_t1_loop.trips) (r : Fin 64) (a : Fin 128) :
    bBlk lb q z v S (ix3 0 ⟨(7 - k.val) * 64 + r.val, by omega⟩ a) = scan qs (bk q') (bk (gates l z')) (bk v') S0 (8 * j + k.val) r.rev a := by
  have h8 : k.val < 8 := trip_lt k
  have e : gt lb (br (View.ld z (rB k))) = rows (tm (bk (gates l z'))) (8 * j + k.val) := by
    rw [br_at z z' j hj hz]; exact gt_rows lb l hl (bk z') _ (by omega)
  have ho := out_b lb (View.ld q (rB k)) (View.ld z (rB k)) (View.ld v (rB k)) (bS lb z v S k.val)
    (by rw [e]; exact log_rows _ (gates_pos l hp (bk z')) _ (by omega)) r a
  rw [← emb_rB, bBlk_emb, ho, e, br_at v v' j hj hv, br_at q q' j hj hq,
    bS_st lb l hl hp z v z' v' j hj S S0 hz hv hS k.val (Nat.le_of_lt k.isLt)]
  rfl

end Loop

/-! ## The context -/

/-- The block holds the 256 rows of the run. -/
def CAt (x : Vec Ideal S1x256x128 .f32) (f : Fin 256 → Row) : Prop := ∀ (r : Fin 256) (k : Fin 128), x (ix3 0 r k) = f r k

theorem ctx_fold_tm (f v : Fin 256 → Row) (hf : ∀ t k, ∃ x : ℝ, 0 < x ∧ f t k = (x : EReal)) : st (tm f) (tm v) (fun _ _ => 0) 4 = ctx (tm f) (tm v) := by
  let g : ℕ → Row := fun t => if t < 256 then tm f t else fun _ => 1
  have hg : ∀ t, t < 256 → g t = tm f t := fun t ht => if_pos ht
  have hr : ∀ n < 4, rows g n = rows (tm f) n := fun n hn => funext fun r => hg _ (by omega)
  have h1 : st g (tm v) (fun _ _ => 0) 4 = st (tm f) (tm v) (fun _ _ => 0) 4 := by
    simp only [st]
    rw [hr 0 (by omega), hr 1 (by omega), hr 2 (by omega), hr 3 (by omega)]
  have h2 : ctx g (tm v) = ctx (tm f) (tm v) := by
    have e : (fun i : Fin 256 => g i.val) = fun i : Fin 256 => tm f i.val := funext fun i => hg _ i.isLt
    funext k a
    unfold ctx
    rw [e]
    exact Finset.sum_congr rfl fun i _ => by rw [hg _ i.isLt]
  rw [← h1, ← h2]
  refine ctx_fold g (tm v) fun i k => ?_
  by_cases h : i < 256
  · rw [hg i h, tm_of_lt f h]; exact hf _ _
  · exact ⟨1, one_pos, by show (if i < 256 then tm f i else fun _ => 1) k = _; rw [if_neg h]; rfl⟩

theorem cr0_at (x : Vec Ideal S1x256x128 .f32) (r : Fin 64) (k : Fin 128) : cr0 x (ix3 0 r k) = x (ix3 0 ⟨0 * 64 + r.val, by omega⟩ k) :=
  congrArg x (funext fun a => Fin.ext (by
    fin_cases a
    · rfl
    · show 0 + 1 * r.val = 0 * 64 + r.val
      omega
    · show 0 + 1 * k.val = k.val
      omega))

theorem cr1_at (x : Vec Ideal S1x256x128 .f32) (r : Fin 64) (k : Fin 128) : cr1 x (ix3 0 r k) = x (ix3 0 ⟨1 * 64 + r.val, by omega⟩ k) :=
  congrArg x (funext fun a => Fin.ext (by
    fin_cases a
    · rfl
    · show 64 + 1 * r.val = 1 * 64 + r.val
      omega
    · show 0 + 1 * k.val = k.val
      omega))

theorem cr2_at (x : Vec Ideal S1x256x128 .f32) (r : Fin 64) (k : Fin 128) : cr2 x (ix3 0 r k) = x (ix3 0 ⟨2 * 64 + r.val, by omega⟩ k) :=
  congrArg x (funext fun a => Fin.ext (by
    fin_cases a
    · rfl
    · show 128 + 1 * r.val = 2 * 64 + r.val
      omega
    · show 0 + 1 * k.val = k.val
      omega))

theorem cr3_at (x : Vec Ideal S1x256x128 .f32) (r : Fin 64) (k : Fin 128) : cr3 x (ix3 0 r k) = x (ix3 0 ⟨3 * 64 + r.val, by omega⟩ k) :=
  congrArg x (funext fun a => Fin.ext (by
    fin_cases a
    · rfl
    · show 192 + 1 * r.val = 3 * 64 + r.val
      omega
    · show 0 + 1 * k.val = k.val
      omega))

theorem fr_ctx (x : Vec Ideal S1x256x128 .f32) (y : Vec Ideal S1x64x128 .f32) (f : Fin 256 → Row) (hx : CAt x f) (n : ℕ) (hn : n < 4)
    (hy : ∀ (r : Fin 64) (k : Fin 128), y (ix3 0 r k) = x (ix3 0 ⟨n * 64 + r.val, by omega⟩ k)) : fr y = rows (tm f) n := by
  funext r k
  rw [rows_tm f n r (by omega)]
  exact (hy r k).trans (hx _ k)

theorem br_ctx (x : Vec Ideal S1x256x128 .f32) (y : Vec Ideal S1x64x128 .f32) (f : Fin 256 → Row) (hx : CAt x f) (n : ℕ) (hn : n < 4)
    (hy : ∀ (r : Fin 64) (k : Fin 128), y (ix3 0 r k) = x (ix3 0 ⟨(3 - n) * 64 + r.val, by omega⟩ k)) : br y = rows (tm (bk f)) n := by
  funext r k
  rw [rows_tm (bk f) n r (by omega)]
  refine (hy r.rev k).trans ((hx _ k).trans ?_)
  exact congrArg (fun i => f i k) (Fin.ext (by simp only [Fin.val_rev]; omega))

/-- The state nothing has been added to. -/
def zS : Vec Ideal S128x128 .f32 := k0_pay11 (F := Ideal)

theorem tr_zS : tr zS = fun _ _ => 0 := by
  funext k a
  show Ideal.ofBits .f32 0x00000000#32 = 0
  simp [Ideal.ofBits, Ideal.ieee]

theorem sc128 (x : FVec Ideal S128x128 .f32) (h : S128x128.ShapeCasts S128x128) : shapeCast S128x128 x h = x := shapeCast_self x h

theorem f0 (lb : Vec Ideal S1x128 .f32) (g v : Vec Ideal S1x64x128 .f32) : k0_pay12 k0_pay3 (k0_pay5 lb) g v = fSt lb g v zS :=
  (sc128 (k0_pay12 k0_pay3 (k0_pay5 lb) g v) shapeCasts_S128x128_S128x128).symm
theorem f1 (lb : Vec Ideal S1x128 .f32) (g v : Vec Ideal S1x64x128 .f32) (S : Vec Ideal S128x128 .f32) :
    k0_pay16 k0_pay3 (k0_pay5 lb) S (k0_pay14 g) (k0_pay15 (k0_pay5 lb)) v = fSt lb g v S :=
  (sc128 (k0_pay16 k0_pay3 (k0_pay5 lb) S (k0_pay14 g) (k0_pay15 (k0_pay5 lb)) v) shapeCasts_S128x128_S128x128).symm
theorem f2 (lb : Vec Ideal S1x128 .f32) (g v : Vec Ideal S1x64x128 .f32) (S : Vec Ideal S128x128 .f32) :
    k0_pay22 k0_pay3 (k0_pay5 lb) S (k0_pay21 (k0_pay5 lb) g) v = fSt lb g v S :=
  (sc128 (k0_pay22 k0_pay3 (k0_pay5 lb) S (k0_pay21 (k0_pay5 lb) g) v) shapeCasts_S128x128_S128x128).symm
theorem f3 (lb : Vec Ideal S1x128 .f32) (g v : Vec Ideal S1x64x128 .f32) (S : Vec Ideal S128x128 .f32) :
    k0_pay7 (k0_pay30 S (k0_pay28 (k0_pay5 lb) g) (k0_pay29 k0_pay3 (k0_pay5 lb) g) v) = fSt lb g v S := rfl

theorem b0 (lb : Vec Ideal S1x128 .f32) (g v : Vec Ideal S1x64x128 .f32) (S : Vec Ideal S128x128 .f32) : k0_pay13 k0_pay4 (k0_pay6 lb) S g v = bSt lb g v S :=
  (sc128 (k0_pay13 k0_pay4 (k0_pay6 lb) S g v) shapeCasts_S128x128_S128x128).symm
theorem b1 (lb : Vec Ideal S1x128 .f32) (g v : Vec Ideal S1x64x128 .f32) (S : Vec Ideal S128x128 .f32) :
    k0_pay20 k0_pay4 (k0_pay6 lb) S (k0_pay17 (k0_pay6 lb)) (k0_pay18 g) k0_pay19 v = bSt lb g v S :=
  (sc128 (k0_pay20 k0_pay4 (k0_pay6 lb) S (k0_pay17 (k0_pay6 lb)) (k0_pay18 g) k0_pay19 v) shapeCasts_S128x128_S128x128).symm
theorem b2 (lb : Vec Ideal S1x128 .f32) (g v : Vec Ideal S1x64x128 .f32) (S : Vec Ideal S128x128 .f32) :
    k0_pay27 k0_pay4 S (k0_pay23 (k0_pay6 lb) g) (k0_pay25 (k0_pay6 lb) g) (k0_pay26 (k0_pay6 lb) g) v = bSt lb g v S :=
  (sc128 (k0_pay27 k0_pay4 S (k0_pay23 (k0_pay6 lb) g) (k0_pay25 (k0_pay6 lb) g) (k0_pay26 (k0_pay6 lb) g) v) shapeCasts_S128x128_S128x128).symm
theorem b3 (lb : Vec Ideal S1x128 .f32) (g v : Vec Ideal S1x64x128 .f32) (S : Vec Ideal S128x128 .f32) :
    k0_pay8 S (k0_pay31 (k0_pay6 lb) g) (k0_pay32 k0_pay4 (k0_pay6 lb) g) (k0_pay33 k0_pay4 (k0_pay6 lb) g) (k0_pay34 v) = bSt lb g v S := rfl

theorem cF_eq (lb : Vec Ideal S1x128 .f32) (g v : Vec Ideal S1x256x128 .f32) :
    cF lb g v = fSt lb (cr3 g) (cr3 v) (fSt lb (cr2 g) (cr2 v) (fSt lb (cr1 g) (cr1 v) (fSt lb (cr0 g) (cr0 v) zS))) := by
  unfold cF
  rw [f0, f1, f2, f3]

theorem cB_eq (lb : Vec Ideal S1x128 .f32) (g v : Vec Ideal S1x256x128 .f32) :
    cB lb g v = bSt lb (cr0 g) (cr0 v) (bSt lb (cr1 g) (cr1 v) (bSt lb (cr2 g) (cr2 v) (bSt lb (cr3 g) (cr3 v) zS))) := by
  unfold cB
  rw [b0, b1, b2, b3]
  rfl

section Ctx

variable (lb : Vec Ideal S1x128 .f32) (l : Row) (hl : ∀ k, lb (ix2 0 k) = l k) (hp : Low l)
  (z v : Vec Ideal S1x256x128 .f32) (z' v' : Fin 256 → Row) (hz : CAt z z') (hv : CAt v v')

include hl hp hz hv

theorem cF_ctx : tr (cF lb z v) = ctx (tm (gates l z')) (tm v') := by
  rw [← ctx_fold_tm _ _ (gates_pos l hp z'), cF_eq]
  have g (n : ℕ) (hn : n < 4) (y : Vec Ideal S1x64x128 .f32) (hy : ∀ (r : Fin 64) (k : Fin 128), y (ix3 0 r k) = z (ix3 0 ⟨n * 64 + r.val, by omega⟩ k)) :
      gt lb (fr y) = rows (tm (gates l z')) n := by
    rw [fr_ctx z y z' hz n hn hy]; exact gt_rows lb l hl z' n (by omega)
  have L (n : ℕ) (hn : n < 4) : LogReal (rows (tm (gates l z')) n) := log_rows _ (gates_pos l hp z') n (by omega)
  rw [st_f _ _ _ _ (by rw [g 3 (by omega) _ (cr3_at z)]; exact L 3 (by omega)), g 3 (by omega) _ (cr3_at z), fr_ctx v _ v' hv 3 (by omega) (cr3_at v),
    st_f _ _ _ _ (by rw [g 2 (by omega) _ (cr2_at z)]; exact L 2 (by omega)), g 2 (by omega) _ (cr2_at z), fr_ctx v _ v' hv 2 (by omega) (cr2_at v),
    st_f _ _ _ _ (by rw [g 1 (by omega) _ (cr1_at z)]; exact L 1 (by omega)), g 1 (by omega) _ (cr1_at z), fr_ctx v _ v' hv 1 (by omega) (cr1_at v),
    st_f _ _ _ _ (by rw [g 0 (by omega) _ (cr0_at z)]; exact L 0 (by omega)), g 0 (by omega) _ (cr0_at z), fr_ctx v _ v' hv 0 (by omega) (cr0_at v), tr_zS]
  rfl

theorem cB_ctx : tr (cB lb z v) = ctx (tm (bk (gates l z'))) (tm (bk v')) := by
  have hq : ∀ t k, ∃ x : ℝ, 0 < x ∧ bk (gates l z') t k = (x : EReal) := gates_pos l hp (bk z')
  rw [← ctx_fold_tm _ _ hq, cB_eq]
  have g (n : ℕ) (hn : n < 4) (y : Vec Ideal S1x64x128 .f32) (hy : ∀ (r : Fin 64) (k : Fin 128), y (ix3 0 r k) = z (ix3 0 ⟨(3 - n) * 64 + r.val, by omega⟩ k)) :
      gt lb (br y) = rows (tm (bk (gates l z'))) n := by
    rw [br_ctx z y z' hz n hn hy]; exact gt_rows lb l hl (bk z') n (by omega)
  have L (n : ℕ) (hn : n < 4) : LogReal (rows (tm (bk (gates l z'))) n) := log_rows _ hq n (by omega)
  rw [st_b _ _ _ _ (by rw [g 3 (by omega) _ (cr0_at z)]; exact L 3 (by omega)), g 3 (by omega) _ (cr0_at z), br_ctx v _ v' hv 3 (by omega) (cr0_at v),
    st_b _ _ _ _ (by rw [g 2 (by omega) _ (cr1_at z)]; exact L 2 (by omega)), g 2 (by omega) _ (cr1_at z), br_ctx v _ v' hv 2 (by omega) (cr1_at v),
    st_b _ _ _ _ (by rw [g 1 (by omega) _ (cr2_at z)]; exact L 1 (by omega)), g 1 (by omega) _ (cr2_at z), br_ctx v _ v' hv 1 (by omega) (cr2_at v),
    st_b _ _ _ _ (by rw [g 0 (by omega) _ (cr3_at z)]; exact L 0 (by omega)), g 0 (by omega) _ (cr3_at z), br_ctx v _ v' hv 0 (by omega) (cr3_at v), tr_zS]
  rfl

end Ctx

end Cert.KernelIdeal.Scan

end
-- ==== Proof.KerBlk.lean ====
/- The blocks the kernel's grid points read, each entry as an entry of the array it was cut from. -/
module

public import proofs.«01_k».proof.Proof.Frame
public import Idealize.ShloMosaic.Lib.Pipeline.ValueKit

@[expose] public section

noncomputable section

namespace Cert.KernelIdeal.Scan

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

theorem ix_0 : ∀ t : Fin cfg0.N, win0_0.index t = ![t.val / 32 % 8, t.val % 8, t.val / 8 % 4] := (by decide +kernel : ∀ t : Fin grid0.N, _)
theorem ix_1 : ∀ t : Fin cfg0.N, win0_1.index t = ![t.val / 32 % 8, t.val % 8, 4 + t.val / 8 % 4] := (by decide +kernel : ∀ t : Fin grid0.N, _)
theorem ix_2 : ∀ t : Fin cfg0.N, win0_2.index t = ![t.val / 32 % 8, t.val % 8, 12 + t.val / 8 % 4] := (by decide +kernel : ∀ t : Fin grid0.N, _)
theorem ix_3 : ∀ t : Fin cfg0.N, win0_3.index t = ![t.val / 32 % 8, 7 - t.val % 8, t.val / 8 % 4] := (by decide +kernel : ∀ t : Fin grid0.N, _)
theorem ix_4 : ∀ t : Fin cfg0.N, win0_4.index t = ![t.val / 32 % 8, 7 - t.val % 8, 8 + t.val / 8 % 4] := (by decide +kernel : ∀ t : Fin grid0.N, _)
theorem ix_5 : ∀ t : Fin cfg0.N, win0_5.index t = ![t.val / 32 % 8, 7 - t.val % 8, 12 + t.val / 8 % 4] := (by decide +kernel : ∀ t : Fin grid0.N, _)
theorem ix_6 : ∀ t : Fin cfg0.N, win0_6.index t = ![t.val / 32 % 8, 0, t.val / 8 % 4] := (by decide +kernel : ∀ t : Fin grid0.N, _)
theorem ix_7 : ∀ t : Fin cfg0.N, win0_7.index t = ![t.val / 32 % 8, 0, 4 + t.val / 8 % 4] := (by decide +kernel : ∀ t : Fin grid0.N, _)
theorem ix_8 : ∀ t : Fin cfg0.N, win0_8.index t = ![t.val / 32 % 8, 0, 8 + t.val / 8 % 4] := (by decide +kernel : ∀ t : Fin grid0.N, _)
theorem ix_9 : ∀ t : Fin cfg0.N, win0_9.index t = ![0, t.val / 8 % 4] := (by decide +kernel : ∀ t : Fin grid0.N, _)
theorem ix_10 : ∀ t : Fin cfg0.N, win0_10.index t = ![0, t.val / 8 % 4] := (by decide +kernel : ∀ t : Fin grid0.N, _)
theorem ix_11 : ∀ t : Fin cfg0.N, win0_11.index t = ![t.val / 32 % 8, t.val % 8, t.val / 8 % 4] := (by decide +kernel : ∀ t : Fin grid0.N, _)
theorem ix_12 : ∀ t : Fin cfg0.N, win0_12.index t = ![t.val / 32 % 8, 7 - t.val % 8, t.val / 8 % 4] := (by decide +kernel : ∀ t : Fin grid0.N, _)

theorem blk_0 (c : Dev nD) (t : Fin cfg0.N) (r : Fin 512) (k : Fin 128) :
    iblk m c 0 t (ix3 0 r k : S1x512x128.Idx) = V m c main_arg0 (ix3 ⟨t.val / 32 % 8, by omega⟩ ⟨t.val % 8 * 512 + r.val, by omega⟩ ⟨t.val / 8 % 4 * 128 + k.val, by omega⟩ : S8x4096x5120.Idx) := by
  blk_simp [iblk]
  refine congrArg (V m c main_arg0) (funext fun a => Fin.ext ?_)
  blk_simp [ix_0]
  fin_cases a
  · exact Nat.mul_one _
  · rfl
  · rfl

theorem blk_1 (c : Dev nD) (t : Fin cfg0.N) (r : Fin 512) (k : Fin 128) :
    iblk m c 1 t (ix3 0 r k : S1x512x128.Idx) = V m c main_arg0 (ix3 ⟨t.val / 32 % 8, by omega⟩ ⟨t.val % 8 * 512 + r.val, by omega⟩ ⟨(4 + t.val / 8 % 4) * 128 + k.val, by omega⟩ : S8x4096x5120.Idx) := by
  blk_simp [iblk]
  refine congrArg (V m c main_arg0) (funext fun a => Fin.ext ?_)
  blk_simp [ix_1]
  fin_cases a
  · exact Nat.mul_one _
  · rfl
  · rfl

theorem blk_2 (c : Dev nD) (t : Fin cfg0.N) (r : Fin 512) (k : Fin 128) :
    iblk m c 2 t (ix3 0 r k : S1x512x128.Idx) = V m c main_arg0 (ix3 ⟨t.val / 32 % 8, by omega⟩ ⟨t.val % 8 * 512 + r.val, by omega⟩ ⟨(12 + t.val / 8 % 4) * 128 + k.val, by omega⟩ : S8x4096x5120.Idx) := by
  blk_simp [iblk]
  refine congrArg (V m c main_arg0) (funext fun a => Fin.ext ?_)
  blk_simp [ix_2]
  fin_cases a
  · exact Nat.mul_one _
  · rfl
  · rfl

theorem blk_3 (c : Dev nD) (t : Fin cfg0.N) (r : Fin 512) (k : Fin 128) :
    iblk m c 3 t (ix3 0 r k : S1x512x128.Idx) = V m c main_arg0 (ix3 ⟨t.val / 32 % 8, by omega⟩ ⟨(7 - t.val % 8) * 512 + r.val, by omega⟩ ⟨t.val / 8 % 4 * 128 + k.val, by omega⟩ : S8x4096x5120.Idx) := by
  blk_simp [iblk]
  refine congrArg (V m c main_arg0) (funext fun a => Fin.ext ?_)
  blk_simp [ix_3]
  fin_cases a
  · exact Nat.mul_one _
  · rfl
  · rfl

theorem blk_4 (c : Dev nD) (t : Fin cfg0.N) (r : Fin 512) (k : Fin 128) :
    iblk m c 4 t (ix3 0 r k : S1x512x128.Idx) = V m c main_arg0 (ix3 ⟨t.val / 32 % 8, by omega⟩ ⟨(7 - t.val % 8) * 512 + r.val, by omega⟩ ⟨(8 + t.val / 8 % 4) * 128 + k.val, by omega⟩ : S8x4096x5120.Idx) := by
  blk_simp [iblk]
  refine congrArg (V m c main_arg0) (funext fun a => Fin.ext ?_)
  blk_simp [ix_4]
  fin_cases a
  · exact Nat.mul_one _
  · rfl
  · rfl

theorem blk_5 (c : Dev nD) (t : Fin cfg0.N) (r : Fin 512) (k : Fin 128) :
    iblk m c 5 t (ix3 0 r k : S1x512x128.Idx) = V m c main_arg0 (ix3 ⟨t.val / 32 % 8, by omega⟩ ⟨(7 - t.val % 8) * 512 + r.val, by omega⟩ ⟨(12 + t.val / 8 % 4) * 128 + k.val, by omega⟩ : S8x4096x5120.Idx) := by
  blk_simp [iblk]
  refine congrArg (V m c main_arg0) (funext fun a => Fin.ext ?_)
  blk_simp [ix_5]
  fin_cases a
  · exact Nat.mul_one _
  · rfl
  · rfl

theorem blk_6 (c : Dev nD) (t : Fin cfg0.N) (r : Fin 256) (k : Fin 128) :
    iblk m c 6 t (ix3 0 r k : S1x256x128.Idx) = V m c main_arg1 (ix3 ⟨t.val / 32 % 8, by omega⟩ r ⟨t.val / 8 % 4 * 128 + k.val, by omega⟩ : S8x256x1536.Idx) := by
  blk_simp [iblk]
  refine congrArg (V m c main_arg1) (funext fun a => Fin.ext ?_)
  blk_simp [ix_6]
  fin_cases a
  · exact Nat.mul_one _
  · exact Nat.zero_add _
  · rfl

theorem blk_7 (c : Dev nD) (t : Fin cfg0.N) (r : Fin 256) (k : Fin 128) :
    iblk m c 7 t (ix3 0 r k : S1x256x128.Idx) = V m c main_arg1 (ix3 ⟨t.val / 32 % 8, by omega⟩ r ⟨(4 + t.val / 8 % 4) * 128 + k.val, by omega⟩ : S8x256x1536.Idx) := by
  blk_simp [iblk]
  refine congrArg (V m c main_arg1) (funext fun a => Fin.ext ?_)
  blk_simp [ix_7]
  fin_cases a
  · exact Nat.mul_one _
  · exact Nat.zero_add _
  · rfl

theorem blk_8 (c : Dev nD) (t : Fin cfg0.N) (r : Fin 256) (k : Fin 128) :
    iblk m c 8 t (ix3 0 r k : S1x256x128.Idx) = V m c main_arg1 (ix3 ⟨t.val / 32 % 8, by omega⟩ r ⟨(8 + t.val / 8 % 4) * 128 + k.val, by omega⟩ : S8x256x1536.Idx) := by
  blk_simp [iblk]
  refine congrArg (V m c main_arg1) (funext fun a => Fin.ext ?_)
  blk_simp [ix_8]
  fin_cases a
  · exact Nat.mul_one _
  · exact Nat.zero_add _
  · rfl

theorem blk_9 (c : Dev nD) (t : Fin cfg0.N) (k : Fin 128) :
    iblk m c 9 t (ix2 0 k : S1x128.Idx) = V m c main_v14 (ix2 0 ⟨t.val / 8 % 4 * 128 + k.val, by omega⟩ : S1x512.Idx) := by
  blk_simp [iblk]
  refine congrArg (V m c main_v14) (funext fun a => Fin.ext ?_)
  blk_simp [ix_9]
  fin_cases a
  · rfl
  · rfl

theorem blk_10 (c : Dev nD) (t : Fin cfg0.N) (k : Fin 128) :
    iblk m c 10 t (ix2 0 k : S1x128.Idx) = V m c main_v29 (ix2 0 ⟨t.val / 8 % 4 * 128 + k.val, by omega⟩ : S1x512.Idx) := by
  blk_simp [iblk]
  refine congrArg (V m c main_v29) (funext fun a => Fin.ext ?_)
  blk_simp [ix_10]
  fin_cases a
  · rfl
  · rfl

theorem emb_11 (t : Fin cfg0.N) (r : Fin 512) (k : Fin 128) :
    ((cfg0.win 11).blk t).view.emb (ix3 0 r k : S1x512x128.Idx) = (ix3 ⟨t.val / 32 % 8, by omega⟩ ⟨t.val % 8 * 512 + r.val, by omega⟩ ⟨t.val / 8 % 4 * 128 + k.val, by omega⟩ : S8x4096x512.Idx) := by
  refine funext fun a => Fin.ext ?_
  blk_simp [ix_11]
  fin_cases a
  · exact Nat.mul_one _
  · rfl
  · rfl

theorem emb_12 (t : Fin cfg0.N) (r : Fin 512) (k : Fin 128) :
    ((cfg0.win 12).blk t).view.emb (ix3 0 r k : S1x512x128.Idx) = (ix3 ⟨t.val / 32 % 8, by omega⟩ ⟨(7 - t.val % 8) * 512 + r.val, by omega⟩ ⟨t.val / 8 % 4 * 128 + k.val, by omega⟩ : S8x4096x512.Idx) := by
  refine funext fun a => Fin.ext ?_
  blk_simp [ix_12]
  fin_cases a
  · exact Nat.mul_one _
  · rfl
  · rfl

end Cert.KernelIdeal.Scan

end
-- ==== Proof.Lb.lean ====
/- A lower bound: the softmax over the two layers' rows, at its first row. -/
module

public import proofs.«01_k».proof.Proof.Seq
public import proofs.«01_k».proof.Pre_lb_finite
public import Idealize.ShloMosaic.Lib.ReduceAll
public import Idealize.ShloMosaic.Lib.Affine

@[expose] public section

noncomputable section

namespace Cert.Scan

open Idealize.ShloMosaic
open scoped BigOperators

/-- The first layer's weight of a softmax over two. -/
def lbVal (x : Fin 2 → EReal) : EReal :=
  Ideal.div (Ideal.exp (x 0 - max (Ideal.ofBits .f32 0xFF800000#32) (Finset.univ.fold max (Ideal.ofBits .f32 0xFF800000#32) x)))
    (∑ k, Ideal.exp (x k - max (Ideal.ofBits .f32 0xFF800000#32) (Finset.univ.fold max (Ideal.ofBits .f32 0xFF800000#32) x)))

/-- Of real entries it is a positive real number, at most one. -/
theorem lbVal_pos (x : Fin 2 → EReal) (hx : ∀ k, ∃ r : ℝ, x k = (r : EReal)) : ∃ l : ℝ, 0 < l ∧ l ≤ 1 ∧ lbVal x = (l : EReal) := by
  obtain ⟨u, hu⟩ := hx 0
  obtain ⟨v, hv⟩ := hx 1
  have hb : Ideal.ofBits .f32 0xFF800000#32 = ⊥ := by simp [Ideal.ofBits, Ideal.ieee]
  have hm : max (Ideal.ofBits .f32 0xFF800000#32) (Finset.univ.fold max (Ideal.ofBits .f32 0xFF800000#32) x) = ((max u v : ℝ) : EReal) := by
    rw [hb]
    have : (Finset.univ : Finset (Fin 2)) = {0, 1} := rfl
    rw [this, Finset.fold_insert (by decide), Finset.fold_singleton, hu, hv]
    simp only [bot_le, max_eq_left, max_eq_right]
    exact (EReal.coe_strictMono.monotone.map_max).symm
  unfold lbVal
  rw [hm, Fin.sum_univ_two, hu, hv, ← EReal.coe_sub, ← EReal.coe_sub, Ideal.exp_coe, Ideal.exp_coe, ← EReal.coe_add]
  have ha := Real.exp_pos (u - max u v)
  have hc := Real.exp_pos (v - max u v)
  rw [Ideal.div_coe (by positivity), ← EReal.coe_mul]
  refine ⟨_, by positivity, ?_, rfl⟩
  rw [mul_one_div, div_le_one (by positivity)]
  linarith

theorem real_of_abs (x : EReal) (h : FloatOps.cmpf (F := Ideal) (φ := .f32) .olt (FloatOps.absf x) (Ideal.ofBits .f32 0x7F800000#32) = 1#1) : ∃ r : ℝ, x = (r : EReal) := by
  have ht : Ideal.ofBits .f32 0x7F800000#32 = ⊤ := by simp [Ideal.ofBits, Ideal.ieee]
  rw [ht] at h
  change Ideal.cmp .olt (max x (-x)) ⊤ = 1#1 at h
  induction x with
  | bot => exact absurd h (by simp [Ideal.cmp])
  | top => exact absurd h (by simp [Ideal.cmp])
  | coe r => exact ⟨r, rfl⟩

/-- What the precondition says. -/
theorem real_of_pre [Cert.Pre_lb_finite.Facts] (a0 : FVec Ideal Pre_lb_finite.S8x4096x5120 .f32) (a1 : FVec Ideal Pre_lb_finite.S8x256x1536 .f32)
    (a2 a3 : FVec Ideal Pre_lb_finite.S2x512 .f32) (h : Cert.Pre_lb_finite.fn (F := Ideal) a0 a1 a2 a3 = fun _ => 1#1) :
    (∀ i, ∃ r : ℝ, a2 i = (r : EReal)) ∧ ∀ i, ∃ r : ℝ, a3 i = (r : EReal) := by
  have h0 := congrFun h ix0
  dsimp only [Cert.Pre_lb_finite.fn] at h0
  have hs : Subsingleton Pre_lb_finite.S_.Idx := ⟨fun _ _ => funext fun a => a.elim0⟩
  obtain ⟨h2, h3⟩ := IntOp.andi_eq_one.1 h0
  exact ⟨fun i => real_of_abs _ (Host.reduce_andi_all _ _ _ _ _ h2 i), fun i => real_of_abs _ (Host.reduce_andi_all _ _ _ _ _ h3 i)⟩

end Cert.Scan

end
-- ==== Proof.Window.lean ====
/- A running sum along one axis, taken as a window sum: the window is as long as the axis, padded in front, and one wide
   along every other axis. At index `j` it is the sum of the entries whose place on the axis is at most `j`'s. -/
module

public import Idealize.ShloMosaic.Lib.Pointwise
public import Idealize.ShloMosaic.Lib.IdealHost

@[expose] public section

noncomputable section

namespace Cert.Scan

open Idealize.ShloMosaic
open scoped BigOperators

theorem foldl_plus {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The window sum of the header, at `j`. -/
theorem window_sum {φ : FTy} {s u : Shape} (a : Fin s.rank) (w st lo hi : Fin s.rank → ℕ) (x : FVec Ideal s φ) (init : u.Idx → Ideal φ)
    (h : s.ReduceWindows w st lo hi s) (hu : 0 < u.numel) (hst : ∀ b, st b = 1) (hw : ∀ b, b ≠ a → w b = 1) (hlo : ∀ b, b ≠ a → lo b = 0)
    (hwa : w a = s.size a) (hla : lo a + 1 = s.size a) (hi0 : init (Shape.Idx.first hu) = 0) (j : s.Idx) :
    Host.reduceWindowAdd w st lo hi x init h hu j = ∑ i : Fin (s.size a), if i ≤ j a then x (Function.update j a i) else 0 := by
  show Ideal.hostReduceWindowAdd w st lo hi h x (init (Shape.Idx.first hu)) j = _
  rw [hi0]
  unfold Ideal.hostReduceWindowAdd Host.reduceWindow
  dsimp only
  rw [foldl_plus, zero_add, ← Fin.sum_univ_def]
  let W : Shape := ⟨s.rank, w⟩
  let G : W.Idx → EReal := fun p => if hin : ∀ b : Fin s.rank, lo b ≤ (j (b.cast h.1.symm)).val * st b + (p b).val ∧ (j (b.cast h.1.symm)).val * st b + (p b).val - lo b < s.size b
    then x (fun b => ⟨(j (b.cast h.1.symm)).val * st b + (p b).val - lo b, (hin b).2⟩) else 0
  refine Eq.trans (Finset.sum_congr rfl fun n _ => (?_ : _ = G (W.rowMajor.symm n))) ((Equiv.sum_comp W.rowMajor.symm G).trans ?_)
  · dsimp only [G]
    split <;> rfl
  have hj := (j a).isLt
  have hc : ∀ b, (j (b.cast h.1.symm)).val = (j b).val := fun b => rfl
  have hz : ∀ (p : W.Idx) b, b ≠ a → (p b).val = 0 := fun p b hb => by
    have h1 : (p b).val < w b := (p b).isLt
    rw [hw b hb] at h1; omega
  have hin_of : ∀ p, G p ≠ 0 → ∀ b : Fin s.rank, lo b ≤ (j (b.cast h.1.symm)).val * st b + (p b).val ∧ (j (b.cast h.1.symm)).val * st b + (p b).val - lo b < s.size b := fun p hp => by
    by_contra hn; exact hp (dif_neg hn)
  refine Finset.sum_bij_ne_zero (fun p _ hp => ⟨(j (a.cast h.1.symm)).val * st a + (p a).val - lo a, (hin_of p hp a).2⟩) (fun _ _ _ => Finset.mem_univ _) ?_ ?_ ?_
  · intro p _ hp q _ hq e
    have e' := congrArg Fin.val e
    dsimp only at e'
    have h1 := (hin_of p hp a).1
    have h2 := (hin_of q hq a).1
    funext b
    by_cases hb : b = a
    · subst hb; exact Fin.ext (by omega)
    · exact Fin.ext ((hz p b hb).trans (hz q b hb).symm)
  · intro i _ hi'
    have hij : i ≤ j a := by by_contra hn; exact hi' (if_neg hn)
    have hij' : i.val ≤ (j a).val := hij
    have hlt : lo a + i.val - (j a).val < w a := by rw [hwa]; omega
    let p : W.Idx := fun b => ⟨if b = a then lo a + i.val - (j a).val else 0, by
      by_cases hb : b = a
      · subst hb; simpa using hlt
      · show _ < w b
        rw [if_neg hb, hw b hb]; exact Nat.one_pos⟩
    have pa : (p a).val = lo a + i.val - (j a).val := if_pos rfl
    have hin : ∀ b : Fin s.rank, lo b ≤ (j (b.cast h.1.symm)).val * st b + (p b).val ∧ (j (b.cast h.1.symm)).val * st b + (p b).val - lo b < s.size b := fun b => by
      have hjb := (j b).isLt
      rw [hc b]
      by_cases hb : b = a
      · subst hb; rw [pa, hst]; omega
      · rw [hz p b hb, hst, hlo b hb]; omega
    have hG : G p = x (Function.update j a i) := (dif_pos hin).trans (congrArg x (funext fun b => by
      by_cases hb : b = a
      · subst hb
        rw [Function.update_self]
        exact Fin.ext (by dsimp only; rw [hc, pa, hst]; omega)
      · rw [Function.update_of_ne hb]
        exact Fin.ext (by dsimp only; rw [hc, hz p b hb, hst, hlo b hb]; omega)))
    refine ⟨p, Finset.mem_univ _, ?_, ?_⟩
    · rw [hG]; rw [if_pos hij] at hi'; exact hi'
    · exact Fin.ext (by dsimp only; rw [hc, pa, hst]; omega)
  · intro p _ hp
    have hin := hin_of p hp
    have h1 := hin a
    have hpa : (p a).val < w a := (p a).isLt
    rw [hst, hc] at h1
    rw [if_pos (show _ ≤ j a from Fin.mk_le_of_le_val (by rw [hst, hc]; omega))]
    refine (dif_pos hin).trans (congrArg x (funext fun b => ?_))
    by_cases hb : b = a
    · subst hb; rw [Function.update_self]
    · rw [Function.update_of_ne hb]
      exact Fin.ext (by dsimp only; rw [hc, hz p b hb, hst, hlo b hb]; omega)

end Cert.Scan

end
-- ==== Proof.KerLb.lean ====
/- The lower bounds the kernel reads: the first row of the running sums of a softmax over the layers. -/
module

public import proofs.«01_k».proof.Proof.Frame
public import proofs.«01_k».proof.Proof.Lb
public import proofs.«01_k».proof.Proof.Window
public import Idealize.ShloMosaic.Lib.StableHlo.RunRead
public import Idealize.ShloMosaic.Lib.StableHlo.RunClose
public import Idealize.ShloMosaic.Lib.Pipeline.Value

@[expose] public section

noncomputable section

namespace Cert.KernelIdeal.Scan

open Idealize.ShloMosaic Idealize.ShloMosaic.TcCoe Idealize.SL.Sem
open Cert.KernelIdeal Cert.KernelIdeal.Gen Cert.Scan
open scoped BigOperators

set_option maxRecDepth 16384

/-- A softmax over the layers. -/
def smx (x : FVec Ideal S2x512 .f32) : FVec Ideal S2x512 .f32 :=
  Host.divf
    (Host.exp (subf x (broadcastInDim S2x512 ![0, 1] bcast_S1x512_S2x512_0_1 (broadcastInDim S1x512 ![1] bcast_S512_S1x512_1
      (maximumf (broadcastInDim S512 ![] bcast_S_S512 (constant S_ FTy.f32 4286578688#32))
        (Host.reduce FloatOps.maximumf x (constant S_ FTy.f32 4286578688#32) reducesTo_S2x512_S512_d0 h_S_))))))
    (broadcastInDim S2x512 ![0, 1] bcast_S1x512_S2x512_0_1 (broadcastInDim S1x512 ![1] bcast_S512_S1x512_1
      (Host.reduceAdd
        (Host.exp (subf x (broadcastInDim S2x512 ![0, 1] bcast_S1x512_S2x512_0_1 (broadcastInDim S1x512 ![1] bcast_S512_S1x512_1
          (maximumf (broadcastInDim S512 ![] bcast_S_S512 (constant S_ FTy.f32 4286578688#32))
            (Host.reduce FloatOps.maximumf x (constant S_ FTy.f32 4286578688#32) reducesTo_S2x512_S512_d0 h_S_))))))
        (constant S_ FTy.f32 0#32) reducesTo_S2x512_S512_d0 h_S_)))

/-- Its running sums. -/
def cms (x : FVec Ideal S2x512 .f32) : FVec Ideal S2x512 .f32 :=
  Host.reduceWindowAdd ![2, 1] ![1, 1] ![1, 0] ![0, 0] (smx x) (broadcastInDim S_ ![] bcast_S_S_ (constant S_ FTy.f32 0#32))
    reduceWindows_S2x512_S2x512_w2s1p1_0_w1s1p0_0 h_S_

/-- Their first row. -/
def lbArr (x : FVec Ideal S2x512 .f32) : FVec Ideal S1x512 .f32 :=
  broadcastInDim S1x512 ![1] bcast_S512_S1x512_1 (shapeCast S512 (extractStridedSlice S1x512 ![0, 0] (cms x) slices_S2x512_S1x512_0_0) shapeCasts_S1x512_S512)

theorem smx_row (x : FVec Ideal S2x512 .f32) (c : Fin 512) : smx x (ix2 0 c) = lbVal (fun r => x (ix2 r c)) := by
  unfold lbVal
  pointwise [smx]

theorem lbArr_eq (x : FVec Ideal S2x512 .f32) (c : Fin 512) : lbArr x (ix2 0 c) = lbVal (fun r => x (ix2 r c)) := by
  have e (y : FVec Ideal S2x512 .f32) : broadcastInDim S1x512 ![1] bcast_S512_S1x512_1 (shapeCast S512 (extractStridedSlice S1x512 ![0, 0] y slices_S2x512_S1x512_0_0) shapeCasts_S1x512_S512) (ix2 0 c)
      = y (ix2 0 c) := by
    pointwise
  refine (e (cms x)).trans (Eq.trans ?_ (smx_row x c))
  unfold cms
  refine (window_sum (s := S2x512) 0 ![2, 1] ![1, 1] ![1, 0] ![0, 0] _ _ _ _ (by decide) (by decide) (by decide) rfl rfl
      (by pointwise) _).trans ?_
  show (∑ i : Fin 2, if i ≤ 0 then smx x (Function.update (ix2 0 c) 0 i) else 0) = _
  rw [Fin.sum_univ_two, if_pos (le_refl _), if_neg (by decide), add_zero]
  exact congrArg (smx x) (funext fun a => by fin_cases a <;> rfl)

variable (m : (ℓ : Loc nD τ sig) → Buf (Elt Idealize.ShloMosaic.Ideal) ℓ)

theorem lb14 (c : Dev nD) : V m c main_v14 = lbArr (m ((c.tc : Thread nD τ).loc main_arg2)) := by
  unfold V; simp only [hostOps0, hostOps0_1, hostOps0_2, hostOps0_3, hostOps0_4, List.flatten_cons, List.flatten_nil, List.append_nil, List.cons_append, List.nil_append]; after_reads_simp
  rfl

theorem lb29 (c : Dev nD) : V m c main_v29 = lbArr (m ((c.tc : Thread nD τ).loc main_arg3)) := by
  unfold V; simp only [hostOps0, hostOps0_1, hostOps0_2, hostOps0_3, hostOps0_4, List.flatten_cons, List.flatten_nil, List.append_nil, List.cons_append, List.nil_append]; after_reads_simp
  rfl

end Cert.KernelIdeal.Scan

end
-- ==== Proof.KerVal.lean ====
/- What the kernel leaves in its two output arrays: at every row the scan of the rows it was given. -/
module

public import proofs.«01_k».proof.Proof.KerSeq
public import proofs.«01_k».proof.Proof.KerBlk
public import proofs.«01_k».proof.Proof.KerLb

@[expose] public section

noncomputable section

namespace Cert.KernelIdeal.Scan

open Idealize.ShloMosaic Idealize.ShloMosaic.TcCoe Idealize.SL.Sem
open Cert.KernelIdeal Cert.KernelIdeal.Gen Cert.Scan
open Idealize.ShloMosaic.Pipeline (Dat)

set_option maxRecDepth 16384

/-- The lower bounds of a head. -/
def lbs (x : FVec Ideal S2x512 .f32) (h : Fin 4) : Row := fun k => lbVal (fun r => x (ix2 r ⟨h.val * 128 + k.val, by omega⟩))

variable (m : (ℓ : Loc nD τ sig) → Buf (Elt Ideal) ℓ)

/-- The arguments as arrays. -/
def X0 (c : Dev nD) : FVec Ideal S8x4096x5120 .f32 := m ((c.tc : Thread nD τ).loc main_arg0)
def X1 (c : Dev nD) : FVec Ideal S8x256x1536 .f32 := m ((c.tc : Thread nD τ).loc main_arg1)
def X2 (c : Dev nD) : FVec Ideal S2x512 .f32 := m ((c.tc : Thread nD τ).loc main_arg2)
def X3 (c : Dev nD) : FVec Ideal S2x512 .f32 := m ((c.tc : Thread nD τ).loc main_arg3)

/-- The run of queries, forward and backward preactivations and values of batch `b`, head `h`. -/
def qR (c : Dev nD) (b : Fin 8) (h : Fin 4) : Fin 4096 → Row := pick (X0 m c) b (0 + h.val * 128) (by omega)
def fR (c : Dev nD) (b : Fin 8) (h : Fin 4) : Fin 4096 → Row := pick (X0 m c) b (512 + h.val * 128) (by omega)
def gR (c : Dev nD) (b : Fin 8) (h : Fin 4) : Fin 4096 → Row := pick (X0 m c) b (1024 + h.val * 128) (by omega)
def vR (c : Dev nD) (b : Fin 8) (h : Fin 4) : Fin 4096 → Row := pick (X0 m c) b (1536 + h.val * 128) (by omega)
/-- The same of the context. -/
def fC (c : Dev nD) (b : Fin 8) (h : Fin 4) : Fin 256 → Row := pick (X1 m c) b (0 + h.val * 128) (by omega)
def gC (c : Dev nD) (b : Fin 8) (h : Fin 4) : Fin 256 → Row := pick (X1 m c) b (512 + h.val * 128) (by omega)
def vC (c : Dev nD) (b : Fin 8) (h : Fin 4) : Fin 256 → Row := pick (X1 m c) b (1024 + h.val * 128) (by omega)

/-- The states the two scans start from. -/
def s0F (c : Dev nD) (b : Fin 8) (h : Fin 4) : Mat := ctx (tm (gates (lbs (X2 m c) h) (fC m c b h))) (tm (vC m c b h))
def s0B (c : Dev nD) (b : Fin 8) (h : Fin 4) : Mat := ctx (tm (bk (gates (lbs (X3 m c) h) (gC m c b h)))) (tm (bk (vC m c b h)))

/-- A grid point's batch and head. -/
def bOf (t : Fin cfg0.N) : Fin 8 := ⟨t.val / 32 % 8, by omega⟩
def hOf (t : Fin cfg0.N) : Fin 4 := ⟨t.val / 8 % 4, by omega⟩

theorem at_0 (c : Dev nD) (t : Fin cfg0.N) : At (iblk m c 0 t) (qR m c (bOf t) (hOf t)) (t.val % 8) (by omega) := fun r k => by
  refine (blk_0 m c t r k).trans ?_
  rw [V_main_arg0]
  exact congrArg (fun i => X0 m c (ix3 (bOf t) ⟨t.val % 8 * 512 + r.val, by omega⟩ i)) (Fin.ext (by show t.val / 8 % 4 * 128 + k.val = 0 + t.val / 8 % 4 * 128 + k.val; omega))
theorem at_1 (c : Dev nD) (t : Fin cfg0.N) : At (iblk m c 1 t) (fR m c (bOf t) (hOf t)) (t.val % 8) (by omega) := fun r k => by
  refine (blk_1 m c t r k).trans ?_
  rw [V_main_arg0]
  exact congrArg (fun i => X0 m c (ix3 (bOf t) ⟨t.val % 8 * 512 + r.val, by omega⟩ i)) (Fin.ext (by show (4 + t.val / 8 % 4) * 128 + k.val = 512 + t.val / 8 % 4 * 128 + k.val; omega))
theorem at_2 (c : Dev nD) (t : Fin cfg0.N) : At (iblk m c 2 t) (vR m c (bOf t) (hOf t)) (t.val % 8) (by omega) := fun r k => by
  refine (blk_2 m c t r k).trans ?_
  rw [V_main_arg0]
  exact congrArg (fun i => X0 m c (ix3 (bOf t) ⟨t.val % 8 * 512 + r.val, by omega⟩ i)) (Fin.ext (by show (12 + t.val / 8 % 4) * 128 + k.val = 1536 + t.val / 8 % 4 * 128 + k.val; omega))
theorem at_3 (c : Dev nD) (t : Fin cfg0.N) : At (iblk m c 3 t) (qR m c (bOf t) (hOf t)) (7 - t.val % 8) (by omega) := fun r k => by
  refine (blk_3 m c t r k).trans ?_
  rw [V_main_arg0]
  exact congrArg (fun i => X0 m c (ix3 (bOf t) ⟨(7 - t.val % 8) * 512 + r.val, by omega⟩ i)) (Fin.ext (by show t.val / 8 % 4 * 128 + k.val = 0 + t.val / 8 % 4 * 128 + k.val; omega))
theorem at_4 (c : Dev nD) (t : Fin cfg0.N) : At (iblk m c 4 t) (gR m c (bOf t) (hOf t)) (7 - t.val % 8) (by omega) := fun r k => by
  refine (blk_4 m c t r k).trans ?_
  rw [V_main_arg0]
  exact congrArg (fun i => X0 m c (ix3 (bOf t) ⟨(7 - t.val % 8) * 512 + r.val, by omega⟩ i)) (Fin.ext (by show (8 + t.val / 8 % 4) * 128 + k.val = 1024 + t.val / 8 % 4 * 128 + k.val; omega))
theorem at_5 (c : Dev nD) (t : Fin cfg0.N) : At (iblk m c 5 t) (vR m c (bOf t) (hOf t)) (7 - t.val % 8) (by omega) := fun r k => by
  refine (blk_5 m c t r k).trans ?_
  rw [V_main_arg0]
  exact congrArg (fun i => X0 m c (ix3 (bOf t) ⟨(7 - t.val % 8) * 512 + r.val, by omega⟩ i)) (Fin.ext (by show (12 + t.val / 8 % 4) * 128 + k.val = 1536 + t.val / 8 % 4 * 128 + k.val; omega))

theorem at_6 (c : Dev nD) (t : Fin cfg0.N) : CAt (iblk m c 6 t) (fC m c (bOf t) (hOf t)) := fun r k => by
  refine (blk_6 m c t r k).trans ?_
  rw [V_main_arg1]
  exact congrArg (fun i => X1 m c (ix3 (bOf t) r i)) (Fin.ext (by show t.val / 8 % 4 * 128 + k.val = 0 + t.val / 8 % 4 * 128 + k.val; omega))
theorem at_7 (c : Dev nD) (t : Fin cfg0.N) : CAt (iblk m c 7 t) (gC m c (bOf t) (hOf t)) := fun r k => by
  refine (blk_7 m c t r k).trans ?_
  rw [V_main_arg1]
  exact congrArg (fun i => X1 m c (ix3 (bOf t) r i)) (Fin.ext (by show (4 + t.val / 8 % 4) * 128 + k.val = 512 + t.val / 8 % 4 * 128 + k.val; omega))
theorem at_8 (c : Dev nD) (t : Fin cfg0.N) : CAt (iblk m c 8 t) (vC m c (bOf t) (hOf t)) := fun r k => by
  refine (blk_8 m c t r k).trans ?_
  rw [V_main_arg1]
  exact congrArg (fun i => X1 m c (ix3 (bOf t) r i)) (Fin.ext (by show (8 + t.val / 8 % 4) * 128 + k.val = 1024 + t.val / 8 % 4 * 128 + k.val; omega))

theorem at_9 (c : Dev nD) (t : Fin cfg0.N) (k : Fin 128) : iblk m c 9 t (ix2 0 k : S1x128.Idx) = lbs (X2 m c) (hOf t) k := by
  refine (blk_9 m c t k).trans ?_
  rw [lb14]
  exact lbArr_eq (X2 m c) _
theorem at_10 (c : Dev nD) (t : Fin cfg0.N) (k : Fin 128) : iblk m c 10 t (ix2 0 k : S1x128.Idx) = lbs (X3 m c) (hOf t) k := by
  refine (blk_10 m c t k).trans ?_
  rw [lb29]
  exact lbArr_eq (X3 m c) _

section Vals

variable (c : Dev nD) (h2 : ∀ i, ∃ r : ℝ, X2 m c i = (r : EReal)) (h3 : ∀ i, ∃ r : ℝ, X3 m c i = (r : EReal))

theorem low (x : FVec Ideal S2x512 .f32) (hx : ∀ i, ∃ r : ℝ, x i = (r : EReal)) (h : Fin 4) : Low (lbs x h) :=
  fun _ => lbVal_pos _ fun _ => hx _

include h2 h3

/-- The states a point starts from are the scans' after the chunks of the points before it. -/
theorem ent_st (n : ℕ) (hn : n < cfg0.N) :
    tr (ent m c n hn).1 = st (tm (gates (lbs (X2 m c) (hOf ⟨n, hn⟩)) (fR m c (bOf ⟨n, hn⟩) (hOf ⟨n, hn⟩)))) (tm (vR m c (bOf ⟨n, hn⟩) (hOf ⟨n, hn⟩)))
        (s0F m c (bOf ⟨n, hn⟩) (hOf ⟨n, hn⟩)) (8 * (n % 8))
    ∧ tr (ent m c n hn).2 = st (tm (bk (gates (lbs (X3 m c) (hOf ⟨n, hn⟩)) (gR m c (bOf ⟨n, hn⟩) (hOf ⟨n, hn⟩))))) (tm (bk (vR m c (bOf ⟨n, hn⟩) (hOf ⟨n, hn⟩))))
        (s0B m c (bOf ⟨n, hn⟩) (hOf ⟨n, hn⟩)) (8 * (n % 8)) := by
  induction n with
  | zero =>
    rw [show ent m c 0 hn = seed m c ⟨0, hn⟩ from rfl]
    exact ⟨cF_ctx (iblk m c 9 ⟨0, hn⟩) _ (at_9 m c ⟨0, hn⟩) (low _ h2 _) (iblk m c 6 ⟨0, hn⟩) (iblk m c 8 ⟨0, hn⟩) _ _ (at_6 m c _) (at_8 m c _),
      cB_ctx (iblk m c 10 ⟨0, hn⟩) _ (at_10 m c ⟨0, hn⟩) (low _ h3 _) (iblk m c 7 ⟨0, hn⟩) (iblk m c 8 ⟨0, hn⟩) _ _ (at_7 m c _) (at_8 m c _)⟩
  | succ n ih =>
    by_cases h0 : (n + 1) % 8 = 0
    · rw [ent_A m c ⟨n + 1, hn⟩ h0, h0]
      exact ⟨cF_ctx (iblk m c 9 ⟨n + 1, hn⟩) _ (at_9 m c ⟨n + 1, hn⟩) (low _ h2 _) (iblk m c 6 ⟨n + 1, hn⟩) (iblk m c 8 ⟨n + 1, hn⟩) _ _ (at_6 m c _) (at_8 m c _),
        cB_ctx (iblk m c 10 ⟨n + 1, hn⟩) _ (at_10 m c ⟨n + 1, hn⟩) (low _ h3 _) (iblk m c 7 ⟨n + 1, hn⟩) (iblk m c 8 ⟨n + 1, hn⟩) _ _ (at_7 m c _) (at_8 m c _)⟩
    · have hn' : n < cfg0.N := Nat.lt_of_succ_lt hn
      have e : ent m c (n + 1) hn = nx m c ⟨n, hn'⟩ (ent m c n hn') := if_neg h0
      have eb : bOf ⟨n + 1, hn⟩ = bOf ⟨n, hn'⟩ := Fin.ext (by show (n + 1) / 32 % 8 = n / 32 % 8; omega)
      have eh : hOf ⟨n + 1, hn⟩ = hOf ⟨n, hn'⟩ := Fin.ext (by show (n + 1) / 8 % 4 = n / 8 % 4; omega)
      have en : 8 * ((n + 1) % 8) = 8 * (n % 8) + k0_t1_loop.trips := by rw [trips_eq]; omega
      obtain ⟨i1, i2⟩ := ih hn'
      rw [e, eb, eh, en]
      exact ⟨fS_st (iblk m c 9 ⟨n, hn'⟩) _ (at_9 m c ⟨n, hn'⟩) (low _ h2 _) (iblk m c 1 ⟨n, hn'⟩) (iblk m c 2 ⟨n, hn'⟩) _ _ (n % 8) (by omega) _ _
          (at_1 m c _) (at_2 m c _) i1 _ le_rfl,
        bS_st (iblk m c 10 ⟨n, hn'⟩) _ (at_10 m c ⟨n, hn'⟩) (low _ h3 _) (iblk m c 4 ⟨n, hn'⟩) (iblk m c 5 ⟨n, hn'⟩) _ _ (n % 8) (by omega) _ _
          (at_4 m c _) (at_5 m c _) i2 _ le_rfl⟩

end Vals

/-- Row `64 n + r` of batch `b`, channel `a` of head `h`, of the forward scan. -/
def vF (c : Dev nD) (b : Fin 8) (n r : Fin 64) (h : Fin 4) (a : Fin 128) : EReal :=
  scan qs (qR m c b h) (gates (lbs (X2 m c) h) (fR m c b h)) (vR m c b h) (s0F m c b h) n.val r a
/-- The same of the backward scan. -/
def vB (c : Dev nD) (b : Fin 8) (n r : Fin 64) (h : Fin 4) (a : Fin 128) : EReal :=
  scan qs (bk (qR m c b h)) (bk (gates (lbs (X3 m c) h) (gR m c b h))) (bk (vR m c b h)) (s0B m c b h) n.rev.val r.rev a

/-- An array of the outputs' shape from its values by batch, chunk, row, head and channel. -/
def spread (x : Fin 8 → Fin 64 → Fin 64 → Fin 4 → Fin 128 → EReal) : FVec Ideal S8x4096x512 .f32 := fun i =>
  x (i 0) ⟨(i 1).val / 64, by have : (i 1).val < 4096 := (i 1).isLt; omega⟩ ⟨(i 1).val % 64, by omega⟩
    ⟨(i 2).val / 128, by have : (i 2).val < 512 := (i 2).isLt; omega⟩ ⟨(i 2).val % 128, by omega⟩

theorem spread_at (x : Fin 8 → Fin 64 → Fin 64 → Fin 4 → Fin 128 → EReal) (b : Fin 8) (n r : Fin 64) (h : Fin 4) (a : Fin 128) (i : Fin 4096) (j : Fin 512)
    (hi : i.val = n.val * 64 + r.val) (hj : j.val = h.val * 128 + a.val) : spread x (ix3 b i j) = x b n r h a := by
  have e1 : (⟨i.val / 64, by omega⟩ : Fin 64) = n := Fin.ext (by show i.val / 64 = n.val; omega)
  have e2 : (⟨i.val % 64, by omega⟩ : Fin 64) = r := Fin.ext (by show i.val % 64 = r.val; omega)
  have e3 : (⟨j.val / 128, by omega⟩ : Fin 4) = h := Fin.ext (by show j.val / 128 = h.val; omega)
  have e4 : (⟨j.val % 128, by omega⟩ : Fin 128) = a := Fin.ext (by show j.val % 128 = a.val; omega)
  show x b ⟨i.val / 64, _⟩ ⟨i.val % 64, _⟩ ⟨j.val / 128, _⟩ ⟨j.val % 128, _⟩ = _
  rw [e1, e2, e3, e4]

section Outs

variable (c : Dev nD) (h2 : ∀ i, ∃ r : ℝ, X2 m c i = (r : EReal)) (h3 : ∀ i, ∃ r : ℝ, X3 m c i = (r : EReal))

include h2 h3

theorem blkF (t : Fin cfg0.N) (y : Fin 512) (a : Fin 128) :
    (dats m 0 c).after 11 t (ix3 0 y a : S1x512x128.Idx)
      = spread (vF m c) (ix3 ⟨t.val / 32 % 8, by omega⟩ ⟨t.val % 8 * 512 + y.val, by omega⟩ ⟨t.val / 8 % 4 * 128 + a.val, by omega⟩) := by
  rw [after0_11]
  have hk : y.val / 64 < k0_t1_loop.trips := by rw [trips_eq]; omega
  have ey : y = ⟨(⟨y.val / 64, hk⟩ : Fin k0_t1_loop.trips).val * 64 + (⟨y.val % 64, by omega⟩ : Fin 64).val, by show y.val / 64 * 64 + y.val % 64 < 512; omega⟩ :=
    Fin.ext (by show y.val = y.val / 64 * 64 + y.val % 64; omega)
  have e := fBlk_scan (iblk m c 9 t) _ (at_9 m c t) (low _ h2 _) (iblk m c 0 t) (iblk m c 1 t) (iblk m c 2 t) _ _ _ (t.val % 8) (by omega)
    (ent m c t.val t.isLt).1 _ (at_0 m c t) (at_1 m c t) (at_2 m c t) (ent_st m c h2 h3 t.val t.isLt).1 ⟨y.val / 64, hk⟩ ⟨y.val % 64, by omega⟩ a
  rw [← ey] at e
  refine e.trans (Eq.symm ?_)
  exact spread_at (vF m c) (bOf t) ⟨8 * (t.val % 8) + y.val / 64, by omega⟩ ⟨y.val % 64, by omega⟩ (hOf t) a _ _
    (by show t.val % 8 * 512 + y.val = (8 * (t.val % 8) + y.val / 64) * 64 + y.val % 64; omega) rfl

theorem blkB (t : Fin cfg0.N) (y : Fin 512) (a : Fin 128) :
    (dats m 0 c).after 12 t (ix3 0 y a : S1x512x128.Idx)
      = spread (vB m c) (ix3 ⟨t.val / 32 % 8, by omega⟩ ⟨(7 - t.val % 8) * 512 + y.val, by omega⟩ ⟨t.val / 8 % 4 * 128 + a.val, by omega⟩) := by
  rw [after0_12]
  have hk : 7 - y.val / 64 < k0_t1_loop.trips := by rw [trips_eq]; omega
  have ey : y = ⟨(7 - (⟨7 - y.val / 64, hk⟩ : Fin k0_t1_loop.trips).val) * 64 + (⟨y.val % 64, by omega⟩ : Fin 64).val, by
      show (7 - (7 - y.val / 64)) * 64 + y.val % 64 < 512; omega⟩ :=
    Fin.ext (by show y.val = (7 - (7 - y.val / 64)) * 64 + y.val % 64; omega)
  have e := bBlk_scan (iblk m c 10 t) _ (at_10 m c t) (low _ h3 _) (iblk m c 3 t) (iblk m c 4 t) (iblk m c 5 t) _ _ _ (t.val % 8) (by omega)
    (ent m c t.val t.isLt).2 _ (at_3 m c t) (at_4 m c t) (at_5 m c t) (ent_st m c h2 h3 t.val t.isLt).2 ⟨7 - y.val / 64, hk⟩ ⟨y.val % 64, by omega⟩ a
  rw [← ey] at e
  refine e.trans (Eq.symm ?_)
  refine (spread_at (vB m c) (bOf t) ⟨8 * (7 - t.val % 8) + y.val / 64, by omega⟩ ⟨y.val % 64, by omega⟩ (hOf t) a _ _
    (by show (7 - t.val % 8) * 512 + y.val = (8 * (7 - t.val % 8) + y.val / 64) * 64 + y.val % 64; omega) rfl).trans ?_
  have en : (⟨8 * (7 - t.val % 8) + y.val / 64, by omega⟩ : Fin 64).rev.val = 8 * (t.val % 8) + (7 - y.val / 64) := by
    rw [Fin.val_rev]
    show 64 - (8 * (7 - t.val % 8) + y.val / 64 + 1) = _
    omega
  unfold vB
  rw [en]

theorem outF : (dats m 0 c).arrAt 11 cfg0.N = spread (vF m c) := by
  refine (dats m 0 c).arrAt_eq_of_covers 11 _ (by decide +kernel) fun t hf y => ?_
  have e : y = (ix3 0 (y 1) (y 2) : S1x512x128.Idx) := funext fun a => by
    fin_cases a
    · exact Subsingleton.elim (α := Fin 1) _ _
    · rfl
    · rfl
  refine (congrArg ((dats m 0 c).after 11 t) e).trans ((blkF m c h2 h3 t (y 1) (y 2)).trans (congrArg (spread (vF m c)) ?_))
  exact (emb_11 t (y 1) (y 2)).symm.trans (congrArg ((cfg0.win 11).blk t).view.emb e.symm)

theorem outB : (dats m 0 c).arrAt 12 cfg0.N = spread (vB m c) := by
  refine (dats m 0 c).arrAt_eq_of_covers 12 _ (by decide +kernel) fun t hf y => ?_
  have e : y = (ix3 0 (y 1) (y 2) : S1x512x128.Idx) := funext fun a => by
    fin_cases a
    · exact Subsingleton.elim (α := Fin 1) _ _
    · rfl
    · rfl
  refine (congrArg ((dats m 0 c).after 12 t) e).trans ((blkB m c h2 h3 t (y 1) (y 2)).trans (congrArg (spread (vB m c)) ?_))
  exact (emb_12 t (y 1) (y 2)).symm.trans (congrArg ((cfg0.win 12).blk t).view.emb e.symm)

end Outs

end Cert.KernelIdeal.Scan

end
-- ==== Proof.RefRun.lean ====
/- The reference's run over the step of its loop: at a valuation that holds a state, every value of one trip is the step's,
   so one trip keeps holding with the step applied; what comes before the loop holds the first state; and the run's two
   results are fields of the step iterated from it. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v176_6) = s.main_v176_6
  f_7 : V0 (Proc.devRef .tc main_v176_7) = s.main_v176_7
  f_0 : V0 (Proc.devRef .tc main_v176_0) = s.main_v176_0
  f_1 : V0 (Proc.devRef .tc main_v176_1) = s.main_v176_1
  f_2 : V0 (Proc.devRef .tc main_v176_2) = s.main_v176_2
  f_3 : V0 (Proc.devRef .tc main_v176_3) = s.main_v176_3
  f_4 : V0 (Proc.devRef .tc main_v176_4) = s.main_v176_4
  n_5 : V0 (Proc.devRef .tc main_v176_5) = constantI S_ 32 (BitVec.ofNat 32 j)

variable {V0 s j}

set_option maxRecDepth 8192 in
theorem al_0 (h : Holds V0 s j) : (constantI S_ 32 0#32 : (Proc.devRef .tc main_while0b_call12_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call12_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call12_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call12_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128 : (Proc.devRef .tc main_while0b_call12_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (shapeCast S16x4x64x128 (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128 : (Proc.devRef .tc main_while0b_v186 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call13_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call13_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call13_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call13_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x4x64x128 (V0 (Proc.devRef .tc main_v176_1)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128 : (Proc.devRef .tc main_while0b_call13_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (shapeCast S16x4x64x128 (Host.dynamicSlice S1x16x4x64x128 (V0 (Proc.devRef .tc main_v176_1)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128 : (Proc.devRef .tc main_while0b_v187 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call14_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call14_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call14_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call14_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x4x64x128 (V0 (Proc.devRef .tc main_v176_2)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128 : (Proc.devRef .tc main_while0b_call14_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (shapeCast S16x4x64x128 (Host.dynamicSlice S1x16x4x64x128 (V0 (Proc.devRef .tc main_v176_2)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128 : (Proc.devRef .tc main_while0b_v188 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call15_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call15_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call15_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128 : (Proc.devRef .tc main_while0b_call15_v0 : DevRef τ sig).ty.Contents (Elt F)) = Cert.ReferenceIdeal.Step.b21 j s := by
  unfold Cert.ReferenceIdeal.Step.b21
  rw [← al_18 h, ← al_19 h, ← al_20 h, h.f_3, h.n_5]
  try rfl
set_option maxRecDepth 8192 in
theorem al_22 (h : Holds V0 s j) : (shapeCast S16x4x128 (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128) shapeCasts_S1x16x4x128_S16x4x128 : (Proc.devRef .tc main_while0b_v189 : DevRef τ sig).ty.Contents (Elt F)) = Cert.ReferenceIdeal.Step.b22 j s := by
  unfold Cert.ReferenceIdeal.Step.b22
  rw [← al_21 h]
  try rfl
set_option maxRecDepth 8192 in
theorem al_23 (h : Holds V0 s j) : (constantI S_ 32 0#32 : (Proc.devRef .tc main_while0b_call16_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call16_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call16_c_1 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call16_c_2 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x16x4x64x128 (V0 (Proc.devRef .tc main_v176_4)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128 : (Proc.devRef .tc main_while0b_call16_v0 : DevRef τ sig).ty.Contents (Elt F)) = Cert.ReferenceIdeal.Step.b27 j s := by
  unfold Cert.ReferenceIdeal.Step.b27
  rw [← al_23 h, ← al_24 h, ← al_25 h, ← al_26 h, h.f_4, h.n_5]
  try rfl
set_option maxRecDepth 8192 in
theorem al_28 (h : Holds V0 s j) : (shapeCast S16x4x64x128 (Host.dynamicSlice S1x16x4x64x128 (V0 (Proc.devRef .tc main_v176_4)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128 : (Proc.devRef .tc main_while0b_v190 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (Host.dotGeneral dot_S16x4x64x128_S16x4x128x128_S16x4x64x128_3_2_2_3_01_01 none (shapeCast S16x4x64x128 (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (V0 (Proc.devRef .tc main_v176_6)) : (Proc.devRef .tc main_while0b_v191 : DevRef τ sig).ty.Contents (Elt F)) = Cert.ReferenceIdeal.Step.b29 j s := by
  unfold Cert.ReferenceIdeal.Step.b29
  rw [← al_5 h, h.f_6]
  try rfl
set_option maxRecDepth 8192 in
theorem al_30 (h : Holds V0 s j) : (addf (shapeCast S16x4x64x128 (Host.dynamicSlice S1x16x4x64x128 (V0 (Proc.devRef .tc main_v176_4)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (V0 (Proc.devRef .tc main_v176_6))) : (Proc.devRef .tc main_while0b_v192 : DevRef τ sig).ty.Contents (Elt F)) = Cert.ReferenceIdeal.Step.b30 j s := by
  unfold Cert.ReferenceIdeal.Step.b30
  rw [← al_28 h, ← al_29 h]
  try rfl
set_option maxRecDepth 8192 in
theorem al_31 (h : Holds V0 s j) : (broadcastInDim S16x4x128x1 ![0, 1, 2] bcast_S16x4x128_S16x4x128x1_0_1_2 (shapeCast S16x4x128 (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128) shapeCasts_S1x16x4x128_S16x4x128) : (Proc.devRef .tc main_while0b_v193 : DevRef τ sig).ty.Contents (Elt F)) = Cert.ReferenceIdeal.Step.b31 j s := by
  unfold Cert.ReferenceIdeal.Step.b31
  rw [← al_22 h]
  try rfl
set_option maxRecDepth 8192 in
theorem al_32 (h : Holds V0 s j) : (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128) shapeCasts_S1x16x4x128_S16x4x128)) : (Proc.devRef .tc main_while0b_v194 : DevRef τ sig).ty.Contents (Elt F)) = Cert.ReferenceIdeal.Step.b32 j s := by
  unfold Cert.ReferenceIdeal.Step.b32
  rw [← al_31 h]
  try rfl
set_option maxRecDepth 8192 in
theorem al_33 (h : Holds V0 s j) : (mulf (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128) shapeCasts_S1x16x4x128_S16x4x128))) (V0 (Proc.devRef .tc main_v176_6)) : (Proc.devRef .tc main_while0b_v195 : DevRef τ sig).ty.Contents (Elt F)) = Cert.ReferenceIdeal.Step.b33 j s := by
  unfold Cert.ReferenceIdeal.Step.b33
  rw [← al_32 h, h.f_6]
  try rfl
set_option maxRecDepth 8192 in
theorem al_34 (h : Holds V0 s j) : (Host.dotGeneral dot_S16x4x64x128_S16x4x64x128_S16x4x128x128_2_2_3_3_01_01 none (shapeCast S16x4x64x128 (Host.dynamicSlice S1x16x4x64x128 (V0 (Proc.devRef .tc main_v176_1)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (shapeCast S16x4x64x128 (Host.dynamicSlice S1x16x4x64x128 (V0 (Proc.devRef .tc main_v176_2)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) : (Proc.devRef .tc main_while0b_v196 : DevRef τ sig).ty.Contents (Elt F)) = Cert.ReferenceIdeal.Step.b34 j s := by
  unfold Cert.ReferenceIdeal.Step.b34
  rw [← al_11 h, ← al_17 h]
  try rfl
set_option maxRecDepth 8192 in
theorem al_35 (h : Holds V0 s j) : (addf (mulf (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128) shapeCasts_S1x16x4x128_S16x4x128))) (V0 (Proc.devRef .tc main_v176_6))) (Host.dotGeneral dot_S16x4x64x128_S16x4x64x128_S16x4x128x128_2_2_3_3_01_01 none (shapeCast S16x4x64x128 (Host.dynamicSlice S1x16x4x64x128 (V0 (Proc.devRef .tc main_v176_1)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (shapeCast S16x4x64x128 (Host.dynamicSlice S1x16x4x64x128 (V0 (Proc.devRef .tc main_v176_2)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128)) : (Proc.devRef .tc main_while0b_v197 : DevRef τ sig).ty.Contents (Elt F)) = Cert.ReferenceIdeal.Step.b35 j s := by
  unfold Cert.ReferenceIdeal.Step.b35
  rw [← al_33 h, ← al_34 h]
  try rfl
set_option maxRecDepth 8192 in
theorem al_36 (h : Holds V0 s j) : (broadcastInDim S1x16x4x64x128 ![1, 2, 3, 4] bcast_S16x4x64x128_S1x16x4x64x128_1_2_3_4 (addf (shapeCast S16x4x64x128 (Host.dynamicSlice S1x16x4x64x128 (V0 (Proc.devRef .tc main_v176_4)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (V0 (Proc.devRef .tc main_v176_6)))) : (Proc.devRef .tc main_while0b_call17_v0 : DevRef τ sig).ty.Contents (Elt F)) = Cert.ReferenceIdeal.Step.b36 j s := by
  unfold Cert.ReferenceIdeal.Step.b36
  rw [← al_30 h]
  try rfl
set_option maxRecDepth 8192 in
theorem al_37 (h : Holds V0 s j) : (constantI S_ 32 0#32 : (Proc.devRef .tc main_while0b_call17_c : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call17_c_0 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call17_c_1 : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call17_c_2 : DevRef τ sig).ty.Contents (Elt F)) = Cert.ReferenceIdeal.Step.b40 j s := by
  unfold Cert.ReferenceIdeal.Step.b40
  rfl
set_option maxRecDepth 8192 in
theorem al_41 (h : Holds V0 s j) : (Host.dynamicUpdateSlice (V0 (Proc.devRef .tc main_v176_7)) (broadcastInDim S1x16x4x64x128 ![1, 2, 3, 4] bcast_S16x4x64x128_S1x16x4x64x128_1_2_3_4 (addf (shapeCast S16x4x64x128 (Host.dynamicSlice S1x16x4x64x128 (V0 (Proc.devRef .tc main_v176_4)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (V0 (Proc.devRef .tc main_v176_6))))) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) updateFits_S64x16x4x64x128_S1x16x4x64x128 : (Proc.devRef .tc main_while0b_v198 : DevRef τ sig).ty.Contents (Elt F)) = Cert.ReferenceIdeal.Step.b41 j s := by
  unfold Cert.ReferenceIdeal.Step.b41
  rw [← al_36 h, ← al_37 h, ← al_38 h, ← al_39 h, ← al_40 h, h.f_7, h.n_5]
  try rfl

/-! One trip's step of the carried values is `step`, field by field; a counter steps to the next number. -/

theorem step_6 (h : Holds V0 s j) : step_main_v176_6 V0 = (step j s).main_v176_6 := by
  unfold step_main_v176_6 Cert.ReferenceIdeal.Step.step
  show id (addf (mulf (broadcastInDim S16x4x128x128 ![0, 1, 2, 3] bcast_S16x4x128x1_S16x4x128x128_0_1_2_3 (broadcastInDim S16x4x128x1 ![0, 1, 2] bcast_S16x4x128_S16x4x128x1_0_1_2 (shapeCast S16x4x128 (Host.dynamicSlice S1x16x4x128 (V0 (Proc.devRef .tc main_v176_3)) (fun k => (((![V0 (Proc.devRef .tc main_v176_5), constantI S_ 32 0#32, constantI S_ 32 0#32, constantI S_ 32 0#32] : Fin 4 → (⟨S_, .i32⟩ : BufTy).Contents (Elt F))) k (Shape.Idx.first h_S_)).toInt) sliceFits_S64x16x4x128_S1x16x4x128) shapeCasts_S1x16x4x128_S16x4x128))) (V0 (Proc.devRef .tc main_v176_6))) (Host.dotGeneral dot_S16x4x64x128_S16x4x64x128_S16x4x128x128_2_2_3_3_01_01 none (shapeCast S16x4x64x128 (Host.dynamicSlice S1x16x4x64x128 (V0 (Proc.devRef .tc main_v176_1)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (shapeCast S16x4x64x128 (Host.dynamicSlice S1x16x4x64x128 (V0 (Proc.devRef .tc main_v176_2)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128))) = _
  rw [al_35 h]
  try rfl
theorem step_7 (h : Holds V0 s j) : step_main_v176_7 V0 = (step j s).main_v176_7 := by
  unfold step_main_v176_7 Cert.ReferenceIdeal.Step.step
  show id (Host.dynamicUpdateSlice (V0 (Proc.devRef .tc main_v176_7)) (broadcastInDim S1x16x4x64x128 ![1, 2, 3, 4] bcast_S16x4x64x128_S1x16x4x64x128_1_2_3_4 (addf (shapeCast S16x4x64x128 (Host.dynamicSlice S1x16x4x64x128 (V0 (Proc.devRef .tc main_v176_4)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (Host.dotGeneral dot_S16x4x64x128_S16x4x128x128_S16x4x64x128_3_2_2_3_01_01 none (shapeCast S16x4x64x128 (Host.dynamicSlice S1x16x4x64x128 (V0 (Proc.devRef .tc main_v176_0)) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) sliceFits_S64x16x4x64x128_S1x16x4x64x128) shapeCasts_S1x16x4x64x128_S16x4x64x128) (V0 (Proc.devRef .tc main_v176_6))))) (fun k => (((![V0 (Proc.devRef .tc main_v176_5), constantI S_ 32 0#32, constantI S_ 32 0#32, constantI S_ 32 0#32, constantI S_ 32 0#32] : Fin 5 → (⟨S_, .i32⟩ : BufTy).Contents (Elt F))) k (Shape.Idx.first h_S_)).toInt) updateFits_S64x16x4x64x128_S1x16x4x64x128) = _
  exact al_41 h
theorem step_5 (h : Holds V0 s j) : step_main_v176_5 V0 = constantI S_ 32 (BitVec.ofNat 32 (j + 1)) := by
  unfold step_main_v176_5
  rw [h.n_5]
  funext i
  show BitVec.ofNat 32 j + 1#32 = BitVec.ofNat 32 (j + 1)
  simp only [BitVec.ofNat_add]

set_option maxRecDepth 8192 in
theorem out_main_v183_holds (h : Holds V0 s j) : out_main_v183 V0 = Cert.ReferenceIdeal.Step.R_main_v183 s := by
  unfold out_main_v183 Cert.ReferenceIdeal.Step.R_main_v183
  rw [h.f_7]
  try rfl

set_option maxRecDepth 8192 in
theorem out_main_v185_holds (h : Holds V0 s j) : out_main_v185 V0 = Cert.ReferenceIdeal.Step.R_main_v185 s := by
  unfold out_main_v185 Cert.ReferenceIdeal.Step.R_main_v185
  rw [h.f_7]
  try rfl

/-- One trip keeps the valuation holding: `step` of the state, the same set-up values, the next number. -/
theorem holds_step (h : Holds V0 s j) : Holds (STEP V0) (step j s) (j + 1) where
  f_6 := (STEP_main_v176_6 V0).trans (step_6 h)
  f_7 := (STEP_main_v176_7 V0).trans (step_7 h)
  n_5 := (STEP_main_v176_5 V0).trans (step_5 h)
  f_0 := (STEP_main_v176_0 V0).trans h.f_0
  f_1 := (STEP_main_v176_1 V0).trans h.f_1
  f_2 := (STEP_main_v176_2 V0).trans h.f_2
  f_3 := (STEP_main_v176_3 V0).trans h.f_3
  f_4 := (STEP_main_v176_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 1500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v183) = Cert.ReferenceIdeal.Step.R_main_v183 (it c 64)
      ∧ r.2.mem ((c.tc : Thread nD τ).loc main_v185) = Cert.ReferenceIdeal.Step.R_main_v185 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v183_holds hk), (h c).2.1.trans (out_main_v185_holds hk), (h c).2.2.1, (h c).2.2.2.1, (h c).2.2.2.2.1, (h c).2.2.2.2.2⟩) (Value.run m ρ)

end Cert.ReferenceIdeal.StepRun

end
-- ==== Proof.RefChunk.lean ====
/- What the reference computes. Its two directions lie one behind the other along the batch; every lemma speaks of both at
   once. The chunks' own values first, then the loop over the chunks. -/
module

public import proofs.«01_k».proof.Proof.Gen.ReferenceIdeal.Step
public import proofs.«01_k».proof.Proof.Window
public import proofs.«01_k».proof.Proof.Seq
public import Idealize.ShloMosaic.Lib.DynamicIndex
public import Idealize.ShloMosaic.Lib.Pipeline.Value

@[expose] public section

noncomputable section

namespace Cert.ReferenceIdeal.Step

open Idealize.ShloMosaic
open Cert.ReferenceIdeal Cert.ReferenceIdeal.Gen Cert.Scan
open scoped BigOperators

set_option maxRecDepth 16384

variable (x0 : FVec Ideal S8x4096x5120 .f32) (x1 : FVec Ideal S8x256x1536 .f32) (x2 x3 : FVec Ideal S2x512 .f32)

/-- The two directions' queries, gates, values and first states. -/
def Q (b : Fin 16) (h : Fin 4) : Fin 4096 → Row := fun t k => A_main_v99 (F := Ideal) x0 x1 x2 x3 (ix4 b h t k)
def Fg (b : Fin 16) (h : Fin 4) : Fin 4096 → Row := fun t k => A_main_v133 (F := Ideal) x0 x1 x2 x3 (ix4 b h t k)
def Vl (b : Fin 16) (h : Fin 4) : Fin 4096 → Row := fun t k => A_main_v135 (F := Ideal) x0 x1 x2 x3 (ix4 b h t k)
def S0 (b : Fin 16) (h : Fin 4) : Mat := fun k a => A_main_v136 (F := Ideal) x0 x1 x2 x3 (ix4 b h k a)

theorem v145_at (b : Fin 16) (h : Fin 4) (n r : Fin 64) (k : Fin 128) :
    A_main_v145 (F := Ideal) x0 x1 x2 x3 (ix5 b h n r k) = rows (tm (Vl x0 x1 x2 x3 b h)) n.val r k := by
  rw [rows_tm _ _ _ (by omega)]
  pointwise [A_main_v145]
  rfl

theorem v139_at (b : Fin 16) (h : Fin 4) (n r : Fin 64) (k : Fin 128) :
    A_main_v139 (F := Ideal) x0 x1 x2 x3 (ix5 b h n r k) = rows (tm (Q x0 x1 x2 x3 b h)) n.val r k * Ideal.ofBits .f32 0x3DB504F3#32 := by
  rw [rows_tm _ _ _ (by omega)]
  pointwise [A_main_v139, A_main_v138, K_main_v137, K_main_cst_19]
  rfl

theorem v141_at (b : Fin 16) (h : Fin 4) (n r : Fin 64) (k : Fin 128) :
    A_main_v141 (F := Ideal) x0 x1 x2 x3 (ix5 b h n r k) = Ideal.log (rows (tm (Fg x0 x1 x2 x3 b h)) n.val r k) := by
  rw [rows_tm _ _ _ (by omega)]
  pointwise [A_main_v141, A_main_v140]
  rfl

theorem v144_at (b : Fin 16) (h : Fin 4) (n r : Fin 64) (k : Fin 128) :
    A_main_v144 (F := Ideal) x0 x1 x2 x3 (ix5 b h n r k) = 1 - rows (tm (Fg x0 x1 x2 x3 b h)) n.val r k := by
  rw [rows_tm _ _ _ (by omega)]
  pointwise [A_main_v144, A_main_v143, K_main_v142, K_main_cst_20]
  rfl

theorem v146_at (b : Fin 16) (h : Fin 4) (n r : Fin 64) (k : Fin 128) :
    A_main_v146 (F := Ideal) x0 x1 x2 x3 (ix5 b h n r k) = dec (rows (tm (Fg x0 x1 x2 x3 b h)) n.val) r k := by
  unfold A_main_v146
  refine (window_sum (s := S16x4x64x64x128) 3 ![1, 1, 1, 64, 1] ![1, 1, 1, 1, 1] ![0, 0, 0, 63, 0] ![0, 0, 0, 0, 0] _ _ _ _ (by decide) (by decide) (by decide) rfl rfl
    (by pointwise [K_main_call9_call0_v0, K_main_call9_call0_cst]) _).trans ?_
  show _ = ∑ i, if i ≤ r then Ideal.log (rows (tm (Fg x0 x1 x2 x3 b h)) n.val i k) else 0
  refine Finset.sum_congr rfl fun (i : Fin 64) _ => congrArg (fun y => if i ≤ r then y else 0) ?_
  exact (congrArg (A_main_v141 (F := Ideal) x0 x1 x2 x3) (show Function.update (ix5 b h n r k) 3 i = ix5 b h n i k from funext fun a => by fin_cases a <;> rfl)).trans
    (v141_at x0 x1 x2 x3 b h n i k)

end Cert.ReferenceIdeal.Step

end
-- ==== Proof.RefVal.lean ====
/- What the reference computes of each chunk before its loop over the chunks. -/
module

public import proofs.«01_k».proof.Proof.Gen.ReferenceIdeal.Step
public import proofs.«01_k».proof.Proof.RefChunk
public import Idealize.ShloMosaic.Lib.DynamicIndex
public import Idealize.ShloMosaic.Lib.Pipeline.Value

@[expose] public section

noncomputable section

namespace Cert.ReferenceIdeal.Step

open Idealize.ShloMosaic
open Cert.ReferenceIdeal Cert.ReferenceIdeal.Gen Cert.Scan
open scoped BigOperators

set_option maxRecDepth 16384

theorem tr5 (x : FVec Ideal S16x4x64x64x128 .f32) (n : Fin 64) (b : Fin 16) (h : Fin 4) (r : Fin 64) (k : Fin 128) :
    transpose S64x16x4x64x128 [2, 0, 1, 3, 4] x transposes_S16x4x64x64x128_S64x16x4x64x128_2_0_1_3_4 (ix5 n b h r k) = x (ix5 b h n r k) := by
  pointwise

theorem tr4 (x : FVec Ideal S16x4x64x128 .f32) (n : Fin 64) (b : Fin 16) (h : Fin 4) (k : Fin 128) :
    transpose S64x16x4x128 [2, 0, 1, 3] x transposes_S16x4x64x128_S64x16x4x128_2_0_1_3 (ix4 n b h k) = x (ix4 b h n k) := by
  pointwise

theorem last_at (y : FVec Ideal S16x4x64x64x128 .f32) (b : Fin 16) (h : Fin 4) (n : Fin 64) (k : Fin 128) :
    shapeCast S16x4x64x128 (extractStridedSlice S16x4x64x1x128 ![0, 0, 0, 63, 0] y slices_S16x4x64x64x128_S16x4x64x1x128_0_0_0_63_0) shapeCasts_S16x4x64x1x128_S16x4x64x128 (ix4 b h n k)
      = y (ix5 b h n 63 k) := by
  pointwise

theorem key_at (x y : FVec Ideal S16x4x64x64x128 .f32) (b : Fin 16) (h : Fin 4) (n r : Fin 64) (k : Fin 128) :
    mulf x (Host.exp (subf (broadcastInDim S16x4x64x64x128 ![0, 1, 2, 3, 4] bcast_S16x4x64x1x128_S16x4x64x64x128_0_1_2_3_4
        (extractStridedSlice S16x4x64x1x128 ![0, 0, 0, 63, 0] y slices_S16x4x64x64x128_S16x4x64x1x128_0_0_0_63_0)) y)) (ix5 b h n r k)
      = x (ix5 b h n r k) * Ideal.exp (y (ix5 b h n 63 k) - y (ix5 b h n r k)) := by
  pointwise

theorem toInt_num {a : ℕ} (ha : a < 2 ^ 31) : (BitVec.ofNat 32 a).toInt = (a : ℤ) := by
  have h : (BitVec.ofNat 32 a).toNat = a := by rw [BitVec.toNat_ofNat]; omega
  rw [BitVec.toInt_eq_toNat_of_lt (by rw [h]; omega), h]

/-- The mask of the rows a row reads: those up to it. -/
theorem mask_at (r j : Fin 64) : K_main_v159 (F := Ideal) (ix2 r j) = BitVec.ofBool (decide (j ≤ r)) := by
  have e : K_main_v159 (F := Ideal) (ix2 r j) = Scalar.select (IntOp.cmpi CmpIPredicate.sge (IntOp.addi (BitVec.ofNat 32 r.val) 0#32) (BitVec.ofNat 32 j.val)) (1#1) (0#1) := by
    pointwise [K_main_v159, K_main_v158, K_main_c, K_main_call10_v4, K_main_call10_v5, K_main_call10_c_0, K_main_call10_v2, K_main_call10_v3, K_main_call10_v0, K_main_call10_v1, K_main_call10_c]
  rw [e, show IntOp.addi (BitVec.ofNat 32 r.val) 0#32 = BitVec.ofNat 32 r.val from BitVec.add_zero _]
  have e' : IntOp.cmpi CmpIPredicate.sge (BitVec.ofNat 32 r.val) (BitVec.ofNat 32 j.val) = BitVec.ofBool (decide (j ≤ r)) := by
    show BitVec.ofBool ((BitVec.ofNat 32 j.val).sle (BitVec.ofNat 32 r.val)) = _
    rw [BitVec.sle_eq_decide, toInt_num (by omega), toInt_num (by omega)]
    exact congrArg BitVec.ofBool (decide_eq_decide.2 (Int.ofNat_le.trans Iff.rfl))
  rw [e']
  by_cases h : j ≤ r <;> simp [h, Scalar.select]

/-- A chunk's masked products, of its queries `q`, keys `x`, running decays `y` and values `v`. -/
theorem intra_at (q x y v : FVec Ideal S16x4x64x64x128 .f32) (m : (⟨S64x64, .i1⟩ : BufTy).Contents (Elt Ideal)) (z : FVec Ideal S_ .f32)
    (b : Fin 16) (h : Fin 4) (n r : Fin 64) (a : Fin 128) :
    Host.dotGeneral dot_S16x4x64x64x64_S16x4x64x64x128_S16x4x64x64x128_4_3_3_4_012_012 none
        (select (broadcastInDim S16x4x64x64x64 ![3, 4] bcast_S64x64_S16x4x64x64x64_3_4 m)
          (Host.dotGeneral dot_S16x4x64x64x128_S16x4x64x64x128_S16x4x64x64x64_4_4_3_3_012_012 none
            (mulf q (Host.exp (subf y (broadcastInDim S16x4x64x64x128 ![0, 1, 2, 3, 4] bcast_S16x4x64x1x128_S16x4x64x64x128_0_1_2_3_4
              (extractStridedSlice S16x4x64x1x128 ![0, 0, 0, 31, 0] y slices_S16x4x64x64x128_S16x4x64x1x128_0_0_0_31_0)))))
            (mulf x (Host.exp (subf (broadcastInDim S16x4x64x64x128 ![0, 1, 2, 3, 4] bcast_S16x4x64x1x128_S16x4x64x64x128_0_1_2_3_4
              (extractStridedSlice S16x4x64x1x128 ![0, 0, 0, 31, 0] y slices_S16x4x64x64x128_S16x4x64x1x128_0_0_0_31_0)) y))))
          (broadcastInDim S16x4x64x64x64 ![] bcast_S_S16x4x64x64x64 z)) v (ix5 b h n r a)
      = ∑ j, Scalar.select (m (ix2 r j)) (∑ k, (q (ix5 b h n r k) * Ideal.exp (y (ix5 b h n r k) - y (ix5 b h n 31 k)))
          * (x (ix5 b h n j k) * Ideal.exp (y (ix5 b h n 31 k) - y (ix5 b h n j k)))) (z ix0) * v (ix5 b h n j a) := by
  pointwise

theorem zero_at : K_main_call11_v0 (F := Ideal) ix0 = 0 := by pointwise [K_main_call11_v0, K_main_cst_21, id]

theorem query_gen (q y : FVec Ideal S16x4x64x64x128 .f32) (n : Fin 64) (b : Fin 16) (h : Fin 4) (r : Fin 64) (k : Fin 128) (X Y : EReal)
    (hq : q (ix5 b h n r k) = X) (hy : y (ix5 b h n r k) = Y) :
    transpose S64x16x4x64x128 [2, 0, 1, 3, 4] (mulf q (Host.exp y)) transposes_S16x4x64x64x128_S64x16x4x64x128_2_0_1_3_4 (ix5 n b h r k) = X * Ideal.exp Y := by
  rw [tr5, ← hq, ← hy]
  rfl

theorem key_gen (x y : FVec Ideal S16x4x64x64x128 .f32) (n : Fin 64) (b : Fin 16) (h : Fin 4) (r : Fin 64) (k : Fin 128) (X Y Z : EReal)
    (hx : x (ix5 b h n r k) = X) (hy : y (ix5 b h n r k) = Y) (hz : y (ix5 b h n 63 k) = Z) :
    transpose S64x16x4x64x128 [2, 0, 1, 3, 4] (mulf x (Host.exp (subf (broadcastInDim S16x4x64x64x128 ![0, 1, 2, 3, 4] bcast_S16x4x64x1x128_S16x4x64x64x128_0_1_2_3_4
        (extractStridedSlice S16x4x64x1x128 ![0, 0, 0, 63, 0] y slices_S16x4x64x64x128_S16x4x64x1x128_0_0_0_63_0)) y)))
        transposes_S16x4x64x64x128_S64x16x4x64x128_2_0_1_3_4 (ix5 n b h r k)
      = X * Ideal.exp (Z - Y) := by
  rw [tr5, key_at, hx, hy, hz]

theorem last_gen (y : FVec Ideal S16x4x64x64x128 .f32) (n : Fin 64) (b : Fin 16) (h : Fin 4) (k : Fin 128) (Z : EReal) (hz : y (ix5 b h n 63 k) = Z) :
    transpose S64x16x4x128 [2, 0, 1, 3] (Host.exp (shapeCast S16x4x64x128 (extractStridedSlice S16x4x64x1x128 ![0, 0, 0, 63, 0] y slices_S16x4x64x64x128_S16x4x64x1x128_0_0_0_63_0)
        shapeCasts_S16x4x64x1x128_S16x4x64x128)) transposes_S16x4x64x128_S64x16x4x128_2_0_1_3 (ix4 n b h k) = Ideal.exp Z := by
  rw [tr4]
  exact congrArg Ideal.exp ((last_at y b h n k).trans hz)

theorem intra_gen (c : EReal) (q x y v : FVec Ideal S16x4x64x64x128 .f32) (m : (⟨S64x64, .i1⟩ : BufTy).Contents (Elt Ideal)) (z : FVec Ideal S_ .f32)
    (b : Fin 16) (h : Fin 4) (n r : Fin 64) (a : Fin 128) (X F V : Fin 64 → Row)
    (hq : ∀ r k, q (ix5 b h n r k) = X r k * c) (hx : ∀ r k, x (ix5 b h n r k) = 1 - F r k) (hy : ∀ r k, y (ix5 b h n r k) = dec F r k)
    (hv : ∀ r k, v (ix5 b h n r k) = V r k) (hm : ∀ r j, m (ix2 r j) = BitVec.ofBool (decide (j ≤ r))) (hz : z ix0 = 0) :
    Host.dotGeneral dot_S16x4x64x64x64_S16x4x64x64x128_S16x4x64x64x128_4_3_3_4_012_012 none
        (select (broadcastInDim S16x4x64x64x64 ![3, 4] bcast_S64x64_S16x4x64x64x64_3_4 m)
          (Host.dotGeneral dot_S16x4x64x64x128_S16x4x64x64x128_S16x4x64x64x64_4_4_3_3_012_012 none
            (mulf q (Host.exp (subf y (broadcastInDim S16x4x64x64x128 ![0, 1, 2, 3, 4] bcast_S16x4x64x1x128_S16x4x64x64x128_0_1_2_3_4
              (extractStridedSlice S16x4x64x1x128 ![0, 0, 0, 31, 0] y slices_S16x4x64x64x128_S16x4x64x1x128_0_0_0_31_0)))))
            (mulf x (Host.exp (subf (broadcastInDim S16x4x64x64x128 ![0, 1, 2, 3, 4] bcast_S16x4x64x1x128_S16x4x64x64x128_0_1_2_3_4
              (extractStridedSlice S16x4x64x1x128 ![0, 0, 0, 31, 0] y slices_S16x4x64x64x128_S16x4x64x1x128_0_0_0_31_0)) y))))
          (broadcastInDim S16x4x64x64x64 ![] bcast_S_S16x4x64x64x64 z)) v (ix5 b h n r a)
      = ∑ j, (if j ≤ r then att c X F r j else 0) * V j a := by
  rw [intra_at]
  refine Finset.sum_congr rfl fun j _ => ?_
  rw [hm, hz, hv]
  refine congrArg (· * V j a) ?_
  have e : (∑ k, (q (ix5 b h n r k) * Ideal.exp (y (ix5 b h n r k) - y (ix5 b h n 31 k)))
          * (x (ix5 b h n j k) * Ideal.exp (y (ix5 b h n 31 k) - y (ix5 b h n j k)))) = att c X F r j := by
    refine Finset.sum_congr rfl fun k _ => ?_
    rw [hq, hx, hy, hy, hy]
  rw [e]
  by_cases h : j ≤ r <;> simp [h, Scalar.select]

variable (x0 : FVec Ideal S8x4096x5120 .f32) (x1 : FVec Ideal S8x256x1536 .f32) (x2 x3 : FVec Ideal S2x512 .f32)

/-- A chunk's part of the output that it reads in itself. -/
theorem v161_at (b : Fin 16) (h : Fin 4) (n r : Fin 64) (a : Fin 128) :
    A_main_v161 (F := Ideal) x0 x1 x2 x3 (ix5 b h n r a)
      = ∑ j, (if j ≤ r then att (Ideal.ofBits .f32 0x3DB504F3#32) (rows (tm (Q x0 x1 x2 x3 b h)) n.val) (rows (tm (Fg x0 x1 x2 x3 b h)) n.val) r j else 0)
          * rows (tm (Vl x0 x1 x2 x3 b h)) n.val j a := by
  unfold A_main_v161 A_main_v160 A_main_v157 A_main_v152 A_main_v156 A_main_v151 A_main_v155 A_main_v150 A_main_v154 A_main_v149 A_main_v153 A_main_v147 K_main_call11_v1 K_main_call11_v2
  exact intra_gen _ (A_main_v139 (F := Ideal) x0 x1 x2 x3) (A_main_v144 (F := Ideal) x0 x1 x2 x3) (A_main_v146 (F := Ideal) x0 x1 x2 x3) (A_main_v145 (F := Ideal) x0 x1 x2 x3) (K_main_v159 (F := Ideal)) (K_main_call11_v0 (F := Ideal)) b h n r a _ _ _
    (v139_at x0 x1 x2 x3 b h n) (v144_at x0 x1 x2 x3 b h n) (v146_at x0 x1 x2 x3 b h n) (v145_at x0 x1 x2 x3 b h n) mask_at zero_at

theorem v170_at (n : Fin 64) (b : Fin 16) (h : Fin 4) (r : Fin 64) (k : Fin 128) :
    A_main_v170 (F := Ideal) x0 x1 x2 x3 (ix5 n b h r k)
      = rows (tm (Q x0 x1 x2 x3 b h)) n.val r k * Ideal.ofBits .f32 0x3DB504F3#32 * Ideal.exp (dec (rows (tm (Fg x0 x1 x2 x3 b h)) n.val) r k) := by
  unfold A_main_v170 A_main_v163 A_main_v162
  exact query_gen (A_main_v139 (F := Ideal) x0 x1 x2 x3) (A_main_v146 (F := Ideal) x0 x1 x2 x3) n b h r k _ _ (v139_at x0 x1 x2 x3 b h n r k) (v146_at x0 x1 x2 x3 b h n r k)

theorem v171_at (n : Fin 64) (b : Fin 16) (h : Fin 4) (r : Fin 64) (k : Fin 128) :
    A_main_v171 (F := Ideal) x0 x1 x2 x3 (ix5 n b h r k)
      = (1 - rows (tm (Fg x0 x1 x2 x3 b h)) n.val r k)
          * Ideal.exp (dec (rows (tm (Fg x0 x1 x2 x3 b h)) n.val) 63 k - dec (rows (tm (Fg x0 x1 x2 x3 b h)) n.val) r k) := by
  unfold A_main_v171 A_main_v167 A_main_v166 A_main_v165 A_main_v164 A_main_v148
  exact key_gen (A_main_v144 (F := Ideal) x0 x1 x2 x3) (A_main_v146 (F := Ideal) x0 x1 x2 x3) n b h r k _ _ _ (v144_at x0 x1 x2 x3 b h n r k) (v146_at x0 x1 x2 x3 b h n r k)
    (v146_at x0 x1 x2 x3 b h n 63 k)

theorem v172_at (n : Fin 64) (b : Fin 16) (h : Fin 4) (r : Fin 64) (k : Fin 128) :
    A_main_v172 (F := Ideal) x0 x1 x2 x3 (ix5 n b h r k) = rows (tm (Vl x0 x1 x2 x3 b h)) n.val r k := by
  unfold A_main_v172
  exact (tr5 (A_main_v145 (F := Ideal) x0 x1 x2 x3) n b h r k).trans (v145_at x0 x1 x2 x3 b h n r k)

theorem v173_at (n : Fin 64) (b : Fin 16) (h : Fin 4) (k : Fin 128) :
    A_main_v173 (F := Ideal) x0 x1 x2 x3 (ix4 n b h k) = Ideal.exp (dec (rows (tm (Fg x0 x1 x2 x3 b h)) n.val) 63 k) := by
  unfold A_main_v173 A_main_v169 A_main_v168 A_main_v148
  exact last_gen (A_main_v146 (F := Ideal) x0 x1 x2 x3) n b h k _ (v146_at x0 x1 x2 x3 b h n 63 k)

theorem v174_at (n : Fin 64) (b : Fin 16) (h : Fin 4) (r : Fin 64) (a : Fin 128) :
    A_main_v174 (F := Ideal) x0 x1 x2 x3 (ix5 n b h r a)
      = ∑ j, (if j ≤ r then att (Ideal.ofBits .f32 0x3DB504F3#32) (rows (tm (Q x0 x1 x2 x3 b h)) n.val) (rows (tm (Fg x0 x1 x2 x3 b h)) n.val) r j else 0)
          * rows (tm (Vl x0 x1 x2 x3 b h)) n.val j a := by
  unfold A_main_v174
  exact (tr5 (A_main_v161 (F := Ideal) x0 x1 x2 x3) n b h r a).trans (v161_at x0 x1 x2 x3 b h n r a)

end Cert.ReferenceIdeal.Step

end
-- ==== Proof.RefLoop.lean ====
/- One trip of the reference's loop over the chunks, read at an index. -/
module

public import proofs.«01_k».proof.Proof.Gen.ReferenceIdeal.Step
public import proofs.«01_k».proof.Proof.Seq
public import Idealize.ShloMosaic.Lib.DynamicIndex
public import Idealize.ShloMosaic.Lib.Pipeline.Value

@[expose] public section

noncomputable section

namespace Cert.ReferenceIdeal.Step

open Idealize.ShloMosaic
open Cert.ReferenceIdeal Cert.ReferenceIdeal.Gen Cert.Scan
open scoped BigOperators

set_option maxRecDepth 16384

theorem toInt_small {n : ℕ} (hn : n < 64) : (BitVec.ofNat 32 n).toInt = (n : ℤ) := by
  have h : (BitVec.ofNat 32 n).toNat = n := by rw [BitVec.toNat_ofNat]; omega
  rw [BitVec.toInt_eq_toNat_of_lt (by rw [h]; omega), h]

/-- A slice of one chunk, read where the loop's counter says. -/
theorem slice5_at (x : FVec Ideal S64x16x4x64x128 .f32) (st : Fin 5 → ℤ) (n : Fin 64) (h0 : st 0 = n.val) (h1 : st 1 = 0) (h2 : st 2 = 0) (h3 : st 3 = 0) (h4 : st 4 = 0)
    (b : Fin 16) (h : Fin 4) (r : Fin 64) (k : Fin 128) :
    Host.dynamicSlice S1x16x4x64x128 x st sliceFits_S64x16x4x64x128_S1x16x4x64x128 (ix5 0 b h r k) = x (ix5 n b h r k) := by
  rw [Host.dynamicSlice_eq_extractStridedSlice (s := S64x16x4x64x128) S1x16x4x64x128 x st ![n.val, 0, 0, 0, 0] _ ⟨rfl, fun a => by
    have := n.isLt
    match a with
    | ⟨0, _⟩ => show n.val + 1 ≤ 64; omega
    | ⟨1, _⟩ => exact Nat.le_refl 16
    | ⟨2, _⟩ => exact Nat.le_refl 4
    | ⟨3, _⟩ => exact Nat.le_refl 64
    | ⟨4, _⟩ => exact Nat.le_refl 128⟩ (fun a => by fin_cases a <;> assumption)]
  pointwise

theorem slice4_at (x : FVec Ideal S64x16x4x128 .f32) (st : Fin 4 → ℤ) (n : Fin 64) (h0 : st 0 = n.val) (h1 : st 1 = 0) (h2 : st 2 = 0) (h3 : st 3 = 0)
    (b : Fin 16) (h : Fin 4) (k : Fin 128) :
    Host.dynamicSlice S1x16x4x128 x st sliceFits_S64x16x4x128_S1x16x4x128 (ix4 0 b h k) = x (ix4 n b h k) := by
  rw [Host.dynamicSlice_eq_extractStridedSlice (s := S64x16x4x128) S1x16x4x128 x st ![n.val, 0, 0, 0] _ ⟨rfl, fun a => by
    have := n.isLt
    match a with
    | ⟨0, _⟩ => show n.val + 1 ≤ 64; omega
    | ⟨1, _⟩ => exact Nat.le_refl 16
    | ⟨2, _⟩ => exact Nat.le_refl 4
    | ⟨3, _⟩ => exact Nat.le_refl 128⟩ (fun a => by fin_cases a <;> assumption)]
  pointwise

/-- A row written where the loop's counter says: that row is the new one, the others are as they were. -/
theorem update_at (x : FVec Ideal S64x16x4x64x128 .f32) (y : FVec Ideal S1x16x4x64x128 .f32) (st : Fin 5 → ℤ) (n : Fin 64)
    (h0 : st 0 = n.val) (h1 : st 1 = 0) (h2 : st 2 = 0) (h3 : st 3 = 0) (h4 : st 4 = 0) (n' : Fin 64) (b : Fin 16) (h : Fin 4) (r : Fin 64) (k : Fin 128) :
    Host.dynamicUpdateSlice x y st updateFits_S64x16x4x64x128_S1x16x4x64x128 (ix5 n' b h r k) = if n' = n then y (ix5 0 b h r k) else x (ix5 n' b h r k) := by
  rw [Host.dynamicUpdateSlice_eq_updateSlice x y st _ (![n.val, 0, 0, 0, 0] : Fin 5 → ℕ) (fun a => by
    have := n.isLt
    match a with
    | ⟨0, _⟩ => show (min (max (st 0) 0) ((64 - 1 : ℕ) : ℤ)).toNat = n.val; rw [h0]; omega
    | ⟨1, _⟩ => show (min (max (st 1) 0) _).toNat = 0; rw [h1]; rfl
    | ⟨2, _⟩ => show (min (max (st 2) 0) _).toNat = 0; rw [h2]; rfl
    | ⟨3, _⟩ => show (min (max (st 3) 0) _).toNat = 0; rw [h3]; rfl
    | ⟨4, _⟩ => show (min (max (st 4) 0) _).toNat = 0; rw [h4]; rfl) ⟨rfl, fun a => by
    have := n.isLt
    match a with
    | ⟨0, _⟩ => show n.val + 1 ≤ 64; omega
    | ⟨1, _⟩ => exact Nat.le_refl 16
    | ⟨2, _⟩ => exact Nat.le_refl 4
    | ⟨3, _⟩ => exact Nat.le_refl 64
    | ⟨4, _⟩ => exact Nat.le_refl 128⟩]
  pointwise
  by_cases e : n' = n
  · subst e
    rw [dif_pos ⟨le_refl _, Nat.lt_succ_self _⟩, if_pos rfl]
    exact congrArg (fun i => y (ix5 i b h r k)) (Fin.ext (Nat.sub_self _))
  · rw [dif_neg (fun hh => e (Fin.ext (by omega))), if_neg e]

variable (s : State Ideal)

theorem cast5 (x : FVec Ideal S1x16x4x64x128 .f32) (b : Fin 16) (h : Fin 4) (r : Fin 64) (k : Fin 128) :
    shapeCast S16x4x64x128 x shapeCasts_S1x16x4x64x128_S16x4x64x128 (ix4 b h r k) = x (ix5 0 b h r k) := by pointwise

theorem cast4 (x : FVec Ideal S1x16x4x128 .f32) (b : Fin 16) (h : Fin 4) (k : Fin 128) :
    shapeCast S16x4x128 x shapeCasts_S1x16x4x128_S16x4x128 (ix3 b h k) = x (ix4 0 b h k) := by pointwise

theorem b5_at (n : Fin 64) (b : Fin 16) (h : Fin 4) (r : Fin 64) (k : Fin 128) : b5 n.val s (ix4 b h r k) = s.main_v176_0 (ix5 n b h r k) :=
  (cast5 (b4 n.val s) b h r k).trans (slice5_at s.main_v176_0 _ n (toInt_small n.isLt) rfl rfl rfl rfl b h r k)

theorem b11_at (n : Fin 64) (b : Fin 16) (h : Fin 4) (r : Fin 64) (k : Fin 128) : b11 n.val s (ix4 b h r k) = s.main_v176_1 (ix5 n b h r k) :=
  (cast5 (b10 n.val s) b h r k).trans (slice5_at s.main_v176_1 _ n (toInt_small n.isLt) rfl rfl rfl rfl b h r k)

theorem b17_at (n : Fin 64) (b : Fin 16) (h : Fin 4) (r : Fin 64) (k : Fin 128) : b17 n.val s (ix4 b h r k) = s.main_v176_2 (ix5 n b h r k) :=
  (cast5 (b16 n.val s) b h r k).trans (slice5_at s.main_v176_2 _ n (toInt_small n.isLt) rfl rfl rfl rfl b h r k)

theorem b22_at (n : Fin 64) (b : Fin 16) (h : Fin 4) (k : Fin 128) : b22 n.val s (ix3 b h k) = s.main_v176_3 (ix4 n b h k) :=
  (cast4 (b21 n.val s) b h k).trans (slice4_at s.main_v176_3 _ n (toInt_small n.isLt) rfl rfl rfl b h k)

theorem b28_at (n : Fin 64) (b : Fin 16) (h : Fin 4) (r : Fin 64) (k : Fin 128) : b28 n.val s (ix4 b h r k) = s.main_v176_4 (ix5 n b h r k) :=
  (cast5 (b27 n.val s) b h r k).trans (slice5_at s.main_v176_4 _ n (toInt_small n.isLt) rfl rfl rfl rfl b h r k)

theorem out_op (x q : FVec Ideal S16x4x64x128 .f32) (S : FVec Ideal S16x4x128x128 .f32) (b : Fin 16) (h : Fin 4) (r : Fin 64) (a : Fin 128) :
    broadcastInDim S1x16x4x64x128 ![1, 2, 3, 4] bcast_S16x4x64x128_S1x16x4x64x128_1_2_3_4
      (addf x (Host.dotGeneral dot_S16x4x64x128_S16x4x128x128_S16x4x64x128_3_2_2_3_01_01 none q S)) (ix5 0 b h r a)
      = x (ix4 b h r a) + ∑ k, q (ix4 b h r k) * S (ix4 b h k a) := by
  pointwise

theorem st_op (d : FVec Ideal S16x4x128 .f32) (x v : FVec Ideal S16x4x64x128 .f32) (S : FVec Ideal S16x4x128x128 .f32) (b : Fin 16) (h : Fin 4) (k a : Fin 128) :
    addf (mulf (broadcastInDim S16x4x128x128 ![0, 1, 2, 3] bcast_S16x4x128x1_S16x4x128x128_0_1_2_3 (broadcastInDim S16x4x128x1 ![0, 1, 2] bcast_S16x4x128_S16x4x128x1_0_1_2 d)) S)
      (Host.dotGeneral dot_S16x4x64x128_S16x4x64x128_S16x4x128x128_2_2_3_3_01_01 none x v) (ix4 b h k a)
      = d (ix3 b h k) * S (ix4 b h k a) + ∑ r, x (ix4 b h r k) * v (ix4 b h r a) := by
  pointwise

/-- A trip's row of the output. -/
theorem b36_at (n : Fin 64) (b : Fin 16) (h : Fin 4) (r : Fin 64) (a : Fin 128) :
    b36 n.val s (ix5 0 b h r a) = s.main_v176_4 (ix5 n b h r a) + ∑ k, s.main_v176_0 (ix5 n b h r k) * s.main_v176_6 (ix4 b h k a) :=
  (out_op (b28 n.val s) (b5 n.val s) s.main_v176_6 b h r a).trans
    (congrArg₂ (· + ·) (b28_at s n b h r a) (Finset.sum_congr rfl fun k _ => congrArg (· * s.main_v176_6 (ix4 b h k a)) (b5_at s n b h r k)))

/-- A trip's next state. -/
theorem b35_at (n : Fin 64) (b : Fin 16) (h : Fin 4) (k a : Fin 128) :
    b35 n.val s (ix4 b h k a) = s.main_v176_3 (ix4 n b h k) * s.main_v176_6 (ix4 b h k a)
      + ∑ r, s.main_v176_1 (ix5 n b h r k) * s.main_v176_2 (ix5 n b h r a) :=
  (st_op (b22 n.val s) (b11 n.val s) (b17 n.val s) s.main_v176_6 b h k a).trans
    (congrArg₂ (· + ·) (congrArg (· * s.main_v176_6 (ix4 b h k a)) (b22_at s n b h k))
      (Finset.sum_congr rfl fun r _ => congrArg₂ (· * ·) (b11_at s n b h r k) (b17_at s n b h r a)))

/-- A trip's output. -/
theorem b41_at (n n' : Fin 64) (b : Fin 16) (h : Fin 4) (r : Fin 64) (a : Fin 128) :
    b41 n.val s (ix5 n' b h r a) = if n' = n then b36 n.val s (ix5 0 b h r a) else s.main_v176_7 (ix5 n' b h r a) :=
  update_at s.main_v176_7 (b36 n.val s) _ n (toInt_small n.isLt) rfl rfl rfl rfl n' b h r a

/-- The outputs, of the loop's last state. -/
theorem R183_at (b : Fin 8) (n r : Fin 64) (h : Fin 4) (a : Fin 128) (x : FVec Ideal S64x16x4x64x128 .f32) :
    shapeCast S8x4096x512 (transpose S8x4096x4x128 [0, 2, 1, 3] (extractStridedSlice S8x4x4096x128 ![0, 0, 0, 0] (shapeCast S16x4x4096x128 (transpose S16x4x64x64x128 [1, 2, 0, 3, 4] x transposes_S64x16x4x64x128_S16x4x64x64x128_1_2_0_3_4) shapeCasts_S16x4x64x64x128_S16x4x4096x128) slices_S16x4x4096x128_S8x4x4096x128_0_0_0_0) transposes_S8x4x4096x128_S8x4096x4x128_0_2_1_3) shapeCasts_S8x4096x4x128_S8x4096x512 (ix3 b ⟨n.val * 64 + r.val, by omega⟩ ⟨h.val * 128 + a.val, by omega⟩)
      = x (ix5 n ⟨b.val, by omega⟩ h r a) := by
  pointwise

theorem R185_at (b : Fin 8) (n r : Fin 64) (h : Fin 4) (a : Fin 128) (x : FVec Ideal S64x16x4x64x128 .f32) :
    shapeCast S8x4096x512 (transpose S8x4096x4x128 [0, 2, 1, 3] (Host.reverse [2] (extractStridedSlice S8x4x4096x128 ![8, 0, 0, 0] (shapeCast S16x4x4096x128 (transpose S16x4x64x64x128 [1, 2, 0, 3, 4] x transposes_S64x16x4x64x128_S16x4x64x64x128_1_2_0_3_4) shapeCasts_S16x4x64x64x128_S16x4x4096x128) slices_S16x4x4096x128_S8x4x4096x128_8_0_0_0)) transposes_S8x4x4096x128_S8x4096x4x128_0_2_1_3) shapeCasts_S8x4096x4x128_S8x4096x512 (ix3 b ⟨n.val * 64 + r.val, by omega⟩ ⟨h.val * 128 + a.val, by omega⟩)
      = x (ix5 n.rev ⟨8 + b.val, by omega⟩ h r.rev a) := by
  pointwise
  simp only [List.mem_singleton, if_true, if_false, show (0 : Fin 4) ≠ 2 by decide, show (1 : Fin 4) ≠ 2 by decide, show (3 : Fin 4) ≠ 2 by decide]
  have := n.isLt; have := r.isLt
  refine congrArg₂ (fun i j => x (ix5 i ⟨8 + b.val, by omega⟩ h j a)) (Fin.ext ?_) (Fin.ext ?_)
  · show (4096 - (n.val * 64 + r.val + 1)) / 64 = 64 - (n.val + 1); omega
  · show (4096 - (n.val * 64 + r.val + 1)) % 64 = 64 - (r.val + 1); omega

end Cert.ReferenceIdeal.Step

end
-- ==== Proof.RefIter.lean ====
/- The reference's loop over the chunks: what it holds after `n` trips, and so its two results. -/
module

public import proofs.«01_k».proof.Proof.Gen.ReferenceIdeal.Step
public import proofs.«01_k».proof.Proof.RefVal
public import proofs.«01_k».proof.Proof.RefLoop
public import Idealize.ShloMosaic.Lib.DynamicIndex
public import Idealize.ShloMosaic.Lib.Pipeline.Value

@[expose] public section

noncomputable section

namespace Cert.ReferenceIdeal.Step

open Idealize.ShloMosaic
open Cert.ReferenceIdeal Cert.ReferenceIdeal.Gen Cert.Scan
open scoped BigOperators

set_option maxRecDepth 16384

variable (x0 : FVec Ideal S8x4096x5120 .f32) (x1 : FVec Ideal S8x256x1536 .f32) (x2 x3 : FVec Ideal S2x512 .f32)

/-- What the loop holds before trip `n`. -/
structure Inv (n : ℕ) (s : State Ideal) : Prop where
  q : s.main_v176_0 = A_main_v170 (F := Ideal) x0 x1 x2 x3
  k : s.main_v176_1 = A_main_v171 (F := Ideal) x0 x1 x2 x3
  v : s.main_v176_2 = A_main_v172 (F := Ideal) x0 x1 x2 x3
  d : s.main_v176_3 = A_main_v173 (F := Ideal) x0 x1 x2 x3
  o : s.main_v176_4 = A_main_v174 (F := Ideal) x0 x1 x2 x3
  S : ∀ b h k a, s.main_v176_6 (ix4 b h k a) = st (tm (Fg x0 x1 x2 x3 b h)) (tm (Vl x0 x1 x2 x3 b h)) (S0 x0 x1 x2 x3 b h) n k a
  O : ∀ n' : Fin 64, n'.val < n → ∀ b h r a, s.main_v176_7 (ix5 n' b h r a)
    = scan (Ideal.ofBits .f32 0x3DB504F3#32) (Q x0 x1 x2 x3 b h) (Fg x0 x1 x2 x3 b h) (Vl x0 x1 x2 x3 b h) (S0 x0 x1 x2 x3 b h) n'.val r a

theorem inv_init : Inv x0 x1 x2 x3 0 (init x0 x1 x2 x3) :=
  ⟨rfl, rfl, rfl, rfl, rfl, fun _ _ _ _ => rfl, fun n' h => absurd h (Nat.not_lt_zero _)⟩

theorem inv_step (n : Fin 64) (s : State Ideal) (hs : Inv x0 x1 x2 x3 n.val s) : Inv x0 x1 x2 x3 (n.val + 1) (step n.val s) := by
  refine ⟨hs.q, hs.k, hs.v, hs.d, hs.o, fun b h k a => ?_, fun n' hn b h r a => ?_⟩
  · refine ((congrFun (step_main_v176_6 n.val s) _).trans (b35_at s n b h k a)).trans ?_
    exact congrArg₂ (· + ·)
      (congrArg₂ (· * ·) ((congrFun hs.d _).trans (v173_at x0 x1 x2 x3 n b h k)) (hs.S b h k a))
      (Finset.sum_congr rfl fun r _ => congrArg₂ (· * ·) ((congrFun hs.k _).trans (v171_at x0 x1 x2 x3 n b h r k)) ((congrFun hs.v _).trans (v172_at x0 x1 x2 x3 n b h r a)))
  · refine ((congrFun (step_main_v176_7 n.val s) _).trans (b41_at s n n' b h r a)).trans ?_
    by_cases e : n' = n
    · subst e
      rw [if_pos rfl]
      refine (b36_at s n' b h r a).trans ?_
      exact congrArg₂ (· + ·) ((congrFun hs.o _).trans (v174_at x0 x1 x2 x3 n' b h r a))
        (Finset.sum_congr rfl fun k _ => congrArg₂ (· * ·) ((congrFun hs.q _).trans (v170_at x0 x1 x2 x3 n' b h r k)) (hs.S b h k a))
    · rw [if_neg e]
      exact hs.O n' (by have : n'.val ≠ n.val := fun hh => e (Fin.ext hh); omega) b h r a

/-- The loop's states. -/
def its : ℕ → State Ideal
  | 0 => init x0 x1 x2 x3
  | n + 1 => step n (its n)

theorem inv_its : ∀ n, n ≤ 64 → Inv x0 x1 x2 x3 n (its x0 x1 x2 x3 n)
  | 0, _ => inv_init x0 x1 x2 x3
  | n + 1, h => inv_step x0 x1 x2 x3 ⟨n, h⟩ (its x0 x1 x2 x3 n) (inv_its n (Nat.le_of_succ_le h))

/-- The first result: the scan forwards. -/
theorem R183 (b : Fin 8) (n r : Fin 64) (h : Fin 4) (a : Fin 128) :
    R_main_v183 (its x0 x1 x2 x3 64) (ix3 b ⟨n.val * 64 + r.val, by omega⟩ ⟨h.val * 128 + a.val, by omega⟩)
      = scan (Ideal.ofBits .f32 0x3DB504F3#32) (Q x0 x1 x2 x3 ⟨b.val, by omega⟩ h) (Fg x0 x1 x2 x3 ⟨b.val, by omega⟩ h) (Vl x0 x1 x2 x3 ⟨b.val, by omega⟩ h)
          (S0 x0 x1 x2 x3 ⟨b.val, by omega⟩ h) n.val r a :=
  (R183_at b n r h a (its x0 x1 x2 x3 64).main_v176_7).trans ((inv_its x0 x1 x2 x3 64 (Nat.le_refl _)).O n n.isLt ⟨b.val, by omega⟩ h r a)

/-- The second result: the scan backwards, its rows put back in their order. -/
theorem R185 (b : Fin 8) (n r : Fin 64) (h : Fin 4) (a : Fin 128) :
    R_main_v185 (its x0 x1 x2 x3 64) (ix3 b ⟨n.val * 64 + r.val, by omega⟩ ⟨h.val * 128 + a.val, by omega⟩)
      = scan (Ideal.ofBits .f32 0x3DB504F3#32) (Q x0 x1 x2 x3 ⟨8 + b.val, by omega⟩ h) (Fg x0 x1 x2 x3 ⟨8 + b.val, by omega⟩ h) (Vl x0 x1 x2 x3 ⟨8 + b.val, by omega⟩ h)
          (S0 x0 x1 x2 x3 ⟨8 + b.val, by omega⟩ h) n.rev.val r.rev a :=
  (R185_at b n r h a (its x0 x1 x2 x3 64).main_v176_7).trans ((inv_its x0 x1 x2 x3 64 (Nat.le_refl _)).O n.rev n.rev.isLt ⟨8 + b.val, by omega⟩ h r.rev a)

end Cert.ReferenceIdeal.Step

end
-- ==== Proof.RefArg.lean ====
/- The arguments as the scan reads them: operations that cut out a head's rows, gate them and stack the two directions, each read at an index. -/
module

public import proofs.«01_k».proof.Proof.Gen.ReferenceIdeal.Step
public import proofs.«01_k».proof.Proof.Lb
public import proofs.«01_k».proof.Proof.RefChunk
public import Idealize.ShloMosaic.Lib.DynamicIndex
public import Idealize.ShloMosaic.Lib.Pipeline.Value

@[expose] public section

noncomputable section

namespace Cert.ReferenceIdeal.Step

open Idealize.ShloMosaic
open Cert.ReferenceIdeal Cert.ReferenceIdeal.Gen Cert.Scan
open scoped BigOperators

set_option maxRecDepth 16384

theorem pick_q (x0 : FVec Ideal S8x4096x5120 .f32) (b : Fin 8) (h : Fin 4) (t : Fin 4096) (k : Fin 128) :
    transpose S8x4x4096x128 [0, 2, 1, 3] (shapeCast S8x4096x4x128 (extractStridedSlice S8x4096x512 ![0, 0, 0] (extractStridedSlice S8x4096x2048 ![0, 0, 0] x0 slices_S8x4096x5120_S8x4096x2048_0_0_0)
        slices_S8x4096x2048_S8x4096x512_0_0_0) shapeCasts_S8x4096x512_S8x4096x4x128) transposes_S8x4096x4x128_S8x4x4096x128_0_2_1_3 (ix4 b h t k)
      = x0 (ix3 b t ⟨0 + h.val * 128 + k.val, by omega⟩) := by
  have e : transpose S8x4x4096x128 [0, 2, 1, 3] (shapeCast S8x4096x4x128 (extractStridedSlice S8x4096x512 ![0, 0, 0] (extractStridedSlice S8x4096x2048 ![0, 0, 0] x0 slices_S8x4096x5120_S8x4096x2048_0_0_0)
        slices_S8x4096x2048_S8x4096x512_0_0_0) shapeCasts_S8x4096x512_S8x4096x4x128) transposes_S8x4096x4x128_S8x4x4096x128_0_2_1_3 (ix4 b h t k)
      = x0 (ix3 b t ⟨0 + (0 + (h.val * 128 + k.val)), by omega⟩) := by
    pointwise
  rw [e]
  exact congrArg (fun i => x0 (ix3 b t i)) (Fin.ext (by simp only []; omega))

theorem pick_f (x0 : FVec Ideal S8x4096x5120 .f32) (b : Fin 8) (h : Fin 4) (t : Fin 4096) (k : Fin 128) :
    transpose S8x4x4096x128 [0, 2, 1, 3] (shapeCast S8x4096x4x128 (extractStridedSlice S8x4096x512 ![0, 0, 512] (extractStridedSlice S8x4096x2048 ![0, 0, 0] x0 slices_S8x4096x5120_S8x4096x2048_0_0_0)
        slices_S8x4096x2048_S8x4096x512_0_0_512) shapeCasts_S8x4096x512_S8x4096x4x128) transposes_S8x4096x4x128_S8x4x4096x128_0_2_1_3 (ix4 b h t k)
      = x0 (ix3 b t ⟨512 + h.val * 128 + k.val, by omega⟩) := by
  have e : transpose S8x4x4096x128 [0, 2, 1, 3] (shapeCast S8x4096x4x128 (extractStridedSlice S8x4096x512 ![0, 0, 512] (extractStridedSlice S8x4096x2048 ![0, 0, 0] x0 slices_S8x4096x5120_S8x4096x2048_0_0_0)
        slices_S8x4096x2048_S8x4096x512_0_0_512) shapeCasts_S8x4096x512_S8x4096x4x128) transposes_S8x4096x4x128_S8x4x4096x128_0_2_1_3 (ix4 b h t k)
      = x0 (ix3 b t ⟨0 + (512 + (h.val * 128 + k.val)), by omega⟩) := by
    pointwise
  rw [e]
  exact congrArg (fun i => x0 (ix3 b t i)) (Fin.ext (by simp only []; omega))

theorem pick_b (x0 : FVec Ideal S8x4096x5120 .f32) (b : Fin 8) (h : Fin 4) (t : Fin 4096) (k : Fin 128) :
    transpose S8x4x4096x128 [0, 2, 1, 3] (shapeCast S8x4096x4x128 (extractStridedSlice S8x4096x512 ![0, 0, 1024] (extractStridedSlice S8x4096x2048 ![0, 0, 0] x0 slices_S8x4096x5120_S8x4096x2048_0_0_0)
        slices_S8x4096x2048_S8x4096x512_0_0_1024) shapeCasts_S8x4096x512_S8x4096x4x128) transposes_S8x4096x4x128_S8x4x4096x128_0_2_1_3 (ix4 b h t k)
      = x0 (ix3 b t ⟨1024 + h.val * 128 + k.val, by omega⟩) := by
  have e : transpose S8x4x4096x128 [0, 2, 1, 3] (shapeCast S8x4096x4x128 (extractStridedSlice S8x4096x512 ![0, 0, 1024] (extractStridedSlice S8x4096x2048 ![0, 0, 0] x0 slices_S8x4096x5120_S8x4096x2048_0_0_0)
        slices_S8x4096x2048_S8x4096x512_0_0_1024) shapeCasts_S8x4096x512_S8x4096x4x128) transposes_S8x4096x4x128_S8x4x4096x128_0_2_1_3 (ix4 b h t k)
      = x0 (ix3 b t ⟨0 + (1024 + (h.val * 128 + k.val)), by omega⟩) := by
    pointwise
  rw [e]
  exact congrArg (fun i => x0 (ix3 b t i)) (Fin.ext (by simp only []; omega))

theorem pick_v (x0 : FVec Ideal S8x4096x5120 .f32) (b : Fin 8) (h : Fin 4) (t : Fin 4096) (k : Fin 128) :
    transpose S8x4x4096x128 [0, 2, 1, 3] (shapeCast S8x4096x4x128 (extractStridedSlice S8x4096x512 ![0, 0, 1536] (extractStridedSlice S8x4096x2048 ![0, 0, 0] x0 slices_S8x4096x5120_S8x4096x2048_0_0_0)
        slices_S8x4096x2048_S8x4096x512_0_0_1536) shapeCasts_S8x4096x512_S8x4096x4x128) transposes_S8x4096x4x128_S8x4x4096x128_0_2_1_3 (ix4 b h t k)
      = x0 (ix3 b t ⟨1536 + h.val * 128 + k.val, by omega⟩) := by
  have e : transpose S8x4x4096x128 [0, 2, 1, 3] (shapeCast S8x4096x4x128 (extractStridedSlice S8x4096x512 ![0, 0, 1536] (extractStridedSlice S8x4096x2048 ![0, 0, 0] x0 slices_S8x4096x5120_S8x4096x2048_0_0_0)
        slices_S8x4096x2048_S8x4096x512_0_0_1536) shapeCasts_S8x4096x512_S8x4096x4x128) transposes_S8x4096x4x128_S8x4x4096x128_0_2_1_3 (ix4 b h t k)
      = x0 (ix3 b t ⟨0 + (1536 + (h.val * 128 + k.val)), by omega⟩) := by
    pointwise
  rw [e]
  exact congrArg (fun i => x0 (ix3 b t i)) (Fin.ext (by simp only []; omega))

theorem pick_cf (x1 : FVec Ideal S8x256x1536 .f32) (b : Fin 8) (h : Fin 4) (t : Fin 256) (k : Fin 128) :
    transpose S8x4x256x128 [0, 2, 1, 3] (shapeCast S8x256x4x128 (extractStridedSlice S8x256x512 ![0, 0, 0] x1 slices_S8x256x1536_S8x256x512_0_0_0)
        shapeCasts_S8x256x512_S8x256x4x128) transposes_S8x256x4x128_S8x4x256x128_0_2_1_3 (ix4 b h t k)
      = x1 (ix3 b t ⟨0 + h.val * 128 + k.val, by omega⟩) := by
  have e : transpose S8x4x256x128 [0, 2, 1, 3] (shapeCast S8x256x4x128 (extractStridedSlice S8x256x512 ![0, 0, 0] x1 slices_S8x256x1536_S8x256x512_0_0_0)
        shapeCasts_S8x256x512_S8x256x4x128) transposes_S8x256x4x128_S8x4x256x128_0_2_1_3 (ix4 b h t k)
      = x1 (ix3 b t ⟨0 + (h.val * 128 + k.val), by omega⟩) := by
    pointwise
  rw [e]
  exact congrArg (fun i => x1 (ix3 b t i)) (Fin.ext (by simp only []; omega))

theorem pick_cb (x1 : FVec Ideal S8x256x1536 .f32) (b : Fin 8) (h : Fin 4) (t : Fin 256) (k : Fin 128) :
    transpose S8x4x256x128 [0, 2, 1, 3] (shapeCast S8x256x4x128 (extractStridedSlice S8x256x512 ![0, 0, 512] x1 slices_S8x256x1536_S8x256x512_0_0_512)
        shapeCasts_S8x256x512_S8x256x4x128) transposes_S8x256x4x128_S8x4x256x128_0_2_1_3 (ix4 b h t k)
      = x1 (ix3 b t ⟨512 + h.val * 128 + k.val, by omega⟩) := by
  have e : transpose S8x4x256x128 [0, 2, 1, 3] (shapeCast S8x256x4x128 (extractStridedSlice S8x256x512 ![0, 0, 512] x1 slices_S8x256x1536_S8x256x512_0_0_512)
        shapeCasts_S8x256x512_S8x256x4x128) transposes_S8x256x4x128_S8x4x256x128_0_2_1_3 (ix4 b h t k)
      = x1 (ix3 b t ⟨512 + (h.val * 128 + k.val), by omega⟩) := by
    pointwise
  rw [e]
  exact congrArg (fun i => x1 (ix3 b t i)) (Fin.ext (by simp only []; omega))

theorem pick_cv (x1 : FVec Ideal S8x256x1536 .f32) (b : Fin 8) (h : Fin 4) (t : Fin 256) (k : Fin 128) :
    transpose S8x4x256x128 [0, 2, 1, 3] (shapeCast S8x256x4x128 (extractStridedSlice S8x256x512 ![0, 0, 1024] x1 slices_S8x256x1536_S8x256x512_0_0_1024)
        shapeCasts_S8x256x512_S8x256x4x128) transposes_S8x256x4x128_S8x4x256x128_0_2_1_3 (ix4 b h t k)
      = x1 (ix3 b t ⟨1024 + h.val * 128 + k.val, by omega⟩) := by
  have e : transpose S8x4x256x128 [0, 2, 1, 3] (shapeCast S8x256x4x128 (extractStridedSlice S8x256x512 ![0, 0, 1024] x1 slices_S8x256x1536_S8x256x512_0_0_1024)
        shapeCasts_S8x256x512_S8x256x4x128) transposes_S8x256x4x128_S8x4x256x128_0_2_1_3 (ix4 b h t k)
      = x1 (ix3 b t ⟨1024 + (h.val * 128 + k.val), by omega⟩) := by
    pointwise
  rw [e]
  exact congrArg (fun i => x1 (ix3 b t i)) (Fin.ext (by simp only []; omega))

theorem lo4096 (x y : FVec Ideal S8x4x4096x128 .f32) (b : Fin 8) (h : Fin 4) (t : Fin 4096) (k : Fin 128) :
    concatenate S16x4x4096x128 0 [⟨S8x4x4096x128, x⟩, ⟨S8x4x4096x128, y⟩] concatenates_S8x4x4096x128_S8x4x4096x128_S16x4x4096x128_d0 (ix4 ⟨b.val, by omega⟩ h t k) = x (ix4 b h t k) := by
  pointwise

theorem hi4096 (x y : FVec Ideal S8x4x4096x128 .f32) (b : Fin 8) (h : Fin 4) (t : Fin 4096) (k : Fin 128) :
    concatenate S16x4x4096x128 0 [⟨S8x4x4096x128, x⟩, ⟨S8x4x4096x128, y⟩] concatenates_S8x4x4096x128_S8x4x4096x128_S16x4x4096x128_d0 (ix4 ⟨8 + b.val, by omega⟩ h t k) = y (ix4 b h t k) := by
  pointwise

theorem lo128 (x y : FVec Ideal S8x4x128x128 .f32) (b : Fin 8) (h : Fin 4) (t : Fin 128) (k : Fin 128) :
    concatenate S16x4x128x128 0 [⟨S8x4x128x128, x⟩, ⟨S8x4x128x128, y⟩] concatenates_S8x4x128x128_S8x4x128x128_S16x4x128x128_d0 (ix4 ⟨b.val, by omega⟩ h t k) = x (ix4 b h t k) := by
  pointwise

theorem hi128 (x y : FVec Ideal S8x4x128x128 .f32) (b : Fin 8) (h : Fin 4) (t : Fin 128) (k : Fin 128) :
    concatenate S16x4x128x128 0 [⟨S8x4x128x128, x⟩, ⟨S8x4x128x128, y⟩] concatenates_S8x4x128x128_S8x4x128x128_S16x4x128x128_d0 (ix4 ⟨8 + b.val, by omega⟩ h t k) = y (ix4 b h t k) := by
  pointwise

theorem rev4096 (x : FVec Ideal S8x4x4096x128 .f32) (b : Fin 8) (h : Fin 4) (t : Fin 4096) (k : Fin 128) :
    Host.reverse [2] x (ix4 b h t k) = x (ix4 b h t.rev k) := by
  pointwise
  rfl

theorem rev256 (x : FVec Ideal S8x4x256x128 .f32) (b : Fin 8) (h : Fin 4) (t : Fin 256) (k : Fin 128) :
    Host.reverse [2] x (ix4 b h t k) = x (ix4 b h t.rev k) := by
  pointwise
  rfl

theorem gate_q (l : FVec Ideal S4x1x128 .f32) (z : FVec Ideal S8x4x4096x128 .f32) (b : Fin 8) (h : Fin 4) (t : Fin 4096) (k : Fin 128) :
    addf (broadcastInDim S8x4x4096x128 ![0, 1, 2, 3] bcast_S1x4x1x128_S8x4x4096x128_0_1_2_3 (broadcastInDim S1x4x1x128 ![1, 2, 3] bcast_S4x1x128_S1x4x1x128_1_2_3 l))
      (mulf (broadcastInDim S8x4x4096x128 ![0, 1, 2, 3] bcast_S1x4x1x128_S8x4x4096x128_0_1_2_3 (broadcastInDim S1x4x1x128 ![1, 2, 3] bcast_S4x1x128_S1x4x1x128_1_2_3 (subf (K_main_v100 (F := Ideal)) l)))
        (Host.divf (K_main_v108 (F := Ideal)) (addf (K_main_v106 (F := Ideal)) (Host.exp (Host.negf z))))) (ix4 b h t k) = gate (l (ix3 h 0 k)) (z (ix4 b h t k)) := by
  show _ = l (ix3 h 0 k) + (1 - l (ix3 h 0 k)) * Ideal.div 1 (1 + Ideal.exp (-z (ix4 b h t k)))
  pointwise [K_main_v100, K_main_v106, K_main_v108, K_main_cst_13, K_main_cst_14, K_main_cst_15]

theorem gate_r (l : FVec Ideal S4x1x128 .f32) (z : FVec Ideal S8x4x4096x128 .f32) (b : Fin 8) (h : Fin 4) (t : Fin 4096) (k : Fin 128) :
    addf (broadcastInDim S8x4x4096x128 ![0, 1, 2, 3] bcast_S1x4x1x128_S8x4x4096x128_0_1_2_3 (broadcastInDim S1x4x1x128 ![1, 2, 3] bcast_S4x1x128_S1x4x1x128_1_2_3 l))
      (mulf (broadcastInDim S8x4x4096x128 ![0, 1, 2, 3] bcast_S1x4x1x128_S8x4x4096x128_0_1_2_3 (broadcastInDim S1x4x1x128 ![1, 2, 3] bcast_S4x1x128_S1x4x1x128_1_2_3 (subf (K_main_v116 (F := Ideal)) l)))
        (Host.divf (K_main_v124 (F := Ideal)) (addf (K_main_v122 (F := Ideal)) (Host.exp (Host.negf z))))) (ix4 b h t k) = gate (l (ix3 h 0 k)) (z (ix4 b h t k)) := by
  show _ = l (ix3 h 0 k) + (1 - l (ix3 h 0 k)) * Ideal.div 1 (1 + Ideal.exp (-z (ix4 b h t k)))
  pointwise [K_main_v116, K_main_v122, K_main_v124, K_main_cst_16, K_main_cst_17, K_main_cst_18]

theorem gate_c (l : FVec Ideal S4x1x128 .f32) (z : FVec Ideal S8x4x256x128 .f32) (b : Fin 8) (h : Fin 4) (t : Fin 256) (k : Fin 128) :
    addf (broadcastInDim S8x4x256x128 ![0, 1, 2, 3] bcast_S1x4x1x128_S8x4x256x128_0_1_2_3 (broadcastInDim S1x4x1x128 ![1, 2, 3] bcast_S4x1x128_S1x4x1x128_1_2_3 l))
      (mulf (broadcastInDim S8x4x256x128 ![0, 1, 2, 3] bcast_S1x4x1x128_S8x4x256x128_0_1_2_3 (broadcastInDim S1x4x1x128 ![1, 2, 3] bcast_S4x1x128_S1x4x1x128_1_2_3 (subf (K_main_v35 (F := Ideal)) l)))
        (Host.divf (K_main_v43 (F := Ideal)) (addf (K_main_v41 (F := Ideal)) (Host.exp (Host.negf z))))) (ix4 b h t k) = gate (l (ix3 h 0 k)) (z (ix4 b h t k)) := by
  show _ = l (ix3 h 0 k) + (1 - l (ix3 h 0 k)) * Ideal.div 1 (1 + Ideal.exp (-z (ix4 b h t k)))
  pointwise [K_main_v35, K_main_v41, K_main_v43, K_main_cst_5, K_main_cst_6, K_main_cst_7]

theorem gate_d (l : FVec Ideal S4x1x128 .f32) (z : FVec Ideal S8x4x256x128 .f32) (b : Fin 8) (h : Fin 4) (t : Fin 256) (k : Fin 128) :
    addf (broadcastInDim S8x4x256x128 ![0, 1, 2, 3] bcast_S1x4x1x128_S8x4x256x128_0_1_2_3 (broadcastInDim S1x4x1x128 ![1, 2, 3] bcast_S4x1x128_S1x4x1x128_1_2_3 l))
      (mulf (broadcastInDim S8x4x256x128 ![0, 1, 2, 3] bcast_S1x4x1x128_S8x4x256x128_0_1_2_3 (broadcastInDim S1x4x1x128 ![1, 2, 3] bcast_S4x1x128_S1x4x1x128_1_2_3 (subf (K_main_v61 (F := Ideal)) l)))
        (Host.divf (K_main_v69 (F := Ideal)) (addf (K_main_v67 (F := Ideal)) (Host.exp (Host.negf z))))) (ix4 b h t k) = gate (l (ix3 h 0 k)) (z (ix4 b h t k)) := by
  show _ = l (ix3 h 0 k) + (1 - l (ix3 h 0 k)) * Ideal.div 1 (1 + Ideal.exp (-z (ix4 b h t k)))
  pointwise [K_main_v61, K_main_v67, K_main_v69, K_main_cst_9, K_main_cst_10, K_main_cst_11]

theorem ctx_op (f v : FVec Ideal S8x4x256x128 .f32) (b : Fin 8) (h : Fin 4) (k a : Fin 128) (X V : Fin 256 → Row)
    (hf : ∀ t k, f (ix4 b h t k) = X t k) (hv : ∀ t k, v (ix4 b h t k) = V t k) :
    Host.dotGeneral dot_S8x4x256x128_S8x4x256x128_S8x4x128x128_2_2_3_3_01_01 none
      (mulf (subf (K_main_v53 (F := Ideal)) f) (Host.exp (subf (broadcastInDim S8x4x256x128 ![0, 1, 2, 3] bcast_S8x4x1x128_S8x4x256x128_0_1_2_3 (extractStridedSlice S8x4x1x128 ![0, 0, 255, 0]
        (Host.reduceWindowAdd ![1, 1, 256, 1] ![1, 1, 1, 1] ![0, 0, 255, 0] ![0, 0, 0, 0] (Host.log f) (K_main_call2_call0_v0 (F := Ideal)) reduceWindows_S8x4x256x128_S8x4x256x128_w1s1p0_0_w1s1p0_0_w256s1p255_0_w1s1p0_0 h_S_)
          slices_S8x4x256x128_S8x4x1x128_0_0_255_0))
        (Host.reduceWindowAdd ![1, 1, 256, 1] ![1, 1, 1, 1] ![0, 0, 255, 0] ![0, 0, 0, 0] (Host.log f) (K_main_call2_call0_v0 (F := Ideal)) reduceWindows_S8x4x256x128_S8x4x256x128_w1s1p0_0_w1s1p0_0_w256s1p255_0_w1s1p0_0 h_S_)))) v
        (ix4 b h k a) = ctx (tm X) (tm V) k a := by
  have hw : ∀ t, Host.reduceWindowAdd ![1, 1, 256, 1] ![1, 1, 1, 1] ![0, 0, 255, 0] ![0, 0, 0, 0] (Host.log f) (K_main_call2_call0_v0 (F := Ideal)) reduceWindows_S8x4x256x128_S8x4x256x128_w1s1p0_0_w1s1p0_0_w256s1p255_0_w1s1p0_0 h_S_
      (ix4 b h t k) = dec X t k := fun t => by
    refine (window_sum (s := S8x4x256x128) 2 ![1, 1, 256, 1] ![1, 1, 1, 1] ![0, 0, 255, 0] ![0, 0, 0, 0] _ _ _ _ (by decide) (by decide) (by decide) rfl rfl
      (by pointwise [K_main_call2_call0_v0, K_main_call2_call0_cst]) _).trans ?_
    show _ = ∑ i : Fin 256, if i ≤ t then Ideal.log (X i k) else 0
    refine Finset.sum_congr rfl fun (i : Fin 256) _ => congrArg (fun y => if i ≤ t then y else 0) ?_
    refine (congrArg (Host.log f) (show Function.update (ix4 b h t k) 2 i = ix4 b h i k from funext fun a => by fin_cases a <;> rfl)).trans ?_
    exact congrArg Ideal.log (hf i k)
  generalize Host.reduceWindowAdd (s := S8x4x256x128) ![1, 1, 256, 1] ![1, 1, 1, 1] ![0, 0, 255, 0] ![0, 0, 0, 0] (Host.log f) (K_main_call2_call0_v0 (F := Ideal)) reduceWindows_S8x4x256x128_S8x4x256x128_w1s1p0_0_w1s1p0_0_w256s1p255_0_w1s1p0_0 h_S_ = W at hw ⊢
  have e : Host.dotGeneral dot_S8x4x256x128_S8x4x256x128_S8x4x128x128_2_2_3_3_01_01 none
      (mulf (subf (K_main_v53 (F := Ideal)) f) (Host.exp (subf (broadcastInDim S8x4x256x128 ![0, 1, 2, 3] bcast_S8x4x1x128_S8x4x256x128_0_1_2_3 (extractStridedSlice S8x4x1x128 ![0, 0, 255, 0] W
          slices_S8x4x256x128_S8x4x1x128_0_0_255_0)) W))) v (ix4 b h k a)
      = ∑ i, ((1 - f (ix4 b h i k)) * Ideal.exp (W (ix4 b h 255 k) - W (ix4 b h i k))) * v (ix4 b h i a) := by
    pointwise [K_main_v53, K_main_cst_8]
  rw [e]
  refine Finset.sum_congr rfl fun i _ => ?_
  have ht : ∀ (Z : Fin 256 → Row) (j : Fin 256), tm Z j.val = Z j := fun Z j => tm_of_lt Z j.isLt
  rw [hw, hw, hf, hv]
  simp only [ht]

theorem ctx_op2 (f v : FVec Ideal S8x4x256x128 .f32) (b : Fin 8) (h : Fin 4) (k a : Fin 128) (X V : Fin 256 → Row)
    (hf : ∀ t k, f (ix4 b h t k) = X t k) (hv : ∀ t k, v (ix4 b h t k) = V t k) :
    Host.dotGeneral dot_S8x4x256x128_S8x4x256x128_S8x4x128x128_2_2_3_3_01_01 none
      (mulf (subf (K_main_v81 (F := Ideal)) f) (Host.exp (subf (broadcastInDim S8x4x256x128 ![0, 1, 2, 3] bcast_S8x4x1x128_S8x4x256x128_0_1_2_3 (extractStridedSlice S8x4x1x128 ![0, 0, 255, 0]
        (Host.reduceWindowAdd ![1, 1, 256, 1] ![1, 1, 1, 1] ![0, 0, 255, 0] ![0, 0, 0, 0] (Host.log f) (K_main_call5_call0_v0 (F := Ideal)) reduceWindows_S8x4x256x128_S8x4x256x128_w1s1p0_0_w1s1p0_0_w256s1p255_0_w1s1p0_0 h_S_)
          slices_S8x4x256x128_S8x4x1x128_0_0_255_0))
        (Host.reduceWindowAdd ![1, 1, 256, 1] ![1, 1, 1, 1] ![0, 0, 255, 0] ![0, 0, 0, 0] (Host.log f) (K_main_call5_call0_v0 (F := Ideal)) reduceWindows_S8x4x256x128_S8x4x256x128_w1s1p0_0_w1s1p0_0_w256s1p255_0_w1s1p0_0 h_S_)))) v
        (ix4 b h k a) = ctx (tm X) (tm V) k a := by
  have hw : ∀ t, Host.reduceWindowAdd ![1, 1, 256, 1] ![1, 1, 1, 1] ![0, 0, 255, 0] ![0, 0, 0, 0] (Host.log f) (K_main_call5_call0_v0 (F := Ideal)) reduceWindows_S8x4x256x128_S8x4x256x128_w1s1p0_0_w1s1p0_0_w256s1p255_0_w1s1p0_0 h_S_
      (ix4 b h t k) = dec X t k := fun t => by
    refine (window_sum (s := S8x4x256x128) 2 ![1, 1, 256, 1] ![1, 1, 1, 1] ![0, 0, 255, 0] ![0, 0, 0, 0] _ _ _ _ (by decide) (by decide) (by decide) rfl rfl
      (by pointwise [K_main_call5_call0_v0, K_main_call5_call0_cst]) _).trans ?_
    show _ = ∑ i : Fin 256, if i ≤ t then Ideal.log (X i k) else 0
    refine Finset.sum_congr rfl fun (i : Fin 256) _ => congrArg (fun y => if i ≤ t then y else 0) ?_
    refine (congrArg (Host.log f) (show Function.update (ix4 b h t k) 2 i = ix4 b h i k from funext fun a => by fin_cases a <;> rfl)).trans ?_
    exact congrArg Ideal.log (hf i k)
  generalize Host.reduceWindowAdd (s := S8x4x256x128) ![1, 1, 256, 1] ![1, 1, 1, 1] ![0, 0, 255, 0] ![0, 0, 0, 0] (Host.log f) (K_main_call5_call0_v0 (F := Ideal)) reduceWindows_S8x4x256x128_S8x4x256x128_w1s1p0_0_w1s1p0_0_w256s1p255_0_w1s1p0_0 h_S_ = W at hw ⊢
  have e : Host.dotGeneral dot_S8x4x256x128_S8x4x256x128_S8x4x128x128_2_2_3_3_01_01 none
      (mulf (subf (K_main_v81 (F := Ideal)) f) (Host.exp (subf (broadcastInDim S8x4x256x128 ![0, 1, 2, 3] bcast_S8x4x1x128_S8x4x256x128_0_1_2_3 (extractStridedSlice S8x4x1x128 ![0, 0, 255, 0] W
          slices_S8x4x256x128_S8x4x1x128_0_0_255_0)) W))) v (ix4 b h k a)
      = ∑ i, ((1 - f (ix4 b h i k)) * Ideal.exp (W (ix4 b h 255 k) - W (ix4 b h i k))) * v (ix4 b h i a) := by
    pointwise [K_main_v81, K_main_cst_12]
  rw [e]
  refine Finset.sum_congr rfl fun i _ => ?_
  have ht : ∀ (Z : Fin 256 → Row) (j : Fin 256), tm Z j.val = Z j := fun Z j => tm_of_lt Z j.isLt
  rw [hw, hw, hf, hv]
  simp only [ht]

variable (x0 : FVec Ideal S8x4096x5120 .f32) (x1 : FVec Ideal S8x256x1536 .f32) (x2 x3 : FVec Ideal S2x512 .f32)

theorem v26_row (h : Fin 4) (k : Fin 128) :
    A_main_v26 (F := Ideal) x0 x1 x2 x3 (ix3 h 0 k) = lbVal (fun r => x2 (ix2 r ⟨h.val * 128 + k.val, by omega⟩)) := by
  have e : A_main_v26 (F := Ideal) x0 x1 x2 x3 (ix3 h 0 k) = A_main_v11 (F := Ideal) x0 x1 x2 x3 (ix2 0 ⟨h.val * 128 + k.val, by omega⟩) := by
    pointwise [A_main_v26, A_main_v25, A_main_v24]
  refine e.trans ?_
  generalize (⟨h.val * 128 + k.val, by omega⟩ : Fin 512) = c
  have e2 : A_main_v10 (F := Ideal) x0 x1 x2 x3 (ix2 0 c) = lbVal (fun r => x2 (ix2 r c)) := by
    unfold lbVal
    pointwise [A_main_v10, A_main_v9, A_main_v8, A_main_v7, A_main_v6, A_main_v5, A_main_v4, A_main_v3, A_main_v2, A_main_v0, K_main_cst, K_main_v1, K_main_cst_0, K_main_cst_1]
  refine Eq.trans ?_ e2
  unfold A_main_v11
  refine (window_sum (s := S2x512) 0 ![2, 1] ![1, 1] ![1, 0] ![0, 0] _ _ _ _ (by decide) (by decide) (by decide) rfl rfl
      (by pointwise [K_main_call0_call0_v0, K_main_call0_call0_cst]) _).trans ?_
  show (∑ i : Fin 2, if i ≤ 0 then A_main_v10 (F := Ideal) x0 x1 x2 x3 (Function.update (ix2 0 c) 0 i) else 0) = _
  rw [Fin.sum_univ_two, if_pos (le_refl _), if_neg (by decide), add_zero]
  exact congrArg (A_main_v10 (F := Ideal) x0 x1 x2 x3) (funext fun a => by fin_cases a <;> rfl)

theorem v29_row (h : Fin 4) (k : Fin 128) :
    A_main_v29 (F := Ideal) x0 x1 x2 x3 (ix3 h 0 k) = lbVal (fun r => x3 (ix2 r ⟨h.val * 128 + k.val, by omega⟩)) := by
  have e : A_main_v29 (F := Ideal) x0 x1 x2 x3 (ix3 h 0 k) = A_main_v23 (F := Ideal) x0 x1 x2 x3 (ix2 0 ⟨h.val * 128 + k.val, by omega⟩) := by
    pointwise [A_main_v29, A_main_v28, A_main_v27]
  refine e.trans ?_
  generalize (⟨h.val * 128 + k.val, by omega⟩ : Fin 512) = c
  have e2 : A_main_v22 (F := Ideal) x0 x1 x2 x3 (ix2 0 c) = lbVal (fun r => x3 (ix2 r c)) := by
    unfold lbVal
    pointwise [A_main_v22, A_main_v21, A_main_v20, A_main_v19, A_main_v18, A_main_v17, A_main_v16, A_main_v15, A_main_v14, A_main_v12, K_main_cst_2, K_main_v13, K_main_cst_3, K_main_cst_4]
  refine Eq.trans ?_ e2
  unfold A_main_v23
  refine (window_sum (s := S2x512) 0 ![2, 1] ![1, 1] ![1, 0] ![0, 0] _ _ _ _ (by decide) (by decide) (by decide) rfl rfl
      (by pointwise [K_main_call1_call0_v0, K_main_call1_call0_cst]) _).trans ?_
  show (∑ i : Fin 2, if i ≤ 0 then A_main_v22 (F := Ideal) x0 x1 x2 x3 (Function.update (ix2 0 c) 0 i) else 0) = _
  rw [Fin.sum_univ_two, if_pos (le_refl _), if_neg (by decide), add_zero]
  exact congrArg (A_main_v22 (F := Ideal) x0 x1 x2 x3) (funext fun a => by fin_cases a <;> rfl)

/-- Head `h`'s lower bounds. -/
def lbs (x : FVec Ideal S2x512 .f32) (h : Fin 4) : Row := fun k => lbVal (fun r => x (ix2 r ⟨h.val * 128 + k.val, by omega⟩))

/-! ## The two directions' rows, of the arguments -/

theorem Q_lo (b : Fin 8) (h : Fin 4) : Q x0 x1 x2 x3 ⟨b.val, by omega⟩ h = pick x0 b (0 + h.val * 128) (by omega) := by
  funext t k
  show A_main_v99 (F := Ideal) x0 x1 x2 x3 (ix4 ⟨b.val, by omega⟩ h t k) = _
  unfold A_main_v99 A_main_v95 A_main_v94 A_main_v90 A_main_v89
  exact (lo4096 _ _ b h t k).trans (pick_q x0 b h t k)

theorem Q_hi (b : Fin 8) (h : Fin 4) : Q x0 x1 x2 x3 ⟨8 + b.val, by omega⟩ h = bk (pick x0 b (0 + h.val * 128) (by omega)) := by
  funext t k
  show A_main_v99 (F := Ideal) x0 x1 x2 x3 (ix4 ⟨8 + b.val, by omega⟩ h t k) = _
  unfold A_main_v99 A_main_v98 A_main_v95 A_main_v94 A_main_v90 A_main_v89
  exact (hi4096 _ _ b h t k).trans ((rev4096 _ b h t k).trans (pick_q x0 b h t.rev k))

theorem V_lo (b : Fin 8) (h : Fin 4) : Vl x0 x1 x2 x3 ⟨b.val, by omega⟩ h = pick x0 b (1536 + h.val * 128) (by omega) := by
  funext t k
  show A_main_v135 (F := Ideal) x0 x1 x2 x3 (ix4 ⟨b.val, by omega⟩ h t k) = _
  unfold A_main_v135 A_main_v97 A_main_v96 A_main_v93 A_main_v89
  exact (lo4096 _ _ b h t k).trans (pick_v x0 b h t k)

theorem V_hi (b : Fin 8) (h : Fin 4) : Vl x0 x1 x2 x3 ⟨8 + b.val, by omega⟩ h = bk (pick x0 b (1536 + h.val * 128) (by omega)) := by
  funext t k
  show A_main_v135 (F := Ideal) x0 x1 x2 x3 (ix4 ⟨8 + b.val, by omega⟩ h t k) = _
  unfold A_main_v135 A_main_v134 A_main_v97 A_main_v96 A_main_v93 A_main_v89
  exact (hi4096 _ _ b h t k).trans ((rev4096 _ b h t k).trans (pick_v x0 b h t.rev k))

theorem F_lo (b : Fin 8) (h : Fin 4) : Fg x0 x1 x2 x3 ⟨b.val, by omega⟩ h = gates (lbs x2 h) (pick x0 b (512 + h.val * 128) (by omega)) := by
  funext t k
  show A_main_v133 (F := Ideal) x0 x1 x2 x3 (ix4 ⟨b.val, by omega⟩ h t k) = _
  unfold A_main_v133 A_main_v115 A_main_v114 A_main_v113 A_main_v112 A_main_v111 A_main_v110 A_main_v109 A_main_v107 A_main_v105 A_main_v104 A_main_v103 A_main_v102 A_main_v101 A_main_v91 A_main_v89
  refine (lo4096 _ _ b h t k).trans ((gate_q (A_main_v26 (F := Ideal) x0 x1 x2 x3) _ b h t k).trans ?_)
  exact congrArg₂ gate (v26_row x0 x1 x2 x3 h k) (pick_f x0 b h t k)

theorem F_hi (b : Fin 8) (h : Fin 4) : Fg x0 x1 x2 x3 ⟨8 + b.val, by omega⟩ h = bk (gates (lbs x3 h) (pick x0 b (1024 + h.val * 128) (by omega))) := by
  funext t k
  show A_main_v133 (F := Ideal) x0 x1 x2 x3 (ix4 ⟨8 + b.val, by omega⟩ h t k) = _
  unfold A_main_v133 A_main_v132 A_main_v131 A_main_v130 A_main_v129 A_main_v128 A_main_v127 A_main_v126 A_main_v125 A_main_v123 A_main_v121 A_main_v120 A_main_v119 A_main_v118 A_main_v117 A_main_v92 A_main_v89
  refine (hi4096 _ _ b h t k).trans ((rev4096 _ b h t k).trans ((gate_r (A_main_v29 (F := Ideal) x0 x1 x2 x3) _ b h t.rev k).trans ?_))
  exact congrArg₂ gate (v29_row x0 x1 x2 x3 h k) (pick_b x0 b h t.rev k)

theorem S_lo (b : Fin 8) (h : Fin 4) : S0 x0 x1 x2 x3 ⟨b.val, by omega⟩ h
    = ctx (tm (gates (lbs x2 h) (pick x1 b (0 + h.val * 128) (by omega)))) (tm (pick x1 b (1024 + h.val * 128) (by omega))) := by
  funext k a
  show A_main_v136 (F := Ideal) x0 x1 x2 x3 (ix4 ⟨b.val, by omega⟩ h k a) = _
  unfold A_main_v136 A_main_v60 A_main_v59 A_main_v58 A_main_v57 A_main_v56 A_main_v55 A_main_v54 A_main_v52 A_main_v51
  refine (lo128 _ _ b h k a).trans (ctx_op (A_main_v50 (F := Ideal) x0 x1 x2 x3) (A_main_v34 (F := Ideal) x0 x1 x2 x3) b h k a _ _ (fun t k => ?_) (fun t k => ?_))
  · unfold A_main_v50 A_main_v49 A_main_v48 A_main_v47 A_main_v46 A_main_v45 A_main_v44 A_main_v42 A_main_v40 A_main_v39 A_main_v38 A_main_v37 A_main_v36 A_main_v30
    refine (gate_c (A_main_v26 (F := Ideal) x0 x1 x2 x3) _ b h t k).trans ?_
    exact congrArg₂ gate (v26_row x0 x1 x2 x3 h k) (pick_cf x1 b h t k)
  · unfold A_main_v34 A_main_v33 A_main_v32
    exact pick_cv x1 b h t k

theorem S_hi (b : Fin 8) (h : Fin 4) : S0 x0 x1 x2 x3 ⟨8 + b.val, by omega⟩ h
    = ctx (tm (bk (gates (lbs x3 h) (pick x1 b (512 + h.val * 128) (by omega))))) (tm (bk (pick x1 b (1024 + h.val * 128) (by omega)))) := by
  funext k a
  show A_main_v136 (F := Ideal) x0 x1 x2 x3 (ix4 ⟨8 + b.val, by omega⟩ h k a) = _
  unfold A_main_v136 A_main_v88 A_main_v87 A_main_v86 A_main_v85 A_main_v84 A_main_v83 A_main_v82 A_main_v80 A_main_v79
  refine (hi128 _ _ b h k a).trans (ctx_op2 (A_main_v77 (F := Ideal) x0 x1 x2 x3) (A_main_v78 (F := Ideal) x0 x1 x2 x3) b h k a _ _ (fun t k => ?_) (fun t k => ?_))
  · unfold A_main_v77 A_main_v76 A_main_v75 A_main_v74 A_main_v73 A_main_v72 A_main_v71 A_main_v70 A_main_v68 A_main_v66 A_main_v65 A_main_v64 A_main_v63 A_main_v62 A_main_v31
    refine (rev256 _ b h t k).trans ((gate_d (A_main_v29 (F := Ideal) x0 x1 x2 x3) _ b h t.rev k).trans ?_)
    exact congrArg₂ gate (v29_row x0 x1 x2 x3 h k) (pick_cb x1 b h t.rev k)
  · unfold A_main_v78 A_main_v34 A_main_v33 A_main_v32
    exact (rev256 _ b h t k).trans (pick_cv x1 b h t.rev k)

end Cert.ReferenceIdeal.Step

end
-- ==== Proof.Alg.lean ====
/- The kernel and the reference compute the same two arrays. -/
module

public import proofs.«01_k».proof.Defs
public import proofs.«01_k».proof.Proof.Frames
public import proofs.«01_k».proof.Proof.KerVal
public import proofs.«01_k».proof.Proof.RefRun
public import proofs.«01_k».proof.Proof.RefIter
public import proofs.«01_k».proof.Proof.RefArg

@[expose] public section

noncomputable section

namespace Cert.Alg

open Idealize.ShloMosaic Idealize.ShloMosaic.TcCoe Idealize.SL.Sem
open Cert.Scan

set_option maxRecDepth 16384

/-- An index of an output, by batch, chunk, row, head and channel. -/
theorem out_ext (f g : FVec Ideal Cert.KernelIdeal.S8x4096x512 .f32)
    (h : ∀ (b : Fin 8) (n r : Fin 64) (h : Fin 4) (a : Fin 128), f (ix3 b ⟨n.val * 64 + r.val, by omega⟩ ⟨h.val * 128 + a.val, by omega⟩)
      = g (ix3 b ⟨n.val * 64 + r.val, by omega⟩ ⟨h.val * 128 + a.val, by omega⟩)) : f = g := by
  funext i
  have h1 : (i 1).val < 4096 := (i 1).isLt
  have h2 : (i 2).val < 512 := (i 2).isLt
  have e : i = (ix3 (i 0) ⟨(⟨(i 1).val / 64, by omega⟩ : Fin 64).val * 64 + (⟨(i 1).val % 64, by omega⟩ : Fin 64).val, by show (i 1).val / 64 * 64 + (i 1).val % 64 < 4096; omega⟩
      ⟨(⟨(i 2).val / 128, by omega⟩ : Fin 4).val * 128 + (⟨(i 2).val % 128, by omega⟩ : Fin 128).val, by show (i 2).val / 128 * 128 + (i 2).val % 128 < 512; omega⟩
      : Cert.KernelIdeal.S8x4096x512.Idx) := funext fun a => Fin.ext (by
    fin_cases a
    · rfl
    · show (i 1).val = (i 1).val / 64 * 64 + (i 1).val % 64
      omega
    · show (i 2).val = (i 2).val / 128 * 128 + (i 2).val % 128
      omega)
  rw [e]
  exact h (i 0) _ _ _ _

section Ref

variable (x0 : FVec Ideal Cert.ReferenceIdeal.S8x4096x5120 .f32) (x1 : FVec Ideal Cert.ReferenceIdeal.S8x256x1536 .f32) (x2 x3 : FVec Ideal Cert.ReferenceIdeal.S2x512 .f32)

open Cert.ReferenceIdeal.Step in
theorem ref_f (b : Fin 8) (n r : Fin 64) (h : Fin 4) (a : Fin 128) :
    R_main_v183 (its x0 x1 x2 x3 64) (ix3 b ⟨n.val * 64 + r.val, by omega⟩ ⟨h.val * 128 + a.val, by omega⟩)
      = scan (Ideal.ofBits .f32 0x3DB504F3#32) (pick x0 b (0 + h.val * 128) (by omega)) (gates (lbs x2 h) (pick x0 b (512 + h.val * 128) (by omega)))
          (pick x0 b (1536 + h.val * 128) (by omega))
          (ctx (tm (gates (lbs x2 h) (pick x1 b (0 + h.val * 128) (by omega)))) (tm (pick x1 b (1024 + h.val * 128) (by omega)))) n.val r a := by
  rw [R183, Q_lo, F_lo, V_lo, S_lo]

open Cert.ReferenceIdeal.Step in
theorem ref_b (b : Fin 8) (n r : Fin 64) (h : Fin 4) (a : Fin 128) :
    R_main_v185 (its x0 x1 x2 x3 64) (ix3 b ⟨n.val * 64 + r.val, by omega⟩ ⟨h.val * 128 + a.val, by omega⟩)
      = scan (Ideal.ofBits .f32 0x3DB504F3#32) (bk (pick x0 b (0 + h.val * 128) (by omega))) (bk (gates (lbs x3 h) (pick x0 b (1024 + h.val * 128) (by omega))))
          (bk (pick x0 b (1536 + h.val * 128) (by omega)))
          (ctx (tm (bk (gates (lbs x3 h) (pick x1 b (512 + h.val * 128) (by omega))))) (tm (bk (pick x1 b (1024 + h.val * 128) (by omega))))) n.rev.val r.rev a := by
  rw [R185, Q_hi, F_hi, V_hi, S_hi]

end Ref

open Cert.KernelIdeal.Scan in
theorem ker_f (m : (ℓ : Loc Cert.KernelIdeal.nD Cert.KernelIdeal.τ Cert.KernelIdeal.sig) → Buf (Elt Ideal) ℓ) (c : Dev Cert.KernelIdeal.nD) (b : Fin 8) (n r : Fin 64) (h : Fin 4) (a : Fin 128) :
    Cert.ReferenceIdeal.Step.R_main_v183 (Cert.ReferenceIdeal.Step.its (X0 m c) (X1 m c) (X2 m c) (X3 m c) 64) (ix3 b ⟨n.val * 64 + r.val, by omega⟩ ⟨h.val * 128 + a.val, by omega⟩)
      = spread (vF m c) (ix3 b ⟨n.val * 64 + r.val, by omega⟩ ⟨h.val * 128 + a.val, by omega⟩) :=
  (ref_f (X0 m c) (X1 m c) (X2 m c) (X3 m c) b n r h a).trans (spread_at (vF m c) b n r h a _ _ rfl rfl).symm

open Cert.KernelIdeal.Scan in
theorem ker_b (m : (ℓ : Loc Cert.KernelIdeal.nD Cert.KernelIdeal.τ Cert.KernelIdeal.sig) → Buf (Elt Ideal) ℓ) (c : Dev Cert.KernelIdeal.nD) (b : Fin 8) (n r : Fin 64) (h : Fin 4) (a : Fin 128) :
    Cert.ReferenceIdeal.Step.R_main_v185 (Cert.ReferenceIdeal.Step.its (X0 m c) (X1 m c) (X2 m c) (X3 m c) 64) (ix3 b ⟨n.val * 64 + r.val, by omega⟩ ⟨h.val * 128 + a.val, by omega⟩)
      = spread (vB m c) (ix3 b ⟨n.val * 64 + r.val, by omega⟩ ⟨h.val * 128 + a.val, by omega⟩) :=
  (ref_b (X0 m c) (X1 m c) (X2 m c) (X3 m c) b n r h a).trans (spread_at (vB m c) b n r h a _ _ rfl rfl).symm

open Cert.ReferenceIdeal.Step in
theorem its_zero (x0 : FVec Ideal Cert.ReferenceIdeal.S8x4096x5120 .f32) (x1 : FVec Ideal Cert.ReferenceIdeal.S8x256x1536 .f32) (x2 x3 : FVec Ideal Cert.ReferenceIdeal.S2x512 .f32)
    (y0 : FVec Ideal Cert.ReferenceIdeal.S8x4096x5120 .f32) (y1 : FVec Ideal Cert.ReferenceIdeal.S8x256x1536 .f32) (y2 y3 : FVec Ideal Cert.ReferenceIdeal.S2x512 .f32)
    (h0 : y0 = x0) (h1 : y1 = x1) (h2 : y2 = x2) (h3 : y3 = x3) : its x0 x1 x2 x3 0 = init (F := Ideal) y0 y1 y2 y3 := by
  subst h0 h1 h2 h3
  rw [its]

open Cert.ReferenceIdeal.Step in
theorem its_succ (x0 : FVec Ideal Cert.ReferenceIdeal.S8x4096x5120 .f32) (x1 : FVec Ideal Cert.ReferenceIdeal.S8x256x1536 .f32) (x2 x3 : FVec Ideal Cert.ReferenceIdeal.S2x512 .f32) (n : ℕ) :
    its x0 x1 x2 x3 (n + 1) = step (F := Ideal) n (its x0 x1 x2 x3 n) := by
  rw [its]

open Cert.KernelIdeal.Scan in
/-- The states of the reference's loop, of the kernel's arguments. -/
def itK (m : (ℓ : Loc Cert.KernelIdeal.nD Cert.KernelIdeal.τ Cert.KernelIdeal.sig) → Buf (Elt Ideal) ℓ) (c : Dev Cert.ReferenceIdeal.nD) : ℕ → Cert.ReferenceIdeal.Step.State Ideal :=
  Cert.ReferenceIdeal.Step.its (X0 m c) (X1 m c) (X2 m c) (X3 m c)

open Cert.KernelIdeal.Scan in
theorem res_f (m : (ℓ : Loc Cert.KernelIdeal.nD Cert.KernelIdeal.τ Cert.KernelIdeal.sig) → Buf (Elt Ideal) ℓ) (c : Dev Cert.KernelIdeal.nD) :
    Cert.ReferenceIdeal.Step.R_main_v183 (itK m c 64) = spread (vF m c) := out_ext _ _ (ker_f m c)

open Cert.KernelIdeal.Scan in
theorem res_b (m : (ℓ : Loc Cert.KernelIdeal.nD Cert.KernelIdeal.τ Cert.KernelIdeal.sig) → Buf (Elt Ideal) ℓ) (c : Dev Cert.KernelIdeal.nD) :
    Cert.ReferenceIdeal.Step.R_main_v185 (itK m c 64) = spread (vB m c) := out_ext _ _ (ker_b m c)

open Cert.KernelIdeal.Scan in
theorem algebraic : Cert.algebraic_KernelIdeal_ReferenceIdeal_pre_lb_finite := fun m g m' g' hpre hag => by
  have hr : ∀ c, (∀ i, ∃ r : ℝ, X2 m c i = (r : EReal)) ∧ ∀ i, ∃ r : ℝ, X3 m c i = (r : EReal) := fun c =>
    real_of_pre (X0 m c) (X1 m c) (X2 m c) (X3 m c) (hpre c)
  have h0 : ∀ c, itK m c 0 = Cert.ReferenceIdeal.StepRun.initState m' c := fun c =>
    its_zero _ _ _ _ _ _ _ _ (hag c).1 (hag c).2.1 (hag c).2.2.1 (hag c).2.2.2
  have hs : ∀ c n, itK m c (n + 1) = Cert.ReferenceIdeal.Step.step n (itK m c n) := fun c n => its_succ _ _ _ _ n
  refine ⟨fun c => spread (vF m c), fun c => spread (vB m c), ?_, ?_⟩
  · refine (θ_run _ _ _).mono (fun r h c => ?_) (run_blocks (F := Ideal) m g)
    exact ⟨(h c).1.trans (outF m c (hr c).1 (hr c).2), (h c).2.1.trans (outB m c (hr c).1 (hr c).2), (h c).2.2⟩
  · refine (θ_run _ _ _).mono (fun r h c => ?_) (Cert.ReferenceIdeal.StepRun.run_iter (F := Ideal) m' g' (itK m) h0 hs)
    exact ⟨(h c).1.trans (res_f m c), (h c).2.1.trans (res_b m c), (h c).2.2⟩

end Cert.Alg

end
-- ==== Proof.NormKer.lean ====
/- The projection's kernel: a row is normalized over its 1024 channels, scaled and shifted, and multiplied by the weights, 512 columns
   at a time. What one block computes, what the blocks are, and so what the output array holds. -/
module

public import proofs.«01_k».proof.Proof.Gen.Kernel2Ideal.Value
public import Idealize.ShloMosaic.Lib.Pointwise
public import Idealize.ShloMosaic.Lib.StableHlo.ReadAt
public import Idealize.ShloMosaic.Lib.Pipeline.ValueKit

@[expose] public section

noncomputable section

namespace Cert.Kernel2Ideal.Norm

open Idealize.ShloMosaic Idealize.ShloMosaic.TcCoe Idealize.SL.Sem
open Cert.Kernel2Ideal Cert.Kernel2Ideal.Gen
open Idealize.ShloMosaic.Pipeline (Dat)
open scoped BigOperators

set_option maxRecDepth 16384

/-- One channel of a row `x`: over the root of its mean square (and the small constant), by the gain `g`, by one plus the scale `sc`, plus the shift `sh`. -/
def un (x g sc sh : Fin 1024 → EReal) (k : Fin 1024) : EReal :=
  x k * Ideal.rsqrt (Ideal.div (∑ i, x i * x i) (Ideal.ofBits FTy.f32 1149239296#32) + Ideal.ofBits FTy.f32 897988541#32) * g k * (1 + sc k) + sh k

theorem u_at (v0 : Vec Ideal S1x256x1024 .f32) (v2 : Vec Ideal S1x1024 .f32) (v4 v6 : Vec Ideal S1x1x1024 .f32) (r : Fin 256) (k : Fin 1024) :
    k0_pay6 (F := Ideal) v0 v2 v4 v6 (ix2 r k)
      = un (fun k => v0 (ix3 0 r k)) (fun k => v2 (ix2 0 k)) (fun k => v6 (ix3 0 0 k)) (fun k => v4 (ix3 0 0 k)) k := by
  unfold un
  pointwise [k0_pay6]

/-- The normalized rows of a block, whose row and whose gain, scale and shift are known. -/
theorem rows_at (x0 : Vec Ideal S1x256x1024 .f32) (x1 x2 : Vec Ideal S1x1x1024 .f32) (x3 : Vec Ideal S1x1024 .f32) (x4 : Vec Ideal S1024x5120 .bf16)
    (x g sc sh : Fin 1024 → EReal) (r : Fin 256) (k : Fin 1024) (h0 : ∀ k, x0 (ix3 0 r k) = x k) (h3 : ∀ k, x3 (ix2 0 k) = g k)
    (h2 : ∀ k, x2 (ix3 0 0 k) = sc k) (h1 : ∀ k, x1 (ix3 0 0 k) = sh k) : k0_pay13 (F := Ideal) x0 x1 x2 x3 x4 (ix2 r k) = un x g sc sh k := by
  have l0 : View.ld x0 r0_0 = x0 := View.ld_unit_zero (by funext a; fin_cases a <;> rfl) _ _
  have l1 : View.ld x1 r0_2 = x1 := View.ld_unit_zero (by funext a; fin_cases a <;> rfl) _ _
  have l2 : View.ld x2 r0_2 = x2 := View.ld_unit_zero (by funext a; fin_cases a <;> rfl) _ _
  have l3 : View.ld x3 r0_1 = x3 := View.ld_unit_zero (by funext a; fin_cases a <;> rfl) _ _
  unfold k0_pay13
  rw [l0, l1, l2, l3]
  refine (u_at x0 x3 x1 x2 r k).trans ?_
  unfold un
  simp only [h0, h1, h2, h3]

/-- The product of rows and columns, as a block of the output. -/
def prd (u : Vec Ideal S256x1024 .bf16) (w : Vec Ideal S1024x5120 .bf16) : Vec Ideal S1x256x5120 .f32 :=
  fun y => ∑ k : Fin 1024, u (ix2 (y 1) k) * w (ix2 k (y 2))

/-- A piece of 512 columns that holds the product of the rows with its columns is a piece of the whole product. -/
theorem piece (u : Vec Ideal S256x1024 .bf16) (w : Vec Ideal S1024x5120 .bf16) (off : ℕ) (ho : off + 512 ≤ 5120)
    (inb : ∀ a, (![0, 0, off] : Fin 3 → ℕ) a + S1x256x512.size a ≤ S1x256x5120.size a) (P : FVec Ideal S1x256x512 .f32)
    (hP : ∀ (r : Fin 256) (k : Fin 512), P (ix3 0 r k) = ∑ i : Fin 1024, u (ix2 r i) * w (ix2 i ⟨off + k.val, by omega⟩)) (x : S1x256x512.Idx) :
    P x = prd u w ((Rect.unit (s := S1x256x5120) ![0, 0, off] S1x256x512.size inb).emb x) := by
  have e : x = (ix3 0 (x 1) (x 2) : S1x256x512.Idx) := funext fun a => by
    fin_cases a
    · exact Subsingleton.elim (α := Fin 1) _ _
    · rfl
    · rfl
  refine (congrArg P e).trans ((hP (x 1) (x 2)).trans ?_)
  unfold prd
  refine Finset.sum_congr rfl fun i _ => congrArg₂ (· * ·) (congrArg (fun r => u (ix2 r i)) (Fin.ext ?_)) (congrArg (fun k => w (ix2 i k)) (Fin.ext ?_))
  · rw [Rect.emb_apply, Rect.off_unit, Rect.stride_unit]
    exact (by omega : (x 1).val = 0 + 1 * (x 1).val)
  · rw [Rect.emb_apply, Rect.off_unit, Rect.stride_unit]
    exact (by omega : off + (x 2).val = off + 1 * (x 2).val)

/-- What the body leaves in the output's buffer. -/
theorem out_eq (x0 : Vec Ideal S1x256x1024 .f32) (x1 x2 : Vec Ideal S1x1x1024 .f32) (x3 : Vec Ideal S1x1024 .f32) (x4 : Vec Ideal S1024x5120 .bf16) :
    out0_5 (F := Ideal) x0 x1 x2 x3 x4 = prd (k0_pay13 x0 x1 x2 x3 x4) x4 := by
  funext y
  unfold out0_5
  refine View.canon_apply_of_pieces (prd (k0_pay13 x0 x1 x2 x3 x4) x4) _ ?_ y (cover0_5 _ _ _ _ _ _ _ _ _ _ y)
  have h7 : k0_pay7 (View.ld x0 r0_0) (View.ld x3 r0_1) (View.ld x1 r0_2) (View.ld x2 r0_2) (View.ld x4 r0_3)
      = k0_pay8 (k0_pay13 x0 x1 x2 x3 x4) (View.ld x4 r0_3) := rfl
  rw [h7]
  generalize k0_pay13 (F := Ideal) x0 x1 x2 x3 x4 = u
  simp only [List.forall_mem_cons]
  refine ⟨?_, ?_, ?_, ?_, ?_, ?_, ?_, ?_, ?_, ?_, fun p h => by simp at h⟩
  · exact piece u x4 4608 (by decide) inb_S1x256x5120_S1x256x512_0_0_4608 _ fun r k => by pointwise [k0_pay5]
  · exact piece u x4 4096 (by decide) inb_S1x256x5120_S1x256x512_0_0_4096 _ fun r k => by pointwise [k0_pay4]
  · exact piece u x4 3584 (by decide) inb_S1x256x5120_S1x256x512_0_0_3584 _ fun r k => by pointwise [k0_pay3]
  · exact piece u x4 3072 (by decide) inb_S1x256x5120_S1x256x512_0_0_3072 _ fun r k => by pointwise [k0_pay2]
  · exact piece u x4 2560 (by decide) inb_S1x256x5120_S1x256x512_0_0_2560 _ fun r k => by pointwise [k0_pay1, k0_pay12]
  · exact piece u x4 2048 (by decide) inb_S1x256x5120_S1x256x512_0_0_2048 _ fun r k => by pointwise [k0_pay11]
  · exact piece u x4 1536 (by decide) inb_S1x256x5120_S1x256x512_0_0_1536 _ fun r k => by pointwise [k0_pay10]
  · exact piece u x4 1024 (by decide) inb_S1x256x5120_S1x256x512_0_0_1024 _ fun r k => by pointwise [k0_pay9]
  · exact piece u x4 512 (by decide) inb_S1x256x5120_S1x256x512_0_0_512 _ fun r k => by pointwise [k0_pay8]
  · exact piece u x4 0 (by decide) inb_S1x256x5120_S1x256x512_0_0_0 _ fun r k => by
      simp only [Nat.zero_add]
      pointwise [k0_pay8]

/-! ## The blocks -/

variable (m : (ℓ : Loc nD τ sig) → Buf (Elt Ideal) ℓ)

theorem ix_0 : ∀ t : Fin cfg0.N, win0_0.index t = ![t.val / 16 % 8, t.val % 16, 0] := (by decide +kernel : ∀ t : Fin grid0.N, _)
theorem ix_1 : ∀ t : Fin cfg0.N, win0_1.index t = ![t.val / 16 % 8, 0, 0] := (by decide +kernel : ∀ t : Fin grid0.N, _)
theorem ix_2 : ∀ t : Fin cfg0.N, win0_2.index t = ![t.val / 16 % 8, 0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![t.val / 16 % 8, t.val % 16, 0] := (by decide +kernel : ∀ t : Fin grid0.N, _)

theorem blk_0 (c : Dev nD) (t : Fin cfg0.N) (r : Fin 256) (k : Fin 1024) :
    iblk m c 0 t (ix3 0 r k : S1x256x1024.Idx) = V m c main_arg0 (ix3 ⟨t.val / 16 % 8, by omega⟩ ⟨t.val % 16 * 256 + r.val, by omega⟩ k : S8x4096x1024.Idx) := by
  blk_simp [iblk]
  refine congrArg (V m c main_arg0) (funext fun a => Fin.ext ?_)
  blk_simp [ix_0]
  fin_cases a
  · exact Nat.mul_one _
  · rfl
  · exact (by omega : 0 * 1024 + k.val = k.val)

theorem blk_1 (c : Dev nD) (t : Fin cfg0.N) (k : Fin 1024) :
    iblk m c 1 t (ix3 0 0 k : S1x1x1024.Idx) = V m c main_arg1 (ix3 ⟨t.val / 16 % 8, by omega⟩ 0 k : S8x1x1024.Idx) := by
  blk_simp [iblk]
  refine congrArg (V m c main_arg1) (funext fun a => Fin.ext ?_)
  blk_simp [ix_1]
  fin_cases a
  · exact Nat.mul_one _
  · rfl
  · exact (by omega : 0 * 1024 + k.val = k.val)

theorem blk_2 (c : Dev nD) (t : Fin cfg0.N) (k : Fin 1024) :
    iblk m c 2 t (ix3 0 0 k : S1x1x1024.Idx) = V m c main_arg2 (ix3 ⟨t.val / 16 % 8, by omega⟩ 0 k : S8x1x1024.Idx) := by
  blk_simp [iblk]
  refine congrArg (V m c main_arg2) (funext fun a => Fin.ext ?_)
  blk_simp [ix_2]
  fin_cases a
  · exact Nat.mul_one _
  · rfl
  · exact (by omega : 0 * 1024 + k.val = k.val)

theorem blk_3 (c : Dev nD) (t : Fin cfg0.N) (k : Fin 1024) :
    iblk m c 3 t (ix2 0 k : S1x1024.Idx) = V m c main_v1 (ix2 0 k : S1x1024.Idx) := by
  blk_simp [iblk]
  refine congrArg (V m c main_v1) (funext fun a => Fin.ext ?_)
  blk_simp [ix_3]
  fin_cases a
  · rfl
  · exact (by omega : 0 * 1024 + k.val = k.val)

theorem blk_4 (c : Dev nD) (t : Fin cfg0.N) (r : Fin 1024) (k : Fin 5120) :
    iblk m c 4 t (ix2 r k : S1024x5120.Idx) = V m c main_v3 (ix2 r k : S1024x5120.Idx) := by
  blk_simp [iblk]
  refine congrArg (V m c main_v3) (funext fun a => Fin.ext ?_)
  blk_simp [ix_4]
  fin_cases a
  · exact (by omega : 0 * 1024 + r.val = r.val)
  · exact (by omega : 0 * 5120 + k.val = k.val)

theorem emb_5 (t : Fin cfg0.N) (r : Fin 256) (k : Fin 5120) :
    ((cfg0.win 5).blk t).view.emb (ix3 0 r k : S1x256x5120.Idx) = (ix3 ⟨t.val / 16 % 8, by omega⟩ ⟨t.val % 16 * 256 + r.val, by omega⟩ k : S8x4096x5120.Idx) := by
  refine funext fun a => Fin.ext ?_
  blk_simp [ix_5]
  fin_cases a
  · exact Nat.mul_one _
  · rfl
  · exact (by omega : 0 * 5120 + k.val = k.val)

theorem gain_at (c : Dev nD) (k : Fin 1024) : V m c main_v1 (ix2 0 k : S1x1024.Idx) = m ((c.tc : Thread nD τ).loc main_arg3) (ix2 0 k : S1x1024.Idx) := by
  have e (g : FVec Ideal S1x1024 .f32) : broadcastInDim S1x1024 ![1] bcast_S1024_S1x1024_1 (shapeCast S1024 g shapeCasts_S1x1024_S1024) (ix2 0 k) = g (ix2 0 k) := by
    pointwise
  have h : V m c main_v1 = broadcastInDim S1x1024 ![1] bcast_S1024_S1x1024_1 (shapeCast S1024 (m ((c.tc : Thread nD τ).loc main_arg3) : FVec Ideal S1x1024 .f32) shapeCasts_S1x1024_S1024) := by
    unfold V; simp only [hostOps0, List.flatten_cons, List.flatten_nil, List.append_nil, List.cons_append, List.nil_append]; after_reads_simp
    rfl
  rw [h]
  exact e _

theorem weight_at (c : Dev nD) (r : Fin 1024) (k : Fin 5120) :
    V m c main_v3 (ix2 r k : S1024x5120.Idx) = m ((c.tc : Thread nD τ).loc main_arg4) (ix3 0 r k : S1x1024x5120.Idx) := by
  have e (w : FVec Ideal S1x1024x5120 .f32) : (truncf .bf16 (shapeCast S1024x5120 w shapeCasts_S1x1024x5120_S1024x5120) bitsLt_bf16_f32 : FVec Ideal S1024x5120 .bf16) (ix2 r k) = w (ix3 0 r k) := by
    pointwise
  have h : V m c main_v3 = (truncf .bf16 (shapeCast S1024x5120 (m ((c.tc : Thread nD τ).loc main_arg4) : FVec Ideal S1x1024x5120 .f32) shapeCasts_S1x1024x5120_S1024x5120) bitsLt_bf16_f32 : FVec Ideal S1024x5120 .bf16) := by
    unfold V; simp only [hostOps0, List.flatten_cons, List.flatten_nil, List.append_nil, List.cons_append, List.nil_append]; after_reads_simp
    rfl
  rw [h]
  exact e _

/-! ## The output -/

/-- The projection of every normalized row. -/
def proj (x : FVec Ideal S8x4096x1024 .f32) (sh sc : FVec Ideal S8x1x1024 .f32) (g : FVec Ideal S1x1024 .f32) (w : FVec Ideal S1x1024x5120 .f32)
    (b : Fin 8) (t : Fin 4096) (j : Fin 5120) : EReal :=
  ∑ k : Fin 1024, un (fun k => x (ix3 b t k)) (fun k => g (ix2 0 k)) (fun k => sc (ix3 b 0 k)) (fun k => sh (ix3 b 0 k)) k * w (ix3 0 k j)

/-- The same as an array. -/
def projA (x : FVec Ideal S8x4096x1024 .f32) (sh sc : FVec Ideal S8x1x1024 .f32) (g : FVec Ideal S1x1024 .f32) (w : FVec Ideal S1x1024x5120 .f32) : FVec Ideal S8x4096x5120 .f32 :=
  fun i => proj x sh sc g w (i 0) (i 1) (i 2)

/-- A product of normalized rows and of the weights is the projection of the rows. -/
theorem prd_at (u : Vec Ideal S256x1024 .bf16) (w' : Vec Ideal S1024x5120 .bf16)
    (x : FVec Ideal S8x4096x1024 .f32) (sh sc : FVec Ideal S8x1x1024 .f32) (g : FVec Ideal S1x1024 .f32) (w : FVec Ideal S1x1024x5120 .f32)
    (r : Fin 256) (b : Fin 8) (t : Fin 4096) (j : Fin 5120)
    (hu : ∀ i, u (ix2 r i) = un (fun k => x (ix3 b t k)) (fun k => g (ix2 0 k)) (fun k => sc (ix3 b 0 k)) (fun k => sh (ix3 b 0 k)) i)
    (hw : ∀ i, w' (ix2 i j) = w (ix3 0 i j)) : prd u w' (ix3 0 r j) = projA x sh sc g w (ix3 b t j) :=
  Finset.sum_congr rfl fun i _ => congrArg₂ (· * ·) (hu i) (hw i)

/-- The kernel's output, of the launch's arguments. -/
def kz (c : Dev nD) : FVec Ideal S8x4096x5120 .f32 :=
  projA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What a grid point writes: its rows of the projection. -/
theorem blkZ (c : Dev nD) (t : Fin cfg0.N) (r : Fin 256) (k : Fin 5120) :
    (dats m 0 c).after 5 t (ix3 0 r k : S1x256x5120.Idx) = kz m c (ix3 ⟨t.val / 16 % 8, by omega⟩ ⟨t.val % 16 * 256 + r.val, by omega⟩ k) := by
  rw [after0_5, out_eq]
  refine prd_at _ _ _ _ _ _ _ _ _ _ _ (fun i => ?_) fun i => (blk_4 m c t i k).trans (weight_at m c i k)
  exact rows_at (iblk m c 0 t) (iblk m c 1 t) (iblk m c 2 t) (iblk m c 3 t) (iblk m c 4 t) _ _ _ _ r i
    (fun k => (blk_0 m c t r k).trans (congrFun (V_main_arg0 m c) _)) (fun k => (blk_3 m c t k).trans (gain_at m c k))
    (fun k => (blk_2 m c t k).trans (congrFun (V_main_arg2 m c) _)) (fun k => (blk_1 m c t k).trans (congrFun (V_main_arg1 m c) _))

/-- The output array is the projection. -/
theorem outZ (c : Dev nD) : (dats m 0 c).arrAt 5 cfg0.N = kz m c := by
  refine (dats m 0 c).arrAt_eq_of_covers 5 _ (by decide +kernel) fun t hf y => ?_
  have e : y = (ix3 0 (y 1) (y 2) : S1x256x5120.Idx) := funext fun a => by
    fin_cases a
    · exact Subsingleton.elim (α := Fin 1) _ _
    · rfl
    · rfl
  refine (congrArg ((dats m 0 c).after 5 t) e).trans ((blkZ m c t (y 1) (y 2)).trans (congrArg (kz m c) ?_))
  exact (emb_5 t (y 1) (y 2)).symm.trans (congrArg ((cfg0.win 5).blk t).view.emb e.symm)

end Cert.Kernel2Ideal.Norm

end
-- ==== Proof.NormAlg.lean ====
/- The projection's kernel and its reference compute the same array; and the frames of its three programs. -/
module

public import proofs.«01_k».proof.Defs
public import proofs.«01_k».proof.Proof.NormKer
public import proofs.«01_k».proof.Proof.Gen.Kernel2.Frame
public import proofs.«01_k».proof.Proof.Gen.Reference2Ideal.Run
public import Idealize.ShloMosaic.Lib.Claim

@[expose] public section

noncomputable section

namespace Cert.NormAlg

open Idealize.ShloMosaic Idealize.ShloMosaic.TcCoe Idealize.SL.Sem

set_option maxRecDepth 16384

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Reference2Ideal Cert.Reference2Ideal.Gen in
/-- The reference's term, at an index. -/
theorem ref_at (x : FVec Ideal S8x4096x1024 .f32) (sh sc : FVec Ideal S8x1x1024 .f32) (g : FVec Ideal S1x1024 .f32) (w : FVec Ideal S1x1024x5120 .f32)
    (b : Fin 8) (t : Fin 4096) (j : Fin 5120) :
    Host.dotGeneral dot_S8x4096x1024_S1024x5120_S8x4096x5120_2_0_01_1_n_n none (addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ g shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)) (shapeCast _ w shapeCasts_S1x1024x5120_S1024x5120) (ix3 b t j)
      = Cert.Kernel2Ideal.Norm.proj x sh sc g w b t j := by
  unfold Cert.Kernel2Ideal.Norm.proj Cert.Kernel2Ideal.Norm.un
  pointwise

theorem algebraic : Cert.algebraic_Kernel2Ideal_Reference2Ideal := fun m g m' g' _ hag => by
  refine ⟨Cert.Kernel2Ideal.Norm.kz m, ?_, ?_⟩
  · refine (θ_run _ _ _).mono (fun r h c => ?_) (Cert.Kernel2Ideal.Value.run_blocks (F := Ideal) m g)
    exact ⟨(h c).1.trans (Cert.Kernel2Ideal.Norm.outZ m c), (h c).2⟩
  · refine (θ_run _ _ _).mono (fun r h c => ?_) (Cert.Reference2Ideal.Value.run (F := Ideal) m' g')
    refine ⟨(h c).1.trans ?_, (h c).2⟩
    rw [(hag c).1, (hag c).2.1, (hag c).2.2.1, (hag c).2.2.2.1, (hag c).2.2.2.2]
    funext i
    have e : i = (ix3 (i 0) (i 1) (i 2) : Cert.Reference2Ideal.S8x4096x5120.Idx) := funext fun a => by fin_cases a <;> rfl
    rw [e]
    exact ref_at _ _ _ _ _ (i 0) (i 1) (i 2)

end Cert.NormAlg

end
-- ==== Proof.MergeFn.lean ====
/- One entry of the merge as a function of the rows that it reads: each head of the scan's row normalized and gated, projected;
   the Fourier row projected; the two gated per channel and added; the output projection; the gated residual. -/
module

public import Idealize.ShloMosaic.Lib.Pointwise

@[expose] public section

noncomputable section

namespace Cert.Merge

open Idealize.ShloMosaic
open scoped BigOperators

/-- The logistic function. -/
def sg (a : EReal) : EReal := Ideal.div 1 (1 + Ideal.exp (-a))

/-- The same, where the negation is written as a difference from zero. -/
theorem sg_eq (a : EReal) : Ideal.div 1 (1 + Ideal.exp (0 - a)) = sg a := by
  unfold sg
  rw [sub_eq_add_neg, zero_add]

/-- Column `k` of the head that column `c` belongs to. -/
def mate (c : Fin 512) (k : Fin 128) : Fin 512 := ⟨c.val / 128 * 128 + k.val, by omega⟩

/-- Column `c` of the row `o`, over the root of the mean square of its head, by the gain `g`. -/
def nrm (o g : Fin 512 → EReal) (c : Fin 512) : EReal :=
  o c * Ideal.rsqrt (Ideal.div (∑ k : Fin 128, o (mate c k) * o (mate c k)) (Ideal.ofBits FTy.f32 1124073472#32) + Ideal.ofBits FTy.f32 897988541#32) * g c

/-- Where the head of column `c` begins at `off`. -/
theorem nrm_eq (o g : Fin 512 → EReal) (c : Fin 512) (off : ℕ) (ho : off + 128 ≤ 512) (hc : c.val / 128 * 128 = off) :
    nrm o g c = o c * Ideal.rsqrt (Ideal.div (∑ k : Fin 128, o ⟨off + k.val, by omega⟩ * o ⟨off + k.val, by omega⟩) (Ideal.ofBits FTy.f32 1124073472#32)
      + Ideal.ofBits FTy.f32 897988541#32) * g c := by
  subst hc
  rfl

/-- One entry of the merge: `o` is the scan's row and `g` its gain, `zg`, `zh`, `zf` the gates' rows, `f` the Fourier row, `x` and `g1` the residual and its gate,
    `wh`, `wf` the branches' projections and `wo` the column of the output projection. -/
def mrg (o g zg f : Fin 512 → EReal) (zh zf : Fin 1024 → EReal) (x g1 : EReal) (wh wf : Fin 512 → Fin 1024 → EReal) (wo : Fin 1024 → EReal) : EReal :=
  x + g1 * ∑ i : Fin 1024, (sg (zh i) * (∑ c : Fin 512, nrm o g c * (zg c * sg (zg c)) * wh c i) + sg (zf i) * (∑ c : Fin 512, f c * wf c i)) * wo i

end Cert.Merge

end
-- ==== Proof.MergeKer.lean ====
/- The merge's kernel: what one block computes, what the blocks are, and so what the output array holds. -/
module

public import proofs.«01_k».proof.Proof.MergeFn
public import proofs.«01_k».proof.Proof.Gen.Kernel3Ideal.Value
public import Idealize.ShloMosaic.Lib.StableHlo.ReadAt
public import Idealize.ShloMosaic.Lib.Pipeline.ValueKit

@[expose] public section

noncomputable section

namespace Cert.Kernel3Ideal.Merge

open Idealize.ShloMosaic Idealize.ShloMosaic.TcCoe Idealize.SL.Sem
open Cert.Kernel3Ideal Cert.Kernel3Ideal.Gen Cert.Merge
open Idealize.ShloMosaic.Pipeline (Dat)
open scoped BigOperators

set_option maxRecDepth 16384

/-- The sum of the two directions. -/
theorem sum_at (v0 v2 : Vec Ideal S1x512x512 .f32) (r c : Fin 512) : k0_pay1 (F := Ideal) v0 v2 (ix2 r c) = v0 (ix3 0 r c) + v2 (ix3 0 r c) := by
  pointwise [k0_pay1]

theorem gain_id (v5 : Vec Ideal S1x512 .f32) (c : Fin 512) : k0_pay2 (F := Ideal) v5 (ix2 0 c) = v5 (ix2 0 c) := by
  pointwise [k0_pay2]

/-- The first head. -/
theorem head0_at (v0 v2 : Vec Ideal S1x512x512 .f32) (v5 : Vec Ideal S1x512 .f32) (r : Fin 512) (c : Fin 512) (h : c.val < 128) :
    k0_pay3 (F := Ideal) v0 v2 v5 (ix2 r ⟨c.val, h⟩) = nrm (fun c => v0 (ix3 0 r c) + v2 (ix3 0 r c)) (fun c => v5 (ix2 0 c)) c := by
  rw [nrm_eq _ _ c 0 (by decide) (by omega)]
  simp only [Nat.zero_add]
  pointwise [k0_pay3, k0_pay2, k0_pay1]

/-- The second head. -/
theorem head1_at (v0 v2 : Vec Ideal S1x512x512 .f32) (v5 : Vec Ideal S1x512 .f32) (r : Fin 512) (c : Fin 512) (l : ¬ c.val < 128) (h : c.val - 128 < 128) :
    k0_pay4 (F := Ideal) v0 v2 v5 (ix2 r ⟨c.val - 128, h⟩) = nrm (fun c => v0 (ix3 0 r c) + v2 (ix3 0 r c)) (fun c => v5 (ix2 0 c)) c := by
  have e : (⟨128 + (c.val - 128), by omega⟩ : Fin 512) = c := Fin.ext (by simp only []; omega)
  have p (k : Fin 128) : k0_pay4 (F := Ideal) v0 v2 v5 (ix2 r k) = (v0 (ix3 0 r ⟨128 + k.val, by omega⟩) + v2 (ix3 0 r ⟨128 + k.val, by omega⟩))
      * Ideal.rsqrt (Ideal.div (∑ k : Fin 128, (v0 (ix3 0 r ⟨128 + k.val, by omega⟩) + v2 (ix3 0 r ⟨128 + k.val, by omega⟩)) * (v0 (ix3 0 r ⟨128 + k.val, by omega⟩) + v2 (ix3 0 r ⟨128 + k.val, by omega⟩)))
        (Ideal.ofBits FTy.f32 1124073472#32) + Ideal.ofBits FTy.f32 897988541#32) * v5 (ix2 0 ⟨128 + k.val, by omega⟩) := by
    pointwise [k0_pay4, k0_pay2, k0_pay1]
  rw [nrm_eq _ _ c 128 (by decide) (by omega), p]
  simp only [e]

/-- The third head's columns and their mean square. -/
theorem head2_at (v0 v2 : Vec Ideal S1x512x512 .f32) (r : Fin 512) (k : Fin 128) :
    k0_pay5 (F := Ideal) v0 v2 (ix2 r k) = v0 (ix3 0 r ⟨256 + k.val, by omega⟩) + v2 (ix3 0 r ⟨256 + k.val, by omega⟩) := by
  pointwise [k0_pay5, k0_pay1]

theorem mean2_at (v0 v2 : Vec Ideal S1x512x512 .f32) (r : Fin 512) :
    k0_pay6 (F := Ideal) v0 v2 (ix2 r 0) = Ideal.div (∑ k : Fin 128, (v0 (ix3 0 r ⟨256 + k.val, by omega⟩) + v2 (ix3 0 r ⟨256 + k.val, by omega⟩))
      * (v0 (ix3 0 r ⟨256 + k.val, by omega⟩) + v2 (ix3 0 r ⟨256 + k.val, by omega⟩))) (Ideal.ofBits FTy.f32 1124073472#32) := by
  pointwise [k0_pay6, k0_pay5, k0_pay1]

/-- The heads side by side, gated and projected; the third is finished and the fourth computed here. -/
theorem side_at (v4 : FVec Ideal S512x512 .f32) (v6 : FVec Ideal S1x512 .f32) (v20 v34 v35 : FVec Ideal S512x128 .f32) (v40 : FVec Ideal S512x1 .f32) (z : Ideal .f32)
    (v64 : Vec Ideal S1x512x512 .f32) (v76 : Vec Ideal S512x1024 .bf16) (r : Fin 512) (k : Fin 1024) :
    k0_pay7 (F := Ideal) v4 v6 v20 v34 v35 v40 z v64 v76 (ix2 r k)
      = ∑ c : Fin 512,
      (if h : c.val < 128 then v20 (ix2 r ⟨c.val, h⟩)
        else if h : c.val - 128 < 128 then v34 (ix2 r ⟨c.val - 128, h⟩)
        else if h : c.val - 128 - 128 < 128 then
          v35 (ix2 r ⟨c.val - 128 - 128, h⟩) * Ideal.rsqrt (v40 (ix2 r 0) + z) * v6 (ix2 0 ⟨256 + (c.val - 128 - 128), by omega⟩)
        else v4 (ix2 r ⟨384 + (c.val - 128 - 128 - 128), by omega⟩)
          * Ideal.rsqrt (Ideal.div (∑ x : Fin 128, v4 (ix2 r ⟨384 + x.val, by omega⟩) * v4 (ix2 r ⟨384 + x.val, by omega⟩)) (Ideal.ofBits FTy.f32 1124073472#32) + Ideal.ofBits FTy.f32 897988541#32)
          * v6 (ix2 0 ⟨384 + (c.val - 128 - 128 - 128), by omega⟩))
        * (v64 (ix3 0 r c) * Ideal.div 1 (1 + Ideal.exp (0 - v64 (ix3 0 r c)))) * v76 (ix2 c k) := by
  pointwise [k0_pay7]

/-- The projection of the normalized and gated heads. -/
theorem hg_at (v0 v2 : Vec Ideal S1x512x512 .f32) (v5 : Vec Ideal S1x512 .f32) (v64 : Vec Ideal S1x512x512 .f32) (v76 : Vec Ideal S512x1024 .bf16) (r : Fin 512) (k : Fin 1024) :
    k0_pay7 (F := Ideal) (k0_pay1 v0 v2) (k0_pay2 v5) (k0_pay3 v0 v2 v5) (k0_pay4 v0 v2 v5) (k0_pay5 v0 v2) (k0_pay6 v0 v2) (Scalar.ofBits .f32 0x358637BD#32) v64 v76 (ix2 r k)
      = ∑ c : Fin 512, nrm (fun c => v0 (ix3 0 r c) + v2 (ix3 0 r c)) (fun c => v5 (ix2 0 c)) c * (v64 (ix3 0 r c) * sg (v64 (ix3 0 r c))) * v76 (ix2 c k) := by
  rw [side_at]
  refine Finset.sum_congr rfl fun c _ => congrArg₂ (· * ·) (congrArg₂ (· * ·) ?_ (by rw [sg_eq])) rfl
  by_cases h0 : c.val < 128
  · rw [dif_pos h0]
    exact head0_at v0 v2 v5 r c h0
  rw [dif_neg h0]
  by_cases h1 : c.val - 128 < 128
  · rw [dif_pos h1]
    exact head1_at v0 v2 v5 r c h0 h1
  rw [dif_neg h1]
  by_cases h2 : c.val - 128 - 128 < 128
  · rw [dif_pos h2, nrm_eq _ _ c 256 (by decide) (by omega), head2_at, mean2_at, gain_id]
    have e : (⟨256 + (c.val - 128 - 128), by omega⟩ : Fin 512) = c := Fin.ext (by simp only []; omega)
    simp only [e]
    rfl
  · rw [dif_neg h2, nrm_eq _ _ c 384 (by decide) (by omega), gain_id]
    have e : (⟨384 + (c.val - 128 - 128 - 128), by omega⟩ : Fin 512) = c := Fin.ext (by simp only []; omega)
    simp only [sum_at, e]

/-- The projection of the Fourier rows. -/
theorem ft_at (v79 : Vec Ideal S512x512 .bf16) (v80 : Vec Ideal S512x1024 .bf16) (r : Fin 512) (k : Fin 1024) :
    k0_pay8 (F := Ideal) v79 v80 (ix2 r k) = ∑ c : Fin 512, v79 (ix2 r c) * v80 (ix2 c k) := by
  pointwise [k0_pay8]

/-- The gates, the output projection and the residual. -/
theorem last_at (v78 v82 : FVec Ideal S512x1024 .f32) (v83 v93 v104 : Vec Ideal S1x512x1024 .f32) (v106 : Vec Ideal S1x1x1024 .f32) (v109 : Vec Ideal S1024x1024 .bf16)
    (r : Fin 512) (k : Fin 1024) :
    k0_pay9 (F := Ideal) v78 v82 v83 v93 v104 v106 v109 (ix3 0 r k)
      = v104 (ix3 0 r k) + v106 (ix3 0 0 k) * ∑ i : Fin 1024, (sg (v83 (ix3 0 r i)) * v78 (ix2 r i) + sg (v93 (ix3 0 r i)) * v82 (ix2 r i)) * v109 (ix2 i k) := by
  simp only [← sg_eq]
  pointwise [k0_pay9]

/-- What the body leaves in the output's buffer. -/
theorem out_at (x0 x1 x2 : Vec Ideal S1x512x512 .f32) (x3 x4 : Vec Ideal S1x512x1024 .f32) (x5 : Vec Ideal S512x512 .bf16) (x6 : Vec Ideal S1x512x1024 .f32) (x7 : Vec Ideal S1x1x1024 .f32)
    (x8 : Vec Ideal S1x512 .f32) (x9 x10 : Vec Ideal S512x1024 .bf16) (x11 : Vec Ideal S1024x1024 .bf16) (r : Fin 512) (k : Fin 1024) :
    out0_12 (F := Ideal) x0 x1 x2 x3 x4 x5 x6 x7 x8 x9 x10 x11 (ix3 0 r k)
      = mrg (fun c => x0 (ix3 0 r c) + x1 (ix3 0 r c)) (fun c => x8 (ix2 0 c)) (fun c => x2 (ix3 0 r c)) (fun c => x5 (ix2 r c))
          (fun i => x3 (ix3 0 r i)) (fun i => x4 (ix3 0 r i)) (x6 (ix3 0 r k)) (x7 (ix3 0 0 k)) (fun c i => x9 (ix2 c i)) (fun c i => x10 (ix2 c i)) (fun i => x11 (ix2 i k)) := by
  have l0 (x : Vec Ideal S1x512x512 .f32) : View.ld x r0_0 = x := View.ld_unit_zero (by funext a; fin_cases a <;> rfl) _ _
  have l1 (x : Vec Ideal S1x512 .f32) : View.ld x r0_1 = x := View.ld_unit_zero (by funext a; fin_cases a <;> rfl) _ _
  have l2 (x : Vec Ideal S512x1024 .bf16) : View.ld x r0_2 = x := View.ld_unit_zero (by funext a; fin_cases a <;> rfl) _ _
  have l3 (x : Vec Ideal S512x512 .bf16) : View.ld x r0_3 = x := View.ld_unit_zero (by funext a; fin_cases a <;> rfl) _ _
  have l4 (x : Vec Ideal S1x512x1024 .f32) : View.ld x r0_4 = x := View.ld_unit_zero (by funext a; fin_cases a <;> rfl) _ _
  have l5 (x : Vec Ideal S1x1x1024 .f32) : View.ld x r0_5 = x := View.ld_unit_zero (by funext a; fin_cases a <;> rfl) _ _
  have l6 (x : Vec Ideal S1024x1024 .bf16) : View.ld x r0_6 = x := View.ld_unit_zero (by funext a; fin_cases a <;> rfl) _ _
  unfold out0_12
  rw [l0, l0, l0, l1, l2, l2, l3, l4, l4, l4, l5, l6]
  have hc (P : Vec Ideal S1x512x1024 .f32) (y : S1x512x1024.Idx) : View.canon [⟨r0_4, P⟩] y = P y := by
    refine View.canon_apply_of_pieces P _ ?_ y (cover0_12 P y)
    simp only [List.forall_mem_cons]
    refine ⟨fun x => congrArg P (funext fun a => Fin.ext ?_), fun p h => by simp at h⟩
    rw [Rect.emb_apply, Rect.off_unit, Rect.stride_unit]
    fin_cases a <;> exact (by omega : ∀ n : ℕ, n = 0 + 1 * n) _
  rw [hc, last_at]
  unfold mrg
  simp only [hg_at, ft_at]

/-! ## The blocks -/

variable (m : (ℓ : Loc nD τ sig) → Buf (Elt Ideal) ℓ)

theorem ix_0 : ∀ t : Fin cfg0.N, win0_0.index t = ![t.val / 8 % 8, t.val % 8, 0] := (by decide +kernel : ∀ t : Fin grid0.N, _)
theorem ix_1 : ∀ t : Fin cfg0.N, win0_1.index t = ![t.val / 8 % 8, t.val % 8, 0] := (by decide +kernel : ∀ t : Fin grid0.N, _)
theorem ix_2 : ∀ t : Fin cfg0.N, win0_2.index t = ![t.val / 8 % 8, t.val % 8, 4] := (by decide +kernel : ∀ t : Fin grid0.N, _)
theorem ix_3 : ∀ t : Fin cfg0.N, win0_3.index t = ![t.val / 8 % 8, t.val % 8, 3] := (by decide +kernel : ∀ t : Fin grid0.N, _)
theorem ix_4 : ∀ t : Fin cfg0.N, win0_4.index t = ![t.val / 8 % 8, t.val % 8, 4] := (by decide +kernel : ∀ t : Fin grid0.N, _)
theorem ix_5 : ∀ t : Fin cfg0.N, win0_5.index t = ![t.val % 8, t.val / 8 % 8] := (by decide +kernel : ∀ t : Fin grid0.N, _)
theorem ix_6 : ∀ t : Fin cfg0.N, win0_6.index t = ![t.val / 8 % 8, t.val % 8, 0] := (by decide +kernel : ∀ t : Fin grid0.N, _)
theorem ix_7 : ∀ t : Fin cfg0.N, win0_7.index t = ![t.val / 8 % 8, 0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![t.val / 8 % 8, t.val % 8, 0] := (by decide +kernel : ∀ t : Fin grid0.N, _)

/-- The batch of a grid point. -/
def bt (t : Fin cfg0.N) : Fin 8 := ⟨t.val / 8 % 8, by omega⟩
/-- Row `r` of a grid point's block, as a row of the array. -/
def rw (t : Fin cfg0.N) (r : Fin 512) : Fin 4096 := ⟨t.val % 8 * 512 + r.val, by omega⟩

theorem blk_0 (c : Dev nD) (t : Fin cfg0.N) (r k : Fin 512) : iblk m c 0 t (ix3 0 r k : S1x512x512.Idx) = V m c main_arg0 (ix3 (bt t) (rw t r) k : S8x4096x512.Idx) := by
  blk_simp [iblk]
  refine congrArg (V m c main_arg0) (funext fun a => Fin.ext ?_)
  blk_simp [ix_0]
  fin_cases a
  · exact Nat.mul_one _
  · rfl
  · exact (by omega : 0 * 512 + k.val = k.val)

theorem blk_1 (c : Dev nD) (t : Fin cfg0.N) (r k : Fin 512) : iblk m c 1 t (ix3 0 r k : S1x512x512.Idx) = V m c main_arg1 (ix3 (bt t) (rw t r) k : S8x4096x512.Idx) := by
  blk_simp [iblk]
  refine congrArg (V m c main_arg1) (funext fun a => Fin.ext ?_)
  blk_simp [ix_1]
  fin_cases a
  · exact Nat.mul_one _
  · rfl
  · exact (by omega : 0 * 512 + k.val = k.val)

theorem blk_2 (c : Dev nD) (t : Fin cfg0.N) (r k : Fin 512) : iblk m c 2 t (ix3 0 r k : S1x512x512.Idx) = V m c main_arg2 (ix3 (bt t) (rw t r) ⟨2048 + k.val, by omega⟩ : S8x4096x5120.Idx) := by
  blk_simp [iblk]
  refine congrArg (V m c main_arg2) (funext fun a => Fin.ext ?_)
  blk_simp [ix_2]
  fin_cases a
  · exact Nat.mul_one _
  · rfl
  · exact (by omega : 4 * 512 + k.val = 2048 + k.val)

theorem blk_3 (c : Dev nD) (t : Fin cfg0.N) (r : Fin 512) (k : Fin 1024) : iblk m c 3 t (ix3 0 r k : S1x512x1024.Idx) = V m c main_arg2 (ix3 (bt t) (rw t r) ⟨3072 + k.val, by omega⟩ : S8x4096x5120.Idx) := by
  blk_simp [iblk]
  refine congrArg (V m c main_arg2) (funext fun a => Fin.ext ?_)
  blk_simp [ix_3]
  fin_cases a
  · exact Nat.mul_one _
  · rfl
  · exact (by omega : 3 * 1024 + k.val = 3072 + k.val)

theorem blk_4 (c : Dev nD) (t : Fin cfg0.N) (r : Fin 512) (k : Fin 1024) : iblk m c 4 t (ix3 0 r k : S1x512x1024.Idx) = V m c main_arg2 (ix3 (bt t) (rw t r) ⟨4096 + k.val, by omega⟩ : S8x4096x5120.Idx) := by
  blk_simp [iblk]
  refine congrArg (V m c main_arg2) (funext fun a => Fin.ext ?_)
  blk_simp [ix_4]
  fin_cases a
  · exact Nat.mul_one _
  · rfl
  · exact (by omega : 4 * 1024 + k.val = 4096 + k.val)

theorem blk_5 (c : Dev nD) (t : Fin cfg0.N) (r k : Fin 512) : iblk m c 5 t (ix2 r k : S512x512.Idx) = V m c main_arg3 (ix2 (rw t r) ⟨(bt t).val * 512 + k.val, by omega⟩ : S4096x4096.Idx) := by
  blk_simp [iblk]
  refine congrArg (V m c main_arg3) (funext fun a => Fin.ext ?_)
  blk_simp [ix_5]
  fin_cases a <;> rfl

theorem blk_6 (c : Dev nD) (t : Fin cfg0.N) (r : Fin 512) (k : Fin 1024) : iblk m c 6 t (ix3 0 r k : S1x512x1024.Idx) = V m c main_arg4 (ix3 (bt t) (rw t r) k : S8x4096x1024.Idx) := by
  blk_simp [iblk]
  refine congrArg (V m c main_arg4) (funext fun a => Fin.ext ?_)
  blk_simp [ix_6]
  fin_cases a
  · exact Nat.mul_one _
  · rfl
  · exact (by omega : 0 * 1024 + k.val = k.val)

theorem blk_7 (c : Dev nD) (t : Fin cfg0.N) (k : Fin 1024) : iblk m c 7 t (ix3 0 0 k : S1x1x1024.Idx) = V m c main_arg5 (ix3 (bt t) 0 k : S8x1x1024.Idx) := by
  blk_simp [iblk]
  refine congrArg (V m c main_arg5) (funext fun a => Fin.ext ?_)
  blk_simp [ix_7]
  fin_cases a
  · exact Nat.mul_one _
  · rfl
  · exact (by omega : 0 * 1024 + k.val = k.val)

theorem blk_8 (c : Dev nD) (t : Fin cfg0.N) (k : Fin 512) : iblk m c 8 t (ix2 0 k : S1x512.Idx) = V m c main_v1 (ix2 0 k : S1x512.Idx) := by
  blk_simp [iblk]
  refine congrArg (V m c main_v1) (funext fun a => Fin.ext ?_)
  blk_simp [ix_8]
  fin_cases a
  · rfl
  · exact (by omega : 0 * 512 + k.val = k.val)

theorem blk_9 (c : Dev nD) (t : Fin cfg0.N) (r : Fin 512) (k : Fin 1024) : iblk m c 9 t (ix2 r k : S512x1024.Idx) = V m c main_v3 (ix2 r k : S512x1024.Idx) := by
  blk_simp [iblk]
  refine congrArg (V m c main_v3) (funext fun a => Fin.ext ?_)
  blk_simp [ix_9]
  fin_cases a
  · exact (by omega : 0 * 512 + r.val = r.val)
  · exact (by omega : 0 * 1024 + k.val = k.val)

theorem blk_10 (c : Dev nD) (t : Fin cfg0.N) (r : Fin 512) (k : Fin 1024) : iblk m c 10 t (ix2 r k : S512x1024.Idx) = V m c main_v5 (ix2 r k : S512x1024.Idx) := by
  blk_simp [iblk]
  refine congrArg (V m c main_v5) (funext fun a => Fin.ext ?_)
  blk_simp [ix_10]
  fin_cases a
  · exact (by omega : 0 * 512 + r.val = r.val)
  · exact (by omega : 0 * 1024 + k.val = k.val)

theorem blk_11 (c : Dev nD) (t : Fin cfg0.N) (r k : Fin 1024) : iblk m c 11 t (ix2 r k : S1024x1024.Idx) = V m c main_v7 (ix2 r k : S1024x1024.Idx) := by
  blk_simp [iblk]
  refine congrArg (V m c main_v7) (funext fun a => Fin.ext ?_)
  blk_simp [ix_11]
  fin_cases a
  · exact (by omega : 0 * 1024 + r.val = r.val)
  · exact (by omega : 0 * 1024 + k.val = k.val)

theorem emb_12 (t : Fin cfg0.N) (r : Fin 512) (k : Fin 1024) :
    ((cfg0.win 12).blk t).view.emb (ix3 0 r k : S1x512x1024.Idx) = (ix3 (bt t) (rw t r) k : S8x4096x1024.Idx) := by
  refine funext fun a => Fin.ext ?_
  blk_simp [ix_12]
  fin_cases a
  · exact Nat.mul_one _
  · rfl
  · exact (by omega : 0 * 1024 + k.val = k.val)

theorem gain_at (c : Dev nD) (k : Fin 512) :
    V m c main_v1 (ix2 0 k : S1x512.Idx) = m ((c.tc : Thread nD τ).loc main_arg6) (ix3 0 ⟨k.val / 128, by omega⟩ ⟨k.val % 128, by omega⟩ : S1x4x128.Idx) := by
  have e (g : FVec Ideal S1x4x128 .f32) : shapeCast S1x512 (shapeCast S4x128 g shapeCasts_S1x4x128_S4x128) shapeCasts_S4x128_S1x512 (ix2 0 k)
      = g (ix3 0 ⟨k.val / 128, by omega⟩ ⟨k.val % 128, by omega⟩) := by
    pointwise
  have h : V m c main_v1 = shapeCast S1x512 (shapeCast S4x128 (m ((c.tc : Thread nD τ).loc main_arg6) : FVec Ideal S1x4x128 .f32) shapeCasts_S1x4x128_S4x128) shapeCasts_S4x128_S1x512 := by
    unfold V; simp only [hostOps0, List.flatten_cons, List.flatten_nil, List.append_nil, List.cons_append, List.nil_append]; after_reads_simp
    rfl
  rw [h]
  exact e _

/-- A weight matrix of the branches, as the call reads it. -/
theorem branch_at (w : FVec Ideal S1x512x1024 .f32) (r : Fin 512) (k : Fin 1024) :
    (truncf .bf16 (shapeCast S512x1024 w shapeCasts_S1x512x1024_S512x1024) bitsLt_bf16_f32 : FVec Ideal S512x1024 .bf16) (ix2 r k) = w (ix3 0 r k) := by
  pointwise

theorem hgw_at (c : Dev nD) (r : Fin 512) (k : Fin 1024) : V m c main_v3 (ix2 r k : S512x1024.Idx) = m ((c.tc : Thread nD τ).loc main_arg7) (ix3 0 r k : S1x512x1024.Idx) := by
  have h : V m c main_v3 = (truncf .bf16 (shapeCast S512x1024 (m ((c.tc : Thread nD τ).loc main_arg7) : FVec Ideal S1x512x1024 .f32) shapeCasts_S1x512x1024_S512x1024) bitsLt_bf16_f32 : FVec Ideal S512x1024 .bf16) := by
    unfold V; simp only [hostOps0, List.flatten_cons, List.flatten_nil, List.append_nil, List.cons_append, List.nil_append]; after_reads_simp
    rfl
  rw [h]
  exact branch_at _ r k

theorem ftw_at (c : Dev nD) (r : Fin 512) (k : Fin 1024) : V m c main_v5 (ix2 r k : S512x1024.Idx) = m ((c.tc : Thread nD τ).loc main_arg8) (ix3 0 r k : S1x512x1024.Idx) := by
  have h : V m c main_v5 = (truncf .bf16 (shapeCast S512x1024 (m ((c.tc : Thread nD τ).loc main_arg8) : FVec Ideal S1x512x1024 .f32) shapeCasts_S1x512x1024_S512x1024) bitsLt_bf16_f32 : FVec Ideal S512x1024 .bf16) := by
    unfold V; simp only [hostOps0, List.flatten_cons, List.flatten_nil, List.append_nil, List.cons_append, List.nil_append]; after_reads_simp
    rfl
  rw [h]
  exact branch_at _ r k

theorem outw_at (c : Dev nD) (r k : Fin 1024) : V m c main_v7 (ix2 r k : S1024x1024.Idx) = m ((c.tc : Thread nD τ).loc main_arg9) (ix3 0 r k : S1x1024x1024.Idx) := by
  have e (w : FVec Ideal S1x1024x1024 .f32) : (truncf .bf16 (shapeCast S1024x1024 w shapeCasts_S1x1024x1024_S1024x1024) bitsLt_bf16_f32 : FVec Ideal S1024x1024 .bf16) (ix2 r k) = w (ix3 0 r k) := by
    pointwise
  have h : V m c main_v7 = (truncf .bf16 (shapeCast S1024x1024 (m ((c.tc : Thread nD τ).loc main_arg9) : FVec Ideal S1x1024x1024 .f32) shapeCasts_S1x1024x1024_S1024x1024) bitsLt_bf16_f32 : FVec Ideal S1024x1024 .bf16) := by
    unfold V; simp only [hostOps0, List.flatten_cons, List.flatten_nil, List.append_nil, List.cons_append, List.nil_append]; after_reads_simp
    rfl
  rw [h]
  exact e _

/-! ## The output -/

/-- One entry of the merge, of its ten arguments. -/
def mz (a0 a1 : FVec Ideal S8x4096x512 .f32) (a2 : FVec Ideal S8x4096x5120 .f32) (a3 : FVec Ideal S4096x4096 .bf16) (a4 : FVec Ideal S8x4096x1024 .f32) (a5 : FVec Ideal S8x1x1024 .f32)
    (a6 : FVec Ideal S1x4x128 .f32) (a7 a8 : FVec Ideal S1x512x1024 .f32) (a9 : FVec Ideal S1x1024x1024 .f32) (b : Fin 8) (t : Fin 4096) (j : Fin 1024) : EReal :=
  mrg (fun c => a0 (ix3 b t c) + a1 (ix3 b t c)) (fun c => a6 (ix3 0 ⟨c.val / 128, by omega⟩ ⟨c.val % 128, by omega⟩))
    (fun c => a2 (ix3 b t ⟨2048 + c.val, by omega⟩)) (fun c => a3 (ix2 t ⟨b.val * 512 + c.val, by omega⟩))
    (fun i => a2 (ix3 b t ⟨3072 + i.val, by omega⟩)) (fun i => a2 (ix3 b t ⟨4096 + i.val, by omega⟩))
    (a4 (ix3 b t j)) (a5 (ix3 b 0 j)) (fun c i => a7 (ix3 0 c i)) (fun c i => a8 (ix3 0 c i)) (fun i => a9 (ix3 0 i j))

/-- The kernel's output, of the launch's arguments. -/
def kz (c : Dev nD) : FVec Ideal S8x4096x1024 .f32 := fun i =>
  mz (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (i 0) (i 1) (i 2)

/-- Blocks that hold the rows and weights of the arguments give the merge's entries. -/
theorem out_mz (x0 x1 x2 : Vec Ideal S1x512x512 .f32) (x3 x4 : Vec Ideal S1x512x1024 .f32) (x5 : Vec Ideal S512x512 .bf16) (x6 : Vec Ideal S1x512x1024 .f32) (x7 : Vec Ideal S1x1x1024 .f32)
    (x8 : Vec Ideal S1x512 .f32) (x9 x10 : Vec Ideal S512x1024 .bf16) (x11 : Vec Ideal S1024x1024 .bf16)
    (a0 a1 : FVec Ideal S8x4096x512 .f32) (a2 : FVec Ideal S8x4096x5120 .f32) (a3 : FVec Ideal S4096x4096 .bf16) (a4 : FVec Ideal S8x4096x1024 .f32) (a5 : FVec Ideal S8x1x1024 .f32)
    (a6 : FVec Ideal S1x4x128 .f32) (a7 a8 : FVec Ideal S1x512x1024 .f32) (a9 : FVec Ideal S1x1024x1024 .f32) (b : Fin 8) (t : Fin 4096) (r : Fin 512) (j : Fin 1024)
    (h0 : ∀ c, x0 (ix3 0 r c) = a0 (ix3 b t c)) (h1 : ∀ c, x1 (ix3 0 r c) = a1 (ix3 b t c)) (h2 : ∀ c : Fin 512, x2 (ix3 0 r c) = a2 (ix3 b t ⟨2048 + c.val, by omega⟩))
    (h3 : ∀ i : Fin 1024, x3 (ix3 0 r i) = a2 (ix3 b t ⟨3072 + i.val, by omega⟩)) (h4 : ∀ i : Fin 1024, x4 (ix3 0 r i) = a2 (ix3 b t ⟨4096 + i.val, by omega⟩))
    (h5 : ∀ c : Fin 512, x5 (ix2 r c) = a3 (ix2 t ⟨b.val * 512 + c.val, by omega⟩)) (h6 : x6 (ix3 0 r j) = a4 (ix3 b t j)) (h7 : x7 (ix3 0 0 j) = a5 (ix3 b 0 j))
    (h8 : ∀ c : Fin 512, x8 (ix2 0 c) = a6 (ix3 0 ⟨c.val / 128, by omega⟩ ⟨c.val % 128, by omega⟩)) (h9 : ∀ c i, x9 (ix2 c i) = a7 (ix3 0 c i)) (h10 : ∀ c i, x10 (ix2 c i) = a8 (ix3 0 c i))
    (h11 : ∀ i, x11 (ix2 i j) = a9 (ix3 0 i j)) :
    out0_12 (F := Ideal) x0 x1 x2 x3 x4 x5 x6 x7 x8 x9 x10 x11 (ix3 0 r j) = mz a0 a1 a2 a3 a4 a5 a6 a7 a8 a9 b t j := by
  rw [out_at]
  unfold mz
  simp only [h0, h1, h2, h3, h4, h5, h6, h7, h8, h9, h10, h11]

/-- What a grid point writes: its rows of the merge. -/
theorem blkZ (c : Dev nD) (t : Fin cfg0.N) (r : Fin 512) (k : Fin 1024) : (dats m 0 c).after 12 t (ix3 0 r k : S1x512x1024.Idx) = kz m c (ix3 (bt t) (rw t r) k) := by
  rw [after0_12]
  exact out_mz _ _ _ _ _ _ _ _ _ _ _ _ _ _ _ _ _ _ _ _ _ _ (bt t) (rw t r) r k
    (fun k => (blk_0 m c t r k).trans (congrFun (V_main_arg0 m c) _)) (fun k => (blk_1 m c t r k).trans (congrFun (V_main_arg1 m c) _))
    (fun k => (blk_2 m c t r k).trans (congrFun (V_main_arg2 m c) _)) (fun k => (blk_3 m c t r k).trans (congrFun (V_main_arg2 m c) _))
    (fun k => (blk_4 m c t r k).trans (congrFun (V_main_arg2 m c) _)) (fun k => (blk_5 m c t r k).trans (congrFun (V_main_arg3 m c) _))
    ((blk_6 m c t r k).trans (congrFun (V_main_arg4 m c) _)) ((blk_7 m c t k).trans (congrFun (V_main_arg5 m c) _))
    (fun k => (blk_8 m c t k).trans (gain_at m c k)) (fun r k => (blk_9 m c t r k).trans (hgw_at m c r k))
    (fun r k => (blk_10 m c t r k).trans (ftw_at m c r k)) (fun r => (blk_11 m c t r k).trans (outw_at m c r k))

/-- The output array is the merge. -/
theorem outZ (c : Dev nD) : (dats m 0 c).arrAt 12 cfg0.N = kz m c := by
  refine (dats m 0 c).arrAt_eq_of_covers 12 _ (by decide +kernel) fun t hf y => ?_
  have e : y = (ix3 0 (y 1) (y 2) : S1x512x1024.Idx) := funext fun a => by
    fin_cases a
    · exact Subsingleton.elim (α := Fin 1) _ _
    · rfl
    · rfl
  refine (congrArg ((dats m 0 c).after 12 t) e).trans ((blkZ m c t (y 1) (y 2)).trans (congrArg (kz m c) ?_))
  exact (emb_12 t (y 1) (y 2)).symm.trans (congrArg ((cfg0.win 12).blk t).view.emb e.symm)

end Cert.Kernel3Ideal.Merge

end
-- ==== Proof.MergeRef.lean ====
/- The merge's reference, read at an index, stage by stage. -/
module

public import proofs.«01_k».proof.Proof.MergeKer
public import proofs.«01_k».proof.Proof.Gen.Reference3Ideal.Run
public import Idealize.ShloMosaic.Lib.StableHlo.ReadAt

@[expose] public section

noncomputable section

namespace Cert.Reference3Ideal.Merge

open Idealize.ShloMosaic Idealize.ShloMosaic.TcCoe Idealize.SL.Sem
open Cert.Reference3Ideal Cert.Reference3Ideal.Gen Cert.Merge
open scoped BigOperators

set_option maxRecDepth 16384

/-- The sum of the two directions, by heads. -/
def oT (a0 a1 : FVec Ideal S8x4096x512 .f32) : FVec Ideal S8x4x4096x128 .f32 :=
  addf (transpose S8x4x4096x128 [0, 2, 1, 3] (shapeCast S8x4096x4x128 a0 shapeCasts_S8x4096x512_S8x4096x4x128) transposes_S8x4096x4x128_S8x4x4096x128_0_2_1_3)
    (transpose S8x4x4096x128 [0, 2, 1, 3] (shapeCast S8x4096x4x128 a1 shapeCasts_S8x4096x512_S8x4096x4x128) transposes_S8x4096x4x128_S8x4x4096x128_0_2_1_3)

theorem oT_at (a0 a1 : FVec Ideal S8x4096x512 .f32) (b : Fin 8) (h : Fin 4) (t : Fin 4096) (k : Fin 128) :
    oT a0 a1 (ix4 b h t k) = a0 (ix3 b t ⟨h.val * 128 + k.val, by omega⟩) + a1 (ix3 b t ⟨h.val * 128 + k.val, by omega⟩) := by
  pointwise [oT]

/-- The heads normalized, with their gain. -/
def nT (o : FVec Ideal S8x4x4096x128 .f32) (a6 : FVec Ideal S1x4x128 .f32) : FVec Ideal S8x4x4096x128 .f32 :=
  mulf (mulf o (broadcastInDim S8x4x4096x128 ![0, 1, 2, 3] bcast_S8x4x4096x1_S8x4x4096x128_0_1_2_3 (Host.rsqrt (addf (Host.divf (broadcastInDim S8x4x4096x1 ![0, 1, 2] bcast_S8x4x4096_S8x4x4096x1_0_1_2 (Host.reduceAdd (mulf o o) (constant S_ .f32 0x00000000#32) reducesTo_S8x4x4096x128_S8x4x4096_d3 h_S_)) (broadcastInDim S8x4x4096x1 ![] bcast_S_S8x4x4096x1 (constant S_ .f32 0x43000000#32))) (broadcastInDim S8x4x4096x1 ![] bcast_S_S8x4x4096x1 (constant S_ .f32 0x358637BD#32))))))
    (broadcastInDim S8x4x4096x128 ![0, 1, 2, 3] bcast_S1x4x1x128_S8x4x4096x128_0_1_2_3 (broadcastInDim S1x4x1x128 ![1, 2, 3] bcast_S4x1x128_S1x4x1x128_1_2_3 (broadcastInDim S4x1x128 ![0, 2] bcast_S4x128_S4x1x128_0_2 (shapeCast S4x128 a6 shapeCasts_S1x4x128_S4x128))))

theorem nT_at (o : FVec Ideal S8x4x4096x128 .f32) (a6 : FVec Ideal S1x4x128 .f32) (b : Fin 8) (h : Fin 4) (t : Fin 4096) (k : Fin 128) :
    nT o a6 (ix4 b h t k) = o (ix4 b h t k) * Ideal.rsqrt (Ideal.div (∑ i : Fin 128, o (ix4 b h t i) * o (ix4 b h t i)) (Ideal.ofBits FTy.f32 1124073472#32)
      + Ideal.ofBits FTy.f32 897988541#32) * a6 (ix3 0 h k) := by
  pointwise [nT]

/-- The heads side by side in a row. -/
def rT (n : FVec Ideal S8x4x4096x128 .f32) : FVec Ideal S8x4096x512 .f32 :=
  shapeCast S8x4096x512 (transpose S8x4096x4x128 [0, 2, 1, 3] n transposes_S8x4x4096x128_S8x4096x4x128_0_2_1_3) shapeCasts_S8x4096x4x128_S8x4096x512

theorem rT_at (n : FVec Ideal S8x4x4096x128 .f32) (b : Fin 8) (t : Fin 4096) (c : Fin 512) :
    rT n (ix3 b t c) = n (ix4 b ⟨c.val / 128, by omega⟩ t ⟨c.val % 128, by omega⟩) := by
  pointwise [rT]

/-- A normalized row is the row of `nrm`. -/
theorem row_at (a0 a1 : FVec Ideal S8x4096x512 .f32) (a6 : FVec Ideal S1x4x128 .f32) (b : Fin 8) (t : Fin 4096) (c : Fin 512) :
    rT (nT (oT a0 a1) a6) (ix3 b t c)
      = nrm (fun c => a0 (ix3 b t c) + a1 (ix3 b t c)) (fun c => a6 (ix3 0 ⟨c.val / 128, by omega⟩ ⟨c.val % 128, by omega⟩)) c := by
  have e : (⟨c.val / 128 * 128 + c.val % 128, by omega⟩ : Fin 512) = c := Fin.ext (by simp only []; omega)
  rw [rT_at, nT_at]
  simp only [oT_at, e]
  rfl

/-- The branches projected, gated and added. -/
def yT (r : FVec Ideal S8x4096x512 .f32) (a2 : FVec Ideal S8x4096x5120 .f32) (a3 : FVec Ideal S4096x4096 .bf16) (a7 a8 : FVec Ideal S1x512x1024 .f32) : FVec Ideal S8x4096x1024 .f32 :=
  addf (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3072] a2 slices_S8x4096x5120_S8x4096x1024_0_0_3072)))))
      (Host.dotGeneral dot_S8x4096x512_S512x1024_S8x4096x1024_2_0_01_1_n_n none (mulf r (mulf (extractStridedSlice S8x4096x512 ![0, 0, 2048] a2 slices_S8x4096x5120_S8x4096x512_0_0_2048) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 2048] a2 slices_S8x4096x5120_S8x4096x512_0_0_2048)))))))
        (shapeCast S512x1024 a7 shapeCasts_S1x512x1024_S512x1024)))
    (mulf (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4096] a2 slices_S8x4096x5120_S8x4096x1024_0_0_4096)))))
      (Host.dotGeneral dot_S8x4096x512_S512x1024_S8x4096x1024_2_0_01_1_n_n none (transpose S8x4096x512 [1, 0, 2] (shapeCast S4096x8x512 (extf .f32 a3 bitsLt_bf16_f32 : FVec Ideal S4096x4096 .f32) shapeCasts_S4096x4096_S4096x8x512) transposes_S4096x8x512_S8x4096x512_1_0_2)
        (shapeCast S512x1024 a8 shapeCasts_S1x512x1024_S512x1024)))

theorem yT_at (r : FVec Ideal S8x4096x512 .f32) (a2 : FVec Ideal S8x4096x5120 .f32) (a3 : FVec Ideal S4096x4096 .bf16) (a7 a8 : FVec Ideal S1x512x1024 .f32)
    (b : Fin 8) (t : Fin 4096) (i : Fin 1024) :
    yT r a2 a3 a7 a8 (ix3 b t i)
      = sg (a2 (ix3 b t ⟨3072 + i.val, by omega⟩)) * (∑ c : Fin 512, r (ix3 b t c) * (a2 (ix3 b t ⟨2048 + c.val, by omega⟩) * sg (a2 (ix3 b t ⟨2048 + c.val, by omega⟩))) * a7 (ix3 0 c i))
        + sg (a2 (ix3 b t ⟨4096 + i.val, by omega⟩)) * (∑ c : Fin 512, a3 (ix2 t ⟨b.val * 512 + c.val, by omega⟩) * a8 (ix3 0 c i)) := by
  unfold sg
  pointwise [yT]

/-- The output projection and the gated residual. -/
def zT (y : FVec Ideal S8x4096x1024 .f32) (a4 : FVec Ideal S8x4096x1024 .f32) (a5 : FVec Ideal S8x1x1024 .f32) (a9 : FVec Ideal S1x1024x1024 .f32) : FVec Ideal S8x4096x1024 .f32 :=
  addf a4 (mulf (broadcastInDim S8x4096x1024 ![0, 1, 2] bcast_S8x1x1024_S8x4096x1024_0_1_2 a5) (Host.dotGeneral dot_S8x4096x1024_S1024x1024_S8x4096x1024_2_0_01_1_n_n none y (shapeCast S1024x1024 a9 shapeCasts_S1x1024x1024_S1024x1024)))

theorem zT_at (y : FVec Ideal S8x4096x1024 .f32) (a4 : FVec Ideal S8x4096x1024 .f32) (a5 : FVec Ideal S8x1x1024 .f32) (a9 : FVec Ideal S1x1024x1024 .f32) (b : Fin 8) (t : Fin 4096) (j : Fin 1024) :
    zT y a4 a5 a9 (ix3 b t j) = a4 (ix3 b t j) + a5 (ix3 b 0 j) * ∑ i : Fin 1024, y (ix3 b t i) * a9 (ix3 0 i j) := by
  pointwise [zT]

/-- The reference's composition, at an index. -/
theorem ref_at (a0 a1 : FVec Ideal S8x4096x512 .f32) (a2 : FVec Ideal S8x4096x5120 .f32) (a3 : FVec Ideal S4096x4096 .bf16) (a4 : FVec Ideal S8x4096x1024 .f32) (a5 : FVec Ideal S8x1x1024 .f32)
    (a6 : FVec Ideal S1x4x128 .f32) (a7 a8 : FVec Ideal S1x512x1024 .f32) (a9 : FVec Ideal S1x1024x1024 .f32) (b : Fin 8) (t : Fin 4096) (j : Fin 1024) :
    zT (yT (rT (nT (oT a0 a1) a6)) a2 a3 a7 a8) a4 a5 a9 (ix3 b t j) = Cert.Kernel3Ideal.Merge.mz a0 a1 a2 a3 a4 a5 a6 a7 a8 a9 b t j := by
  unfold Cert.Kernel3Ideal.Merge.mz mrg
  simp only [zT_at, yT_at, row_at]

/-- The reference's result is that composition. -/
theorem res_eq (m : (ℓ : Loc nD τ sig) → Buf (Elt Ideal) ℓ) (c : Dev nD) :
    Value.res_out0 (F := Ideal) m c
      = zT (yT (rT (nT (oT (m ((c.tc : Thread nD τ).loc main_arg0)) (m ((c.tc : Thread nD τ).loc main_arg1))) (m ((c.tc : Thread nD τ).loc main_arg6))))
          (m ((c.tc : Thread nD τ).loc main_arg2)) (m ((c.tc : Thread nD τ).loc main_arg3)) (m ((c.tc : Thread nD τ).loc main_arg7)) (m ((c.tc : Thread nD τ).loc main_arg8)))
        (m ((c.tc : Thread nD τ).loc main_arg4)) (m ((c.tc : Thread nD τ).loc main_arg5)) (m ((c.tc : Thread nD τ).loc main_arg9)) := rfl

end Cert.Reference3Ideal.Merge

end
-- ==== Proof.MergeAlg.lean ====
/- The merge's kernel and its reference compute the same array; and the frames of its three programs. -/
module

public import proofs.«01_k».proof.Defs
public import proofs.«01_k».proof.Proof.MergeRef
public import proofs.«01_k».proof.Proof.Gen.Kernel3.Frame
public import Idealize.ShloMosaic.Lib.Claim

@[expose] public section

noncomputable section

namespace Cert.MergeAlg

open Idealize.ShloMosaic Idealize.ShloMosaic.TcCoe Idealize.SL.Sem

set_option maxRecDepth 16384

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := fun m g m' g' _ hag => by
  refine ⟨Cert.Kernel3Ideal.Merge.kz m, ?_, ?_⟩
  · refine (θ_run _ _ _).mono (fun r h c => ?_) (Cert.Kernel3Ideal.Value.run_blocks (F := Ideal) m g)
    exact ⟨(h c).1.trans (Cert.Kernel3Ideal.Merge.outZ m c), (h c).2⟩
  · refine (θ_run _ _ _).mono (fun r h c => ?_) (Cert.Reference3Ideal.Value.run (F := Ideal) m' g')
    refine ⟨(h c).1.trans ((Cert.Reference3Ideal.Merge.res_eq m' c).trans ?_), (h c).2⟩
    obtain ⟨h0, h1, h2, h3, h4, h5, h6, h7, h8, h9⟩ := hag c
    rw [h0, h1, h2, h3, h4, h5, h6, h7, h8, h9]
    funext i
    have e : i = (ix3 (i 0) (i 1) (i 2) : Cert.Reference3Ideal.S8x4096x1024.Idx) := funext fun a => by fin_cases a <;> rfl
    rw [e]
    exact Cert.Reference3Ideal.Merge.ref_at _ _ _ _ _ _ _ _ _ _ (i 0) (i 1) (i 2)

end Cert.MergeAlg

end
-- ==== Proof.CtxKer.lean ====
/- The context projection's kernel: a row is normalized over its 1024 channels, scaled and shifted, and multiplied by the weights' columns
   from 512 to 2047, 512 columns at a time. What one block computes, what the blocks are, and so what the output array holds. -/
module

public import proofs.«01_k».proof.Proof.Gen.Kernel4Ideal.Value
public import Idealize.ShloMosaic.Lib.Pointwise
public import Idealize.ShloMosaic.Lib.StableHlo.ReadAt
public import Idealize.ShloMosaic.Lib.Pipeline.ValueKit

@[expose] public section

noncomputable section

namespace Cert.Kernel4Ideal.Ctx

open Idealize.ShloMosaic Idealize.ShloMosaic.TcCoe Idealize.SL.Sem
open Cert.Kernel4Ideal Cert.Kernel4Ideal.Gen
open Idealize.ShloMosaic.Pipeline (Dat)
open scoped BigOperators

set_option maxRecDepth 16384

/-- One channel of a row `x`: over the root of its mean square (and the small constant), by the gain `g`, by one plus the scale `sc`, plus the shift `sh`. -/
def un (x g sc sh : Fin 1024 → EReal) (k : Fin 1024) : EReal :=
  x k * Ideal.rsqrt (Ideal.div (∑ i, x i * x i) (Ideal.ofBits FTy.f32 1149239296#32) + Ideal.ofBits FTy.f32 897988541#32) * g k * (1 + sc k) + sh k

theorem u_at (v0 : Vec Ideal S1x256x1024 .f32) (v2 : Vec Ideal S1x1024 .f32) (v4 v6 : Vec Ideal S1x1x1024 .f32) (r : Fin 256) (k : Fin 1024) :
    k0_pay3 (F := Ideal) v0 v2 v4 v6 (ix2 r k)
      = un (fun k => v0 (ix3 0 r k)) (fun k => v2 (ix2 0 k)) (fun k => v6 (ix3 0 0 k)) (fun k => v4 (ix3 0 0 k)) k := by
  unfold un
  pointwise [k0_pay3]

/-- The normalized rows of a block, whose row and whose gain, scale and shift are known. -/
theorem rows_at (x0 : Vec Ideal S1x256x1024 .f32) (x1 x2 : Vec Ideal S1x1x1024 .f32) (x3 : Vec Ideal S1x1024 .f32) (x4 : Vec Ideal S1024x1536 .bf16)
    (x g sc sh : Fin 1024 → EReal) (r : Fin 256) (k : Fin 1024) (h0 : ∀ k, x0 (ix3 0 r k) = x k) (h3 : ∀ k, x3 (ix2 0 k) = g k)
    (h2 : ∀ k, x2 (ix3 0 0 k) = sc k) (h1 : ∀ k, x1 (ix3 0 0 k) = sh k) : k0_pay5 (F := Ideal) x0 x1 x2 x3 x4 (ix2 r k) = un x g sc sh k := by
  have l0 : View.ld x0 r0_0 = x0 := View.ld_unit_zero (by funext a; fin_cases a <;> rfl) _ _
  have l1 : View.ld x1 r0_2 = x1 := View.ld_unit_zero (by funext a; fin_cases a <;> rfl) _ _
  have l2 : View.ld x2 r0_2 = x2 := View.ld_unit_zero (by funext a; fin_cases a <;> rfl) _ _
  have l3 : View.ld x3 r0_1 = x3 := View.ld_unit_zero (by funext a; fin_cases a <;> rfl) _ _
  unfold k0_pay5
  rw [l0, l1, l2, l3]
  refine (u_at x0 x3 x1 x2 r k).trans ?_
  unfold un
  simp only [h0, h1, h2, h3]

/-- The product of rows and columns, as a block of the output. -/
def prd (u : Vec Ideal S256x1024 .bf16) (w : Vec Ideal S1024x1536 .bf16) : Vec Ideal S1x256x1536 .f32 :=
  fun y => ∑ k : Fin 1024, u (ix2 (y 1) k) * w (ix2 k (y 2))

/-- A piece of 512 columns that holds the product of the rows with its columns is a piece of the whole product. -/
theorem piece (u : Vec Ideal S256x1024 .bf16) (w : Vec Ideal S1024x1536 .bf16) (off : ℕ) (ho : off + 512 ≤ 1536)
    (inb : ∀ a, (![0, 0, off] : Fin 3 → ℕ) a + S1x256x512.size a ≤ S1x256x1536.size a) (P : FVec Ideal S1x256x512 .f32)
    (hP : ∀ (r : Fin 256) (k : Fin 512), P (ix3 0 r k) = ∑ i : Fin 1024, u (ix2 r i) * w (ix2 i ⟨off + k.val, by omega⟩)) (x : S1x256x512.Idx) :
    P x = prd u w ((Rect.unit (s := S1x256x1536) ![0, 0, off] S1x256x512.size inb).emb x) := by
  have e : x = (ix3 0 (x 1) (x 2) : S1x256x512.Idx) := funext fun a => by
    fin_cases a
    · exact Subsingleton.elim (α := Fin 1) _ _
    · rfl
    · rfl
  refine (congrArg P e).trans ((hP (x 1) (x 2)).trans ?_)
  unfold prd
  refine Finset.sum_congr rfl fun i _ => congrArg₂ (· * ·) (congrArg (fun r => u (ix2 r i)) (Fin.ext ?_)) (congrArg (fun k => w (ix2 i k)) (Fin.ext ?_))
  · rw [Rect.emb_apply, Rect.off_unit, Rect.stride_unit]
    exact (by omega : (x 1).val = 0 + 1 * (x 1).val)
  · rw [Rect.emb_apply, Rect.off_unit, Rect.stride_unit]
    exact (by omega : off + (x 2).val = off + 1 * (x 2).val)

/-- What the body leaves in the output's buffer. -/
theorem out_eq (x0 : Vec Ideal S1x256x1024 .f32) (x1 x2 : Vec Ideal S1x1x1024 .f32) (x3 : Vec Ideal S1x1024 .f32) (x4 : Vec Ideal S1024x1536 .bf16) :
    out0_5 (F := Ideal) x0 x1 x2 x3 x4 = prd (k0_pay5 x0 x1 x2 x3 x4) x4 := by
  funext y
  unfold out0_5
  refine View.canon_apply_of_pieces (prd (k0_pay5 x0 x1 x2 x3 x4) x4) _ ?_ y (cover0_5 _ _ _ y)
  have h4 : k0_pay4 (View.ld x0 r0_0) (View.ld x3 r0_1) (View.ld x1 r0_2) (View.ld x2 r0_2) (View.ld x4 r0_3)
      = k0_pay1 (k0_pay5 x0 x1 x2 x3 x4) (View.ld x4 r0_3) := rfl
  rw [h4]
  generalize k0_pay5 (F := Ideal) x0 x1 x2 x3 x4 = u
  simp only [List.forall_mem_cons]
  refine ⟨?_, ?_, ?_, fun p h => by simp at h⟩
  · exact piece u x4 1024 (by decide) inb_S1x256x1536_S1x256x512_0_0_1024 _ fun r k => by pointwise [k0_pay2]
  · exact piece u x4 512 (by decide) inb_S1x256x1536_S1x256x512_0_0_512 _ fun r k => by pointwise [k0_pay1]
  · exact piece u x4 0 (by decide) inb_S1x256x1536_S1x256x512_0_0_0 _ fun r k => by
      simp only [Nat.zero_add]
      pointwise [k0_pay1]

/-! ## The blocks -/

variable (m : (ℓ : Loc nD τ sig) → Buf (Elt Ideal) ℓ)

theorem ix_0 : ∀ t : Fin cfg0.N, win0_0.index t = ![t.val % 8, 0, 0] := (by decide +kernel : ∀ t : Fin grid0.N, _)
theorem ix_1 : ∀ t : Fin cfg0.N, win0_1.index t = ![t.val % 8, 0, 0] := (by decide +kernel : ∀ t : Fin grid0.N, _)
theorem ix_2 : ∀ t : Fin cfg0.N, win0_2.index t = ![t.val % 8, 0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![t.val % 8, 0, 0] := (by decide +kernel : ∀ t : Fin grid0.N, _)

theorem blk_0 (c : Dev nD) (t : Fin cfg0.N) (r : Fin 256) (k : Fin 1024) :
    iblk m c 0 t (ix3 0 r k : S1x256x1024.Idx) = V m c main_arg0 (ix3 ⟨t.val % 8, by omega⟩ r k : S8x256x1024.Idx) := by
  blk_simp [iblk]
  refine congrArg (V m c main_arg0) (funext fun a => Fin.ext ?_)
  blk_simp [ix_0]
  fin_cases a
  · exact Nat.mul_one _
  · exact (by omega : 0 * 256 + r.val = r.val)
  · exact (by omega : 0 * 1024 + k.val = k.val)

theorem blk_1 (c : Dev nD) (t : Fin cfg0.N) (k : Fin 1024) :
    iblk m c 1 t (ix3 0 0 k : S1x1x1024.Idx) = V m c main_arg1 (ix3 ⟨t.val % 8, by omega⟩ 0 k : S8x1x1024.Idx) := by
  blk_simp [iblk]
  refine congrArg (V m c main_arg1) (funext fun a => Fin.ext ?_)
  blk_simp [ix_1]
  fin_cases a
  · exact Nat.mul_one _
  · rfl
  · exact (by omega : 0 * 1024 + k.val = k.val)

theorem blk_2 (c : Dev nD) (t : Fin cfg0.N) (k : Fin 1024) :
    iblk m c 2 t (ix3 0 0 k : S1x1x1024.Idx) = V m c main_arg2 (ix3 ⟨t.val % 8, by omega⟩ 0 k : S8x1x1024.Idx) := by
  blk_simp [iblk]
  refine congrArg (V m c main_arg2) (funext fun a => Fin.ext ?_)
  blk_simp [ix_2]
  fin_cases a
  · exact Nat.mul_one _
  · rfl
  · exact (by omega : 0 * 1024 + k.val = k.val)

theorem blk_3 (c : Dev nD) (t : Fin cfg0.N) (k : Fin 1024) :
    iblk m c 3 t (ix2 0 k : S1x1024.Idx) = V m c main_v1 (ix2 0 k : S1x1024.Idx) := by
  blk_simp [iblk]
  refine congrArg (V m c main_v1) (funext fun a => Fin.ext ?_)
  blk_simp [ix_3]
  fin_cases a
  · rfl
  · exact (by omega : 0 * 1024 + k.val = k.val)

theorem blk_4 (c : Dev nD) (t : Fin cfg0.N) (r : Fin 1024) (k : Fin 1536) :
    iblk m c 4 t (ix2 r k : S1024x1536.Idx) = V m c main_v4 (ix2 r k : S1024x1536.Idx) := by
  blk_simp [iblk]
  refine congrArg (V m c main_v4) (funext fun a => Fin.ext ?_)
  blk_simp [ix_4]
  fin_cases a
  · exact (by omega : 0 * 1024 + r.val = r.val)
  · exact (by omega : 0 * 1536 + k.val = k.val)

theorem emb_5 (t : Fin cfg0.N) (r : Fin 256) (k : Fin 1536) :
    ((cfg0.win 5).blk t).view.emb (ix3 0 r k : S1x256x1536.Idx) = (ix3 ⟨t.val % 8, by omega⟩ r k : S8x256x1536.Idx) := by
  refine funext fun a => Fin.ext ?_
  blk_simp [ix_5]
  fin_cases a
  · exact Nat.mul_one _
  · exact (by omega : 0 * 256 + r.val = r.val)
  · exact (by omega : 0 * 1536 + k.val = k.val)

theorem gain_at (c : Dev nD) (k : Fin 1024) : V m c main_v1 (ix2 0 k : S1x1024.Idx) = m ((c.tc : Thread nD τ).loc main_arg3) (ix2 0 k : S1x1024.Idx) := by
  have e (g : FVec Ideal S1x1024 .f32) : broadcastInDim S1x1024 ![1] bcast_S1024_S1x1024_1 (shapeCast S1024 g shapeCasts_S1x1024_S1024) (ix2 0 k) = g (ix2 0 k) := by
    pointwise
  have h : V m c main_v1 = broadcastInDim S1x1024 ![1] bcast_S1024_S1x1024_1 (shapeCast S1024 (m ((c.tc : Thread nD τ).loc main_arg3) : FVec Ideal S1x1024 .f32) shapeCasts_S1x1024_S1024) := by
    unfold V; simp only [hostOps0, List.flatten_cons, List.flatten_nil, List.append_nil, List.cons_append, List.nil_append]; after_reads_simp
    rfl
  rw [h]
  exact e _

theorem weight_at (c : Dev nD) (r : Fin 1024) (k : Fin 1536) :
    V m c main_v4 (ix2 r k : S1024x1536.Idx) = m ((c.tc : Thread nD τ).loc main_arg4) (ix3 0 r ⟨512 + k.val, by omega⟩ : S1x1024x5120.Idx) := by
  have e (w : FVec Ideal S1x1024x5120 .f32) :
      extractStridedSlice S1024x1536 ![0, 512] (truncf .bf16 (shapeCast S1024x5120 w shapeCasts_S1x1024x5120_S1024x5120) bitsLt_bf16_f32 : FVec Ideal S1024x5120 .bf16) slices_S1024x5120_S1024x1536_0_512 (ix2 r k)
        = w (ix3 0 r ⟨512 + k.val, by omega⟩) := by
    pointwise
  have h : V m c main_v4 = extractStridedSlice S1024x1536 ![0, 512] (truncf .bf16 (shapeCast S1024x5120 (m ((c.tc : Thread nD τ).loc main_arg4) : FVec Ideal S1x1024x5120 .f32) shapeCasts_S1x1024x5120_S1024x5120) bitsLt_bf16_f32 : FVec Ideal S1024x5120 .bf16) slices_S1024x5120_S1024x1536_0_512 := by
    unfold V; simp only [hostOps0, List.flatten_cons, List.flatten_nil, List.append_nil, List.cons_append, List.nil_append]; after_reads_simp
    rfl
  rw [h]
  exact e _

/-! ## The output -/

/-- The projection of every normalized row. -/
def proj (x : FVec Ideal S8x256x1024 .f32) (sh sc : FVec Ideal S8x1x1024 .f32) (g : FVec Ideal S1x1024 .f32) (w : FVec Ideal S1x1024x5120 .f32)
    (b : Fin 8) (t : Fin 256) (j : Fin 1536) : EReal :=
  ∑ k : Fin 1024, un (fun k => x (ix3 b t k)) (fun k => g (ix2 0 k)) (fun k => sc (ix3 b 0 k)) (fun k => sh (ix3 b 0 k)) k * w (ix3 0 k ⟨512 + j.val, by omega⟩)

/-- The same as an array. -/
def projA (x : FVec Ideal S8x256x1024 .f32) (sh sc : FVec Ideal S8x1x1024 .f32) (g : FVec Ideal S1x1024 .f32) (w : FVec Ideal S1x1024x5120 .f32) : FVec Ideal S8x256x1536 .f32 :=
  fun i => proj x sh sc g w (i 0) (i 1) (i 2)

/-- A product of normalized rows and of the weights is the projection of the rows. -/
theorem prd_at (u : Vec Ideal S256x1024 .bf16) (w' : Vec Ideal S1024x1536 .bf16)
    (x : FVec Ideal S8x256x1024 .f32) (sh sc : FVec Ideal S8x1x1024 .f32) (g : FVec Ideal S1x1024 .f32) (w : FVec Ideal S1x1024x5120 .f32)
    (r : Fin 256) (b : Fin 8) (t : Fin 256) (j : Fin 1536)
    (hu : ∀ i, u (ix2 r i) = un (fun k => x (ix3 b t k)) (fun k => g (ix2 0 k)) (fun k => sc (ix3 b 0 k)) (fun k => sh (ix3 b 0 k)) i)
    (hw : ∀ i, w' (ix2 i j) = w (ix3 0 i ⟨512 + j.val, by omega⟩)) : prd u w' (ix3 0 r j) = projA x sh sc g w (ix3 b t j) :=
  Finset.sum_congr rfl fun i _ => congrArg₂ (· * ·) (hu i) (hw i)

/-- The kernel's output, of the launch's arguments. -/
def kz (c : Dev nD) : FVec Ideal S8x256x1536 .f32 :=
  projA (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What a grid point writes: its rows of the projection. -/
theorem blkZ (c : Dev nD) (t : Fin cfg0.N) (r : Fin 256) (k : Fin 1536) :
    (dats m 0 c).after 5 t (ix3 0 r k : S1x256x1536.Idx) = kz m c (ix3 ⟨t.val % 8, by omega⟩ r k) := by
  rw [after0_5, out_eq]
  refine prd_at _ _ _ _ _ _ _ _ _ _ _ (fun i => ?_) fun i => (blk_4 m c t i k).trans (weight_at m c i k)
  exact rows_at (iblk m c 0 t) (iblk m c 1 t) (iblk m c 2 t) (iblk m c 3 t) (iblk m c 4 t) _ _ _ _ r i
    (fun k => (blk_0 m c t r k).trans (congrFun (V_main_arg0 m c) _)) (fun k => (blk_3 m c t k).trans (gain_at m c k))
    (fun k => (blk_2 m c t k).trans (congrFun (V_main_arg2 m c) _)) (fun k => (blk_1 m c t k).trans (congrFun (V_main_arg1 m c) _))

/-- The output array is the projection. -/
theorem outZ (c : Dev nD) : (dats m 0 c).arrAt 5 cfg0.N = kz m c := by
  refine (dats m 0 c).arrAt_eq_of_covers 5 _ (by decide +kernel) fun t hf y => ?_
  have e : y = (ix3 0 (y 1) (y 2) : S1x256x1536.Idx) := funext fun a => by
    fin_cases a
    · exact Subsingleton.elim (α := Fin 1) _ _
    · rfl
    · rfl
  refine (congrArg ((dats m 0 c).after 5 t) e).trans ((blkZ m c t (y 1) (y 2)).trans (congrArg (kz m c) ?_))
  exact (emb_5 t (y 1) (y 2)).symm.trans (congrArg ((cfg0.win 5).blk t).view.emb e.symm)

end Cert.Kernel4Ideal.Ctx

end
-- ==== Proof.CtxAlg.lean ====
/- The context projection's kernel and its reference compute the same array; and the frames of its three programs. -/
module

public import proofs.«01_k».proof.Defs
public import proofs.«01_k».proof.Proof.CtxKer
public import proofs.«01_k».proof.Proof.Gen.Kernel4.Frame
public import proofs.«01_k».proof.Proof.Gen.Reference4Ideal.Run
public import Idealize.ShloMosaic.Lib.Claim

@[expose] public section

noncomputable section

namespace Cert.CtxAlg

open Idealize.ShloMosaic Idealize.ShloMosaic.TcCoe Idealize.SL.Sem

set_option maxRecDepth 16384

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal Cert.Reference4Ideal.Gen in
/-- The reference's term, at an index. -/
theorem ref_at (x : FVec Ideal S8x256x1024 .f32) (sh sc : FVec Ideal S8x1x1024 .f32) (g : FVec Ideal S1x1024 .f32) (w : FVec Ideal S1x1024x5120 .f32)
    (b : Fin 8) (t : Fin 256) (j : Fin 1536) :
    Host.dotGeneral dot_S8x256x1024_S1024x1536_S8x256x1536_2_0_01_1_n_n none (addf (mulf (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ g shapeCasts_S1x1024_S1024)))) (broadcastInDim S8x256x1024 ![0, 1, 2] bcast_S8x1x1024_S8x256x1024_0_1_2 (addf (broadcastInDim S8x1x1024 ![] bcast_S_S8x1x1024 (constant S_ .f32 0x3F800000#32)) sc))) (broadcastInDim S8x256x1024 ![0, 1, 2] bcast_S8x1x1024_S8x256x1024_0_1_2 sh)) (extractStridedSlice S1024x1536 ![0, 512] (shapeCast _ w shapeCasts_S1x1024x5120_S1024x5120) slices_S1024x5120_S1024x1536_0_512) (ix3 b t j)
      = Cert.Kernel4Ideal.Ctx.proj x sh sc g w b t j := by
  unfold Cert.Kernel4Ideal.Ctx.proj Cert.Kernel4Ideal.Ctx.un
  pointwise

theorem algebraic : Cert.algebraic_Kernel4Ideal_Reference4Ideal := fun m g m' g' _ hag => by
  refine ⟨Cert.Kernel4Ideal.Ctx.kz m, ?_, ?_⟩
  · refine (θ_run _ _ _).mono (fun r h c => ?_) (Cert.Kernel4Ideal.Value.run_blocks (F := Ideal) m g)
    exact ⟨(h c).1.trans (Cert.Kernel4Ideal.Ctx.outZ m c), (h c).2⟩
  · refine (θ_run _ _ _).mono (fun r h c => ?_) (Cert.Reference4Ideal.Value.run (F := Ideal) m' g')
    refine ⟨(h c).1.trans ?_, (h c).2⟩
    rw [(hag c).1, (hag c).2.1, (hag c).2.2.1, (hag c).2.2.2.1, (hag c).2.2.2.2]
    funext i
    have e : i = (ix3 (i 0) (i 1) (i 2) : Cert.Reference4Ideal.S8x256x1536.Idx) := funext fun a => by fin_cases a <;> rfl
    rw [e]
    exact ref_at _ _ _ _ _ (i 0) (i 1) (i 2)

end Cert.CtxAlg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Frames
public import proofs.«01_k».proof.Proof.Alg
public import proofs.«01_k».proof.Proof.NormAlg
public import proofs.«01_k».proof.Proof.MergeAlg
public import proofs.«01_k».proof.Proof.CtxAlg

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Frames.preFacts,
  Cert.Frames.frame_p, Cert.Frames.frame_pi, Cert.Frames.frame_pi_pre, Cert.Frames.frame_ri, Cert.Frames.frame_ri_pre,
  Cert.NormAlg.frame_p, Cert.NormAlg.frame_pi, Cert.NormAlg.frame_ri,
  Cert.MergeAlg.frame_p, Cert.MergeAlg.frame_pi, Cert.MergeAlg.frame_ri,
  Cert.CtxAlg.frame_p, Cert.CtxAlg.frame_pi, Cert.CtxAlg.frame_ri,
  trivial, Cert.Alg.algebraic, trivial, Cert.NormAlg.algebraic, trivial, Cert.MergeAlg.algebraic, trivial, Cert.CtxAlg.algebraic⟩

end Cert.Proof

end
